-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S26112x2048 : Shape := ⟨2, ![26112, 2048]⟩
abbrev S26112x512 : Shape := ⟨2, ![26112, 512]⟩
abbrev S16 : Shape := ⟨1, ![16]⟩
abbrev S_ : Shape := ⟨0, ![]⟩

class Facts : Prop where
  bcast_S_S26112x2048 : S_.BroadcastsInDim S26112x2048 (![] : Fin 0 → Fin S26112x2048.rank)
  bcast_S_S26112x512 : S_.BroadcastsInDim S26112x512 (![] : Fin 0 → Fin S26112x512.rank)
  bcast_S_S16 : S_.BroadcastsInDim S16 (![] : Fin 0 → Fin S16.rank)

variable [Facts]

def fn {F : FTy → Type} [FloatOps F] (main_arg0 : FVec F S26112x2048 .f32) (main_arg1 : FVec F S26112x512 .f32) (main_arg2 : FVec F S26112x512 .f32) (main_arg3 : FVec F S26112x2048 .f32) (main_arg4 : FVec F S16 .f32) : IVec S26112x2048 1 × IVec S26112x512 1 × IVec S16 1 :=
  let main_v0 : FVec F S26112x2048 .f32 := Host.absf main_arg0
  let main_cst : FVec F S_ .f32 := constant S_ .f32 0x7F800000#32
  let main_v1 : FVec F S26112x2048 .f32 := broadcastInDim S26112x2048 ![] bcast_S_S26112x2048 main_cst
  let main_v2 : IVec S26112x2048 1 := cmpf .olt main_v0 main_v1
  let main_v3 : FVec F S26112x512 .f32 := Host.absf main_arg1
  let main_cst_0 : FVec F S_ .f32 := constant S_ .f32 0x7F800000#32
  let main_v4 : FVec F S26112x512 .f32 := broadcastInDim S26112x512 ![] bcast_S_S26112x512 main_cst_0
  let main_v5 : IVec S26112x512 1 := cmpf .olt main_v3 main_v4
  let main_v6 : FVec F S16 .f32 := Host.absf main_arg4
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S26112x2048 : Shape := ⟨2, ![26112, 2048]⟩
abbrev S26112x512 : Shape := ⟨2, ![26112, 512]⟩
abbrev S16 : Shape := ⟨1, ![16]⟩
abbrev S204 : Shape := ⟨1, ![204]⟩
abbrev S5 : Shape := ⟨1, ![5]⟩
abbrev S_ : Shape := ⟨0, ![]⟩
abbrev S26112x5120 : Shape := ⟨2, ![26112, 5120]⟩
abbrev S5x1x1 : Shape := ⟨3, ![5, 1, 1]⟩
abbrev S5x400x128 : Shape := ⟨3, ![5, 400, 128]⟩
abbrev S512x4096 : Shape := ⟨2, ![512, 4096]⟩
abbrev S512x1024 : Shape := ⟨2, ![512, 1024]⟩
abbrev S1x400x128 : Shape := ⟨3, ![1, 400, 128]⟩
abbrev S1 : Shape := ⟨1, ![1]⟩
abbrev S128x1024 : Shape := ⟨2, ![128, 1024]⟩
abbrev S16x1024 : Shape := ⟨2, ![16, 1024]⟩
abbrev S512x2048 : Shape := ⟨2, ![512, 2048]⟩
abbrev S128x128 : Shape := ⟨2, ![128, 128]⟩
abbrev S512x128 : Shape := ⟨2, ![512, 128]⟩
abbrev S16x128 : Shape := ⟨2, ![16, 128]⟩
abbrev S400x128 : Shape := ⟨2, ![400, 128]⟩
abbrev S400x512 : Shape := ⟨2, ![400, 512]⟩
abbrev S5x80x128 : Shape := ⟨3, ![5, 80, 128]⟩
abbrev S80x128 : Shape := ⟨2, ![80, 128]⟩
abbrev S128 : Shape := ⟨1, ![128]⟩
abbrev S1x128 : Shape := ⟨2, ![1, 128]⟩
abbrev S128x512 : Shape := ⟨2, ![128, 512]⟩
abbrev S1x512 : Shape := ⟨2, ![1, 512]⟩

abbrev nBuf : Space → Nat
  | .hbm => 78
  | .vmem => 38
  | .smem => 5
  | _ => 0

abbrev bufTy : (tb : Table) → Fin (tcTables nBuf tb) → BufTy
  | .hbm, ⟨0, _⟩ => ⟨S26112x2048, .f32⟩
  | .hbm, ⟨1, _⟩ => ⟨S26112x512, .f32⟩
  | .hbm, ⟨2, _⟩ => ⟨S26112x512, .f32⟩
  | .hbm, ⟨3, _⟩ => ⟨S26112x2048, .f32⟩
  | .hbm, ⟨4, _⟩ => ⟨S16, .f32⟩
  | .hbm, ⟨5, _⟩ => ⟨S5, .i32⟩
  | .hbm, ⟨6, _⟩ => ⟨S5, .i32⟩
  | .hbm, ⟨7, _⟩ => ⟨S_, .f32⟩
  | .hbm, ⟨8, _⟩ => ⟨S26112x2048, .f32⟩
  | .hbm, ⟨9, _⟩ => ⟨S26112x2048, .f32⟩
  | .hbm, ⟨10, _⟩ => ⟨S_, .f32⟩
  | .hbm, ⟨11, _⟩ => ⟨S_, .f32⟩
  | .hbm, ⟨12, _⟩ => ⟨S26112x2048, .f32⟩
  | .hbm, ⟨13, _⟩ => ⟨S26112x2048, .f32⟩
  | .hbm, ⟨14, _⟩ => ⟨S26112x2048, .f32⟩
  | .hbm, ⟨15, _⟩ => ⟨S26112x2048, .f32⟩
  | .hbm, ⟨16, _⟩ => ⟨S_, .f32⟩
  | .hbm, ⟨17, _⟩ => ⟨S26112x2048, .f32⟩
  | .hbm, ⟨18, _⟩ => ⟨S26112x2048, .f32⟩
  | .hbm, ⟨19, _⟩ => ⟨S_, .f32⟩
  | .hbm, ⟨20, _⟩ => ⟨S26112x2048, .f32⟩
  | .hbm, ⟨21, _⟩ => ⟨S26112x2048, .f32⟩
  | .hbm, ⟨22, _⟩ => ⟨S26112x2048, .f32⟩
  | .hbm, ⟨23, _⟩ => ⟨S26112x5120, .f32⟩
  | .hbm, ⟨24, _⟩ => ⟨S26112x5120, .bf16⟩
  | .hbm, ⟨25, _⟩ => ⟨S5x1x1, .i32⟩
  | .hbm, ⟨26, _⟩ => ⟨S5x1x1, .i32⟩
  | .hbm, ⟨27, _⟩ => ⟨S5x400x128, .i32⟩
  | .hbm, ⟨28, _⟩ => ⟨S5x400x128, .i32⟩
  | .hbm, ⟨29, _⟩ => ⟨S_, .i32⟩
  | .hbm, ⟨30, _⟩ => ⟨S5x1x1, .i32⟩
  | .hbm, ⟨31, _⟩ => ⟨S5x1x1, .i32⟩
  | .hbm, ⟨32, _⟩ => ⟨S5x400x128, .i32⟩
  | .hbm, ⟨33, _⟩ => ⟨S5x400x128, .i32⟩
  | .hbm, ⟨34, _⟩ => ⟨S_, .i32⟩
  | .hbm, ⟨35, _⟩ => ⟨S5x1x1, .i32⟩
  | .hbm, ⟨36, _⟩ => ⟨S5x1x1, .i32⟩
  | .hbm, ⟨37, _⟩ => ⟨S_, .i32⟩
  | .hbm, ⟨38, _⟩ => ⟨S5x1x1, .i32⟩
  | .hbm, ⟨39, _⟩ => ⟨S5x1x1, .i32⟩
  | .hbm, ⟨40, _⟩ => ⟨S5x400x128, .i32⟩
  | .hbm, ⟨41, _⟩ => ⟨S5x400x128, .i32⟩
  | .hbm, ⟨42, _⟩ => ⟨S_, .i32⟩
  | .hbm, ⟨43, _⟩ => ⟨S5x400x128, .i32⟩
  | .hbm, ⟨44, _⟩ => ⟨S5x400x128, .i1⟩
  | .hbm, ⟨45, _⟩ => ⟨S_, .i32⟩
  | .hbm, ⟨46, _⟩ => ⟨S5x1x1, .i32⟩
  | .hbm, ⟨47, _⟩ => ⟨S5x1x1, .i32⟩
  | .hbm, ⟨48, _⟩ => ⟨S5x400x128, .i32⟩
  | .hbm, ⟨49, _⟩ => ⟨S5x400x128, .i1⟩
  | .hbm, ⟨50, _⟩ => ⟨S5x400x128, .i1⟩
  | .hbm, ⟨51, _⟩ => ⟨S5x400x128, .i32⟩
  | .hbm, ⟨52, _⟩ => ⟨S5x400x128, .i32⟩
  | .hbm, ⟨53, _⟩ => ⟨S_, .i32⟩
  | .hbm, ⟨54, _⟩ => ⟨S5x400x128, .i32⟩
  | .hbm, ⟨55, _⟩ => ⟨S5x400x128, .i1⟩
  | .hbm, ⟨56, _⟩ => ⟨S5x400x128, .i1⟩
  | .hbm, ⟨57, _⟩ => ⟨S_, .i32⟩
  | .hbm, ⟨58, _⟩ => ⟨S5x400x128, .i32⟩
  | .hbm, ⟨59, _⟩ => ⟨S5x400x128, .i32⟩
  | .hbm, ⟨60, _⟩ => ⟨S_, .i32⟩
  | .hbm, ⟨61, _⟩ => ⟨S5x400x128, .i32⟩
  | .hbm, ⟨62, _⟩ => ⟨S5x400x128, .i32⟩
  | .hbm, ⟨63, _⟩ => ⟨S5x400x128, .i32⟩
  | .hbm, ⟨64, _⟩ => ⟨S5x400x128, .i32⟩
  | .hbm, ⟨65, _⟩ => ⟨S_, .i32⟩
  | .hbm, ⟨66, _⟩ => ⟨S5x400x128, .i32⟩
  | .hbm, ⟨67, _⟩ => ⟨S5x400x128, .i1⟩
  | .hbm, ⟨68, _⟩ => ⟨S_, .i32⟩
  | .hbm, ⟨69, _⟩ => ⟨S5x400x128, .i32⟩
  | .hbm, ⟨70, _⟩ => ⟨S5x400x128, .i1⟩
  | .hbm, ⟨71, _⟩ => ⟨S5x400x128, .i1⟩
  | .hbm, ⟨72, _⟩ => ⟨S_, .f32⟩
  | .hbm, ⟨73, _⟩ => ⟨S_, .f32⟩
  | .hbm, ⟨74, _⟩ => ⟨S5x400x128, .f32⟩
  | .hbm, ⟨75, _⟩ => ⟨S5x400x128, .f32⟩
  | .hbm, ⟨76, _⟩ => ⟨S5x400x128, .f32⟩
  | .hbm, ⟨77, _⟩ => ⟨S26112x2048, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S1x400x128, .f32⟩
  | .local _ .vmem, ⟨5, _⟩ => ⟨S1x400x128, .f32⟩
  | .local _ .vmem, ⟨6, _⟩ => ⟨S1x400x128, .f32⟩
  | .local _ .vmem, ⟨7, _⟩ => ⟨S1x400x128, .f32⟩
  | .local _ .vmem, ⟨8, _⟩ => ⟨S1x400x128, .f32⟩
  | .local _ .vmem, ⟨9, _⟩ => ⟨S1x400x128, .f32⟩
  | .local _ .vmem, ⟨10, _⟩ => ⟨S1x400x128, .f32⟩
  | .local _ .vmem, ⟨11, _⟩ => ⟨S1x400x128, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S16x1024, .bf16⟩
  | .local _ .vmem, ⟨17, _⟩ => ⟨S16x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S16x1024, .bf16⟩
  | .local _ .vmem, ⟨23, _⟩ => ⟨S16x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S16x1024, .bf16⟩
  | .local _ .vmem, ⟨29, _⟩ => ⟨S16x1024, .bf16⟩
  | .local _ .vmem, ⟨30, _⟩ => ⟨S128x1024, .bf16⟩
  | .local _ .vmem, ⟨31, _⟩ => ⟨S128x1024, .bf16⟩
  | .local _ .vmem, ⟨32, _⟩ => ⟨S128x1024, .bf16⟩
  | .local _ .vmem, ⟨33, _⟩ => ⟨S128x1024, .bf16⟩
  | .local _ .vmem, ⟨34, _⟩ => ⟨S16x1024, .bf16⟩
  | .local _ .vmem, ⟨35, _⟩ => ⟨S16x1024, .bf16⟩
  | .local _ .vmem, ⟨36, _⟩ => ⟨S512x2048, .bf16⟩
  | .local _ .vmem, ⟨37, _⟩ => ⟨S512x2048, .bf16⟩
  | .local _ .smem, ⟨0, _⟩ => ⟨S204, .i32⟩
  | .local _ .smem, ⟨1, _⟩ => ⟨S204, .i32⟩
  | .local _ .smem, ⟨2, _⟩ => ⟨S204, .i32⟩
  | .local _ .smem, ⟨3, _⟩ => ⟨S204, .i32⟩
  | .local _ .smem, ⟨4, _⟩ => ⟨S16, .f32⟩
  | _, _ => ⟨S26112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨4, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c_3 : Ref sig .tc := ⟨.hbm, 5, rfl⟩
abbrev main_c_4 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_6 : Ref sig .tc := ⟨.hbm, 16, rfl⟩
abbrev main_v7 : Ref sig .tc := ⟨.hbm, 17, rfl⟩
abbrev main_v8 : Ref sig .tc := ⟨.hbm, 18, rfl⟩
abbrev main_cst_7 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_8 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_9 : Ref sig .tc := ⟨.hbm, 34, rfl⟩
abbrev main_v22 : Ref sig .tc := ⟨.hbm, 35, rfl⟩
abbrev main_v23 : Ref sig .tc := ⟨.hbm, 36, rfl⟩
abbrev main_c_10 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_11 : Ref sig .tc := ⟨.hbm, 42, rfl⟩
abbrev main_v28 : Ref sig .tc := ⟨.hbm, 43, rfl⟩
abbrev main_v29 : Ref sig .tc := ⟨.hbm, 44, rfl⟩
abbrev main_c_12 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_13 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_14 : Ref sig .tc := ⟨.hbm, 57, rfl⟩
abbrev main_v40 : Ref sig .tc := ⟨.hbm, 58, rfl⟩
abbrev main_v41 : Ref sig .tc := ⟨.hbm, 59, rfl⟩
abbrev main_c_15 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_16 : Ref sig .tc := ⟨.hbm, 65, rfl⟩
abbrev main_v46 : Ref sig .tc := ⟨.hbm, 66, rfl⟩
abbrev main_v47 : Ref sig .tc := ⟨.hbm, 67, rfl⟩
abbrev main_c_17 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_18 : Ref sig .tc := ⟨.hbm, 72, rfl⟩
abbrev main_cst_19 : Ref sig .tc := ⟨.hbm, 73, rfl⟩
abbrev main_call1_v0 : Ref sig .tc := ⟨.hbm, 74, rfl⟩
abbrev main_call1_v1 : Ref sig .tc := ⟨.hbm, 75, rfl⟩
abbrev main_v51 : Ref sig .tc := ⟨.hbm, 76, rfl⟩
abbrev main_v52 : Ref sig .tc := ⟨.hbm, 77, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨1, ![51], ![false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) (c0_i32 : BitVec 32) : Fin 1 → Nat :=
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![v2.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 3 (Rect.unit (s := S204) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 3 (Rect.unit (s := S204) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 3 (Rect.unit (s := S204) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 3 (Rect.unit (s := S204) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S204) ![v2.toNat] S1.size (k0_off1_inb i 0)) numel1_S1
  let c4_i32_0 : BitVec 32 := 4#32
  let c0_i32_1 : BitVec 32 := 0#32
  ![v3.toNat, c4_i32_0.toNat]

def cc0_transform_8 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 1 (Rect.unit (s := S204) ![v2.toNat] S1.size (k0_off1_inb i 0)) numel1_S1
  let c4_i32_0 : BitVec 32 := 4#32
  let c0_i32_1 : BitVec 32 := 0#32
  ![v3.toNat, c4_i32_0.toNat]

def cc0_transform_9 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 2 (Rect.unit (s := S204) ![v2.toNat] S1.size (k0_off1_inb i 0)) numel1_S1
  let c8_i32 : BitVec 32 := 8#32
  let v4 : BitVec 32 := Scalar.muli v3 c8_i32
  let c7_i32 : BitVec 32 := 7#32
  let v5 : BitVec 32 := Scalar.addi v4 c7_i32
  let c4_i32_0 : BitVec 32 := 4#32
  let c0_i32_1 : BitVec 32 := 0#32
  ![v5.toNat, c4_i32_0.toNat]

def cc0_transform_10 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S204) ![v2.toNat] S1.size (k0_off1_inb i 1)) numel1_S1
  let c4_i32_0 : BitVec 32 := 4#32
  let c0_i32 : BitVec 32 := 0#32
  ![v3.toNat, c4_i32_0.toNat]

def cc0_transform_11 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 1 (Rect.unit (s := S204) ![v2.toNat] S1.size (k0_off1_inb i 1)) numel1_S1
  let c4_i32_0 : BitVec 32 := 4#32
  let c0_i32 : BitVec 32 := 0#32
  ![v3.toNat, c4_i32_0.toNat]

def cc0_transform_12 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 2 (Rect.unit (s := S204) ![v2.toNat] S1.size (k0_off1_inb i 1)) numel1_S1
  let c8_i32 : BitVec 32 := 8#32
  let v4 : BitVec 32 := Scalar.muli v3 c8_i32
  let c7_i32 : BitVec 32 := 7#32
  let v5 : BitVec 32 := Scalar.addi v4 c7_i32
  let c4_i32_0 : BitVec 32 := 4#32
  let c0_i32 : BitVec 32 := 0#32
  ![v5.toNat, c4_i32_0.toNat]

def cc0_transform_13 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S204) ![v2.toNat] S1.size (k0_off1_inb i 2)) numel1_S1
  let c4_i32_0 : BitVec 32 := 4#32
  let c0_i32 : BitVec 32 := 0#32
  ![v3.toNat, c4_i32_0.toNat]

def cc0_transform_14 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 1 (Rect.unit (s := S204) ![v2.toNat] S1.size (k0_off1_inb i 2)) numel1_S1
  let c4_i32_0 : BitVec 32 := 4#32
  let c0_i32 : BitVec 32 := 0#32
  ![v3.toNat, c4_i32_0.toNat]

def cc0_transform_15 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 2 (Rect.unit (s := S204) ![v2.toNat] S1.size (k0_off1_inb i 2)) numel1_S1
  let c8_i32 : BitVec 32 := 8#32
  let v4 : BitVec 32 := Scalar.muli v3 c8_i32
  let c7_i32 : BitVec 32 := 7#32
  let v5 : BitVec 32 := Scalar.addi v4 c7_i32
  let c4_i32_0 : BitVec 32 := 4#32
  let c0_i32 : BitVec 32 := 0#32
  ![v5.toNat, c4_i32_0.toNat]

def cc0_transform_16 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S204) ![v2.toNat] S1.size (k0_off1_inb i 3)) numel1_S1
  let c4_i32_0 : BitVec 32 := 4#32
  let c0_i32 : BitVec 32 := 0#32
  ![v3.toNat, c4_i32_0.toNat]

def cc0_transform_17 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 1 (Rect.unit (s := S204) ![v2.toNat] S1.size (k0_off1_inb i 3)) numel1_S1
  let c4_i32_0 : BitVec 32 := 4#32
  let c0_i32 : BitVec 32 := 0#32
  ![v3.toNat, c4_i32_0.toNat]

def cc0_transform_18 (k0_off1_inb : ∀ i : grid0.Coords, ∀ (r : Fin 4), ∀ a, (k0_off1 i (BitVec.ofNat 32 r.val)) a + S1.size a ≤ S204.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 2 (Rect.unit (s := S204) ![v2.toNat] S1.size (k0_off1_inb i 3)) numel1_S1
  let c8_i32 : BitVec 32 := 8#32
  let v4 : BitVec 32 := Scalar.muli v3 c8_i32
  let c7_i32 : BitVec 32 := 7#32
  let v5 : BitVec 32 := Scalar.addi v4 c7_i32
  let c4_i32_0 : BitVec 32 := 4#32
  let c0_i32 : BitVec 32 := 0#32
  ![v5.toNat, c4_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S26112x2048 : Shape := ⟨2, ![26112, 2048]⟩
abbrev S26112x512 : Shape := ⟨2, ![26112, 512]⟩
abbrev S16 : Shape := ⟨1, ![16]⟩
abbrev S26112 : Shape := ⟨1, ![26112]⟩
abbrev S_ : Shape := ⟨0, ![]⟩
abbrev S26112x1 : Shape := ⟨2, ![26112, 1]⟩
abbrev S1x26112 : Shape := ⟨2, ![1, 26112]⟩
abbrev S26112x26112 : Shape := ⟨2, ![26112, 26112]⟩
abbrev S26112x4x4x128 : Shape := ⟨4, ![26112, 4, 4, 128]⟩
abbrev S26112x4x128 : Shape := ⟨3, ![26112, 4, 128]⟩
abbrev S4x26112x26112x4 : Shape := ⟨4, ![4, 26112, 26112, 4]⟩
abbrev S4x4x26112x26112 : Shape := ⟨4, ![4, 4, 26112, 26112]⟩
abbrev S1x1x26112x26112 : Shape := ⟨4, ![1, 1, 26112, 26112]⟩
abbrev S4x4x1x1 : Shape := ⟨4, ![4, 4, 1, 1]⟩
abbrev S4x4x26112 : Shape := ⟨3, ![4, 4, 26112]⟩
abbrev S4x4x26112x1 : Shape := ⟨4, ![4, 4, 26112, 1]⟩
abbrev S4x128x4x26112 : Shape := ⟨4, ![4, 128, 4, 26112]⟩

abbrev nBuf : Space → Nat
  | .hbm => 133
  | .vmem => 0
  | .smem => 0
  | _ => 0

abbrev hbmTy0_0 (i : Nat) : BufTy := match i % 128 with
  | 0 => ⟨S26112x2048, .f32⟩
  | 1 => ⟨S26112x512, .f32⟩
  | 2 => ⟨S26112x512, .f32⟩
  | 3 => ⟨S26112x2048, .f32⟩
  | 4 => ⟨S16, .f32⟩
  | 5 => ⟨S26112, .i32⟩
  | 6 => ⟨S_, .i32⟩
  | 7 => ⟨S26112, .i32⟩
  | 8 => ⟨S26112, .i1⟩
  | 9 => ⟨S_, .i32⟩
  | 10 => ⟨S26112, .i32⟩
  | 11 => ⟨S26112, .i32⟩
  | 12 => ⟨S_, .i32⟩
  | 13 => ⟨S26112, .i32⟩
  | 14 => ⟨S26112, .i32⟩
  | 15 => ⟨S_, .i32⟩
  | 16 => ⟨S26112, .i32⟩
  | 17 => ⟨S26112, .i1⟩
  | 18 => ⟨S_, .i32⟩
  | 19 => ⟨S26112, .i32⟩
  | 20 => ⟨S26112, .i32⟩
  | 21 => ⟨S_, .i32⟩
  | 22 => ⟨S26112, .i32⟩
  | 23 => ⟨S26112, .i32⟩
  | 24 => ⟨S_, .i32⟩
  | 25 => ⟨S26112, .i32⟩
  | 26 => ⟨S26112, .i32⟩
  | 27 => ⟨S_, .i32⟩
  | 28 => ⟨S_, .i32⟩
  | 29 => ⟨S26112, .i32⟩
  | 30 => ⟨S26112, .i32⟩
  | 31 => ⟨S26112, .i32⟩
  | 32 => ⟨S_, .i32⟩
  | 33 => ⟨S26112, .i32⟩
  | 34 => ⟨S26112, .i1⟩
  | 35 => ⟨S_, .i32⟩
  | 36 => ⟨S26112, .i32⟩
  | 37 => ⟨S26112, .i32⟩
  | 38 => ⟨S_, .i32⟩
  | 39 => ⟨S26112, .i32⟩
  | 40 => ⟨S26112, .i32⟩
  | 41 => ⟨S_, .i32⟩
  | 42 => ⟨S_, .i32⟩
  | 43 => ⟨S26112, .i32⟩
  | 44 => ⟨S26112, .i32⟩
  | 45 => ⟨S_, .i32⟩
  | 46 => ⟨S26112, .i32⟩
  | 47 => ⟨S26112, .i32⟩
  | 48 => ⟨S_, .i32⟩
  | 49 => ⟨S26112, .i32⟩
  | 50 => ⟨S26112, .i32⟩
  | 51 => ⟨S26112, .i32⟩
  | 52 => ⟨S_, .i32⟩
  | 53 => ⟨S26112, .i32⟩
  | 54 => ⟨S26112, .i32⟩
  | 55 => ⟨S26112, .i32⟩
  | 56 => ⟨S_, .i32⟩
  | 57 => ⟨S26112, .i32⟩
  | 58 => ⟨S26112, .i32⟩
  | 59 => ⟨S26112, .i32⟩
  | 60 => ⟨S26112x1, .i32⟩
  | 61 => ⟨S1x26112, .i32⟩
  | 62 => ⟨S26112x26112, .i32⟩
  | 63 => ⟨S26112x26112, .i32⟩
  | 64 => ⟨S26112x26112, .i32⟩
  | 65 => ⟨S26112x26112, .i32⟩
  | 66 => ⟨S_, .i32⟩
  | 67 => ⟨S26112x26112, .i32⟩
  | 68 => ⟨S26112x26112, .i1⟩
  | 69 => ⟨S1x26112, .i32⟩
  | 70 => ⟨S_, .i32⟩
  | 71 => ⟨S1x26112, .i32⟩
  | 72 => ⟨S1x26112, .i1⟩
  | 73 => ⟨S26112x1, .i32⟩
  | 74 => ⟨S1x26112, .i32⟩
  | 75 => ⟨S26112x26112, .i32⟩
  | 76 => ⟨S26112x26112, .i32⟩
  | 77 => ⟨S26112x26112, .i1⟩
  | 78 => ⟨S1x26112, .i32⟩
  | 79 => ⟨S_, .i32⟩
  | 80 => ⟨S1x26112, .i32⟩
  | 81 => ⟨S1x26112, .i1⟩
  | 82 => ⟨S26112x26112, .i1⟩
  | 83 => ⟨S26112x26112, .i1⟩
  | 84 => ⟨S26112x26112, .i1⟩
  | 85 => ⟨S26112x26112, .i1⟩
  | 86 => ⟨S26112x26112, .i1⟩
  | 87 => ⟨S26112x4x4x128, .f32⟩
  | 88 => ⟨S26112x4x128, .f32⟩
  | 89 => ⟨S26112x4x128, .f32⟩
  | 90 => ⟨S4x26112x26112x4, .f32⟩
  | 91 => ⟨S4x4x26112x26112, .f32⟩
  | 92 => ⟨S_, .f32⟩
  | 93 => ⟨S4x4x26112x26112, .f32⟩
  | 94 => ⟨S4x4x26112x26112, .f32⟩
  | 95 => ⟨S1x1x26112x26112, .i1⟩
  | 96 => ⟨S_, .f32⟩
  | 97 => ⟨S_, .f32⟩
  | 98 => ⟨S4x4x26112x26112, .i1⟩
  | 99 => ⟨S4x4x26112x26112, .f32⟩
  | 100 => ⟨S4x4x26112x26112, .f32⟩
  | 101 => ⟨S4x4x1x1, .f32⟩
  | 102 => ⟨S_, .f32⟩
  | 103 => ⟨S4x4x26112, .f32⟩
  | 104 => ⟨S4x4x26112x1, .f32⟩
  | 105 => ⟨S4x4x26112x1, .f32⟩
  | 106 => ⟨S4x4x26112x1, .f32⟩
  | 107 => ⟨S4x4x26112x26112, .f32⟩
  | 108 => ⟨S4x4x26112x26112, .f32⟩
  | 109 => ⟨S4x4x26112x26112, .f32⟩
  | 110 => ⟨S_, .f32⟩
  | 111 => ⟨S4x4x26112, .f32⟩
  | 112 => ⟨S4x4x26112x1, .f32⟩
  | 113 => ⟨S4x4x26112x1, .f32⟩
  | 114 => ⟨S4x4x26112x1, .f32⟩
  | 115 => ⟨S4x4x26112x1, .f32⟩
  | 116 => ⟨S4x4x26112x1, .f32⟩
  | 117 => ⟨S4x4x26112x26112, .f32⟩
  | 118 => ⟨S4x4x26112x26112, .f32⟩
  | 119 => ⟨S4x128x4x26112, .f32⟩
  | 120 => ⟨S26112x4x4x128, .f32⟩
  | 121 => ⟨S26112x2048, .f32⟩
  | 122 => ⟨S26112x2048, .f32⟩
  | 123 => ⟨S26112x2048, .f32⟩
  | 124 => ⟨S_, .f32⟩
  | 125 => ⟨S26112x2048, .f32⟩
  | 126 => ⟨S26112x2048, .f32⟩
  | 127 => ⟨S_, .f32⟩
  | _ => ⟨S26112x2048, .f32⟩

abbrev hbmTy0_1 (i : Nat) : BufTy := match i % 128 with
  | 0 => ⟨S26112x2048, .f32⟩
  | 1 => ⟨S26112x2048, .f32⟩
  | 2 => ⟨S26112x2048, .f32⟩
  | 3 => ⟨S26112x2048, .f32⟩
  | 4 => ⟨S26112x2048, .bf16⟩
  | _ => ⟨S26112x2048, .f32⟩

abbrev hbmTy (i : Nat) : BufTy := match i / 128 with
  | 0 => hbmTy0_0 i
  | 1 => hbmTy0_1 i
  | _ => ⟨S26112x2048, .f32⟩

abbrev bufTy : (tb : Table) → Fin (tcTables nBuf tb) → BufTy
  | .hbm, ⟨i, _⟩ => hbmTy i
  | _, _ => ⟨S26112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_c_7 : Ref sig .tc := ⟨.hbm, 32, rfl⟩
abbrev main_v17 : Ref sig .tc := ⟨.hbm, 33, rfl⟩
abbrev main_v18 : Ref sig .tc := ⟨.hbm, 34, rfl⟩
abbrev main_c_8 : Ref sig .tc := ⟨.hbm, 35, rfl⟩
abbrev main_v19 : Ref sig .tc := ⟨.hbm, 36, rfl⟩
abbrev main_v20 : Ref sig .tc := ⟨.hbm, 37, rfl⟩
abbrev main_c_9 : Ref sig .tc := ⟨.hbm, 38, rfl⟩
abbrev main_v21 : Ref sig .tc := ⟨.hbm, 39, rfl⟩
abbrev main_v22 : Ref sig .tc := ⟨.hbm, 40, rfl⟩
abbrev main_c_10 : Ref sig .tc := ⟨.hbm, 41, rfl⟩
abbrev main_call2_v0 : Ref sig .tc := ⟨.hbm, 42, rfl⟩
abbrev main_call2_v1 : Ref sig .tc := ⟨.hbm, 43, rfl⟩
abbrev main_v23 : Ref sig .tc := ⟨.hbm, 44, rfl⟩
abbrev main_c_11 : Ref sig .tc := ⟨.hbm, 45, rfl⟩
abbrev main_v24 : Ref sig .tc := ⟨.hbm, 46, rfl⟩
abbrev main_v25 : Ref sig .tc := ⟨.hbm, 47, rfl⟩
abbrev main_c_12 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_14 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_15 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_16 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_17 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call5_v0 : Ref sig .tc := ⟨.hbm, 122, rfl⟩
abbrev main_call5_v1 : Ref sig .tc := ⟨.hbm, 123, rfl⟩
abbrev main_call5_cst : Ref sig .tc := ⟨.hbm, 124, rfl⟩
abbrev main_call5_v2 : Ref sig .tc := ⟨.hbm, 125, rfl⟩
abbrev main_call5_v3 : Ref sig .tc := ⟨.hbm, 126, rfl⟩
abbrev main_call5_cst_0 : Ref sig .tc := ⟨.hbm, 127, rfl⟩
abbrev main_call5_v4 : Ref sig .tc := ⟨.hbm, 128, rfl⟩
abbrev main_call5_v5 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]
-- ==== Kernel2.lean ====
abbrev S26112x2048 : Shape := ⟨2, ![26112, 2048]⟩
abbrev S2048 : Shape := ⟨1, ![2048]⟩
abbrev S2x2048x8192 : Shape := ⟨3, ![2, 2048, 8192]⟩
abbrev S1x2048 : Shape := ⟨2, ![1, 2048]⟩
abbrev S256x2048 : Shape := ⟨2, ![256, 2048]⟩
abbrev S1x2048x8192 : Shape := ⟨3, ![1, 2048, 8192]⟩
abbrev S512x2048 : Shape := ⟨2, ![512, 2048]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 7
  | .vmem => 12
  | .smem => 0
  | _ => 0

abbrev bufTy : (tb : Table) → Fin (tcTables nBuf tb) → BufTy
  | .hbm, ⟨0, _⟩ => ⟨S26112x2048, .f32⟩
  | .hbm, ⟨1, _⟩ => ⟨S2048, .f32⟩
  | .hbm, ⟨2, _⟩ => ⟨S2x2048x8192, .f32⟩
  | .hbm, ⟨3, _⟩ => ⟨S1x2048, .f32⟩
  | .hbm, ⟨4, _⟩ => ⟨S2x2048x8192, .bf16⟩
  | .hbm, ⟨5, _⟩ => ⟨S26112x2048, .bf16⟩
  | .hbm, ⟨6, _⟩ => ⟨S26112x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048x8192, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S256x2048, .bf16⟩
  | .local _ .vmem, ⟨11, _⟩ => ⟨S256x2048, .bf16⟩
  | _, _ => ⟨S26112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![52], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.muli c2_i32 v0
  let c1_i32 : BitVec 32 := 1#32
  let v2 : BitVec 32 := Scalar.subi v1 c1_i32
  let c0_i32_0 : BitVec 32 := 0#32
  let c101_i32 : BitVec 32 := 101#32
  let v3 : BitVec 32 := Scalar.maxsi c0_i32_0 v2
  let v4 : BitVec 32 := Scalar.minsi c101_i32 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.muli c2_i32 v0
  let c101_i32 : BitVec 32 := 101#32
  let v2 : BitVec 32 := Scalar.minsi v1 c101_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S26112x2048 : Shape := ⟨2, ![26112, 2048]⟩
abbrev S2048 : Shape := ⟨1, ![2048]⟩
abbrev S2x2048x8192 : Shape := ⟨3, ![2, 2048, 8192]⟩
abbrev S26112 : Shape := ⟨1, ![26112]⟩
abbrev S_ : Shape := ⟨0, ![]⟩
abbrev S26112x1 : Shape := ⟨2, ![26112, 1]⟩
abbrev S1x2048 : Shape := ⟨2, ![1, 2048]⟩
abbrev S1x2048x8192 : Shape := ⟨3, ![1, 2048, 8192]⟩
abbrev S2048x8192 : Shape := ⟨2, ![2048, 8192]⟩
abbrev S26112x8192 : Shape := ⟨2, ![26112, 8192]⟩

abbrev nBuf : Space → Nat
  | .hbm => 75
  | .vmem => 0
  | .smem => 0
  | _ => 0

abbrev bufTy : (tb : Table) → Fin (tcTables nBuf tb) → BufTy
  | .hbm, ⟨0, _⟩ => ⟨S26112x2048, .f32⟩
  | .hbm, ⟨1, _⟩ => ⟨S2048, .f32⟩
  | .hbm, ⟨2, _⟩ => ⟨S2x2048x8192, .f32⟩
  | .hbm, ⟨3, _⟩ => ⟨S26112, .i32⟩
  | .hbm, ⟨4, _⟩ => ⟨S_, .i32⟩
  | .hbm, ⟨5, _⟩ => ⟨S26112, .i32⟩
  | .hbm, ⟨6, _⟩ => ⟨S26112, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S26112, .i32⟩
  | .hbm, ⟨14, _⟩ => ⟨S26112, .i32⟩
  | .hbm, ⟨15, _⟩ => ⟨S_, .i32⟩
  | .hbm, ⟨16, _⟩ => ⟨S26112, .i32⟩
  | .hbm, ⟨17, _⟩ => ⟨S26112, .i1⟩
  | .hbm, ⟨18, _⟩ => ⟨S_, .i32⟩
  | .hbm, ⟨19, _⟩ => ⟨S26112, .i32⟩
  | .hbm, ⟨20, _⟩ => ⟨S26112, .i1⟩
  | .hbm, ⟨21, _⟩ => ⟨S_, .i32⟩
  | .hbm, ⟨22, _⟩ => ⟨S_, .i1⟩
  | .hbm, ⟨23, _⟩ => ⟨S26112, .i1⟩
  | .hbm, ⟨24, _⟩ => ⟨S26112, .i1⟩
  | .hbm, ⟨25, _⟩ => ⟨S26112, .i1⟩
  | .hbm, ⟨26, _⟩ => ⟨S26112, .i32⟩
  | .hbm, ⟨27, _⟩ => ⟨S26112, .i32⟩
  | .hbm, ⟨28, _⟩ => ⟨S26112, .i32⟩
  | .hbm, ⟨29, _⟩ => ⟨S_, .i32⟩
  | .hbm, ⟨30, _⟩ => ⟨S26112, .i32⟩
  | .hbm, ⟨31, _⟩ => ⟨S26112, .i1⟩
  | .hbm, ⟨32, _⟩ => ⟨S26112, .i1⟩
  | .hbm, ⟨33, _⟩ => ⟨S26112x2048, .f32⟩
  | .hbm, ⟨34, _⟩ => ⟨S_, .f32⟩
  | .hbm, ⟨35, _⟩ => ⟨S26112, .f32⟩
  | .hbm, ⟨36, _⟩ => ⟨S26112x1, .f32⟩
  | .hbm, ⟨37, _⟩ => ⟨S_, .f32⟩
  | .hbm, ⟨38, _⟩ => ⟨S26112x1, .f32⟩
  | .hbm, ⟨39, _⟩ => ⟨S26112x1, .f32⟩
  | .hbm, ⟨40, _⟩ => ⟨S_, .f32⟩
  | .hbm, ⟨41, _⟩ => ⟨S26112x1, .f32⟩
  | .hbm, ⟨42, _⟩ => ⟨S26112x1, .f32⟩
  | .hbm, ⟨43, _⟩ => ⟨S26112x1, .f32⟩
  | .hbm, ⟨44, _⟩ => ⟨S26112x2048, .f32⟩
  | .hbm, ⟨45, _⟩ => ⟨S26112x2048, .f32⟩
  | .hbm, ⟨46, _⟩ => ⟨S1x2048, .f32⟩
  | .hbm, ⟨47, _⟩ => ⟨S26112x2048, .f32⟩
  | .hbm, ⟨48, _⟩ => ⟨S26112x2048, .f32⟩
  | .hbm, ⟨49, _⟩ => ⟨S1x2048x8192, .f32⟩
  | .hbm, ⟨50, _⟩ => ⟨S2048x8192, .f32⟩
  | .hbm, ⟨51, _⟩ => ⟨S26112x8192, .f32⟩
  | .hbm, ⟨52, _⟩ => ⟨S26112x2048, .f32⟩
  | .hbm, ⟨53, _⟩ => ⟨S26112x2048, .f32⟩
  | .hbm, ⟨54, _⟩ => ⟨S26112x2048, .f32⟩
  | .hbm, ⟨55, _⟩ => ⟨S26112x2048, .f32⟩
  | .hbm, ⟨56, _⟩ => ⟨S26112x1, .i1⟩
  | .hbm, ⟨57, _⟩ => ⟨S26112x2048, .f32⟩
  | .hbm, ⟨58, _⟩ => ⟨S_, .f32⟩
  | .hbm, ⟨59, _⟩ => ⟨S_, .f32⟩
  | .hbm, ⟨60, _⟩ => ⟨S26112x2048, .i1⟩
  | .hbm, ⟨61, _⟩ => ⟨S26112x2048, .f32⟩
  | .hbm, ⟨62, _⟩ => ⟨S26112x2048, .f32⟩
  | .hbm, ⟨63, _⟩ => ⟨S26112x2048, .bf16⟩
  | .hbm, ⟨64, _⟩ => ⟨S26112x2048, .f32⟩
  | .hbm, ⟨65, _⟩ => ⟨S26112x2048, .f32⟩
  | .hbm, ⟨66, _⟩ => ⟨S_, .f32⟩
  | .hbm, ⟨67, _⟩ => ⟨S26112x2048, .f32⟩
  | .hbm, ⟨68, _⟩ => ⟨S26112x2048, .f32⟩
  | .hbm, ⟨69, _⟩ => ⟨S_, .f32⟩
  | .hbm, ⟨70, _⟩ => ⟨S26112x2048, .f32⟩
  | .hbm, ⟨71, _⟩ => ⟨S26112x2048, .f32⟩
  | .hbm, ⟨72, _⟩ => ⟨S26112x2048, .f32⟩
  | .hbm, ⟨73, _⟩ => ⟨S26112x2048, .f32⟩
  | .hbm, ⟨74, _⟩ => ⟨S26112x2048, .bf16⟩
  | _, _ => ⟨S26112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v29 : Ref sig .tc := ⟨.hbm, 62, rfl⟩
abbrev main_v30 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩

abbrev nD : Nat := 1
abbrev τ : Topo := Topo.v7x

variable {F : FTy → Type} [FloatOps F]
-- ==== Kernel3.lean ====
abbrev S26112x2048 : Shape := ⟨2, ![26112, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S26112x2048, .f32⟩
  | .hbm, ⟨1, _⟩ => ⟨S2x2048x2048, .f32⟩
  | .hbm, ⟨2, _⟩ => ⟨S26112x2048, .f32⟩
  | .hbm, ⟨3, _⟩ => ⟨S26112x2048, .bf16⟩
  | .hbm, ⟨4, _⟩ => ⟨S2x2048x2048, .bf16⟩
  | .hbm, ⟨5, _⟩ => ⟨S26112x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S26112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S26112x2048 : Shape := ⟨2, ![26112, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S26112x2048, .f32⟩
  | .hbm, ⟨1, _⟩ => ⟨S2x2048x2048, .f32⟩
  | .hbm, ⟨2, _⟩ => ⟨S26112x2048, .f32⟩
  | .hbm, ⟨3, _⟩ => ⟨S1x2048x2048, .f32⟩
  | .hbm, ⟨4, _⟩ => ⟨S2048x2048, .f32⟩
  | .hbm, ⟨5, _⟩ => ⟨S26112x2048, .f32⟩
  | .hbm, ⟨6, _⟩ => ⟨S26112x2048, .f32⟩
  | _, _ => ⟨S26112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S26112x2048 : Shape := ⟨2, ![26112, 2048]⟩
abbrev S2048 : Shape := ⟨1, ![2048]⟩
abbrev S2x2048x5120 : Shape := ⟨3, ![2, 2048, 5120]⟩
abbrev S51 : Shape := ⟨1, ![51]⟩
abbrev S1x2048 : Shape := ⟨2, ![1, 2048]⟩
abbrev S2x2048x2048 : Shape := ⟨3, ![2, 2048, 2048]⟩
abbrev S2x2048x1024 : Shape := ⟨3, ![2, 2048, 1024]⟩
abbrev S8704 : Shape := ⟨1, ![8704]⟩
abbrev S_ : Shape := ⟨0, ![]⟩
abbrev S64 : Shape := ⟨1, ![64]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S26112x5120 : Shape := ⟨2, ![26112, 5120]⟩
abbrev S256x2048 : Shape := ⟨2, ![256, 2048]⟩
abbrev S1x2048x5120 : Shape := ⟨3, ![1, 2048, 5120]⟩
abbrev S512x128 : Shape := ⟨2, ![512, 128]⟩
abbrev S1 : Shape := ⟨1, ![1]⟩
abbrev S512x5120 : Shape := ⟨2, ![512, 5120]⟩
abbrev S256 : Shape := ⟨1, ![256]⟩
abbrev S256x1 : Shape := ⟨2, ![256, 1]⟩
abbrev S256x128 : Shape := ⟨2, ![256, 128]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 45
  | .vmem => 14
  | .smem => 1
  | _ => 0

abbrev bufTy : (tb : Table) → Fin (tcTables nBuf tb) → BufTy
  | .hbm, ⟨0, _⟩ => ⟨S26112x2048, .f32⟩
  | .hbm, ⟨1, _⟩ => ⟨S2048, .f32⟩
  | .hbm, ⟨2, _⟩ => ⟨S2x2048x5120, .f32⟩
  | .hbm, ⟨3, _⟩ => ⟨S1x2048, .f32⟩
  | .hbm, ⟨4, _⟩ => ⟨S2x2048x2048, .f32⟩
  | .hbm, ⟨5, _⟩ => ⟨S2x2048x2048, .f32⟩
  | .hbm, ⟨6, _⟩ => ⟨S2x2048x1024, .f32⟩
  | .hbm, ⟨7, _⟩ => ⟨S2x2048x5120, .f32⟩
  | .hbm, ⟨8, _⟩ => ⟨S2x2048x5120, .bf16⟩
  | .hbm, ⟨9, _⟩ => ⟨S8704, .i32⟩
  | .hbm, ⟨10, _⟩ => ⟨S_, .i32⟩
  | .hbm, ⟨11, _⟩ => ⟨S8704, .i32⟩
  | .hbm, ⟨12, _⟩ => ⟨S8704, .i1⟩
  | .hbm, ⟨13, _⟩ => ⟨S_, .i32⟩
  | .hbm, ⟨14, _⟩ => ⟨S8704, .i32⟩
  | .hbm, ⟨15, _⟩ => ⟨S8704, .i32⟩
  | .hbm, ⟨16, _⟩ => ⟨S_, .i32⟩
  | .hbm, ⟨17, _⟩ => ⟨S8704, .i32⟩
  | .hbm, ⟨18, _⟩ => ⟨S8704, .i32⟩
  | .hbm, ⟨19, _⟩ => ⟨S_, .i32⟩
  | .hbm, ⟨20, _⟩ => ⟨S8704, .i32⟩
  | .hbm, ⟨21, _⟩ => ⟨S8704, .i32⟩
  | .hbm, ⟨22, _⟩ => ⟨S8704, .i32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S8704, .f32⟩
  | .hbm, ⟨32, _⟩ => ⟨S8704x1, .f32⟩
  | .hbm, ⟨33, _⟩ => ⟨S1x64, .f32⟩
  | .hbm, ⟨34, _⟩ => ⟨S8704x64, .f32⟩
  | .hbm, ⟨35, _⟩ => ⟨S8704x64, .f32⟩
  | .hbm, ⟨36, _⟩ => ⟨S8704x64, .f32⟩
  | .hbm, ⟨37, _⟩ => ⟨S8704x64, .f32⟩
  | .hbm, ⟨38, _⟩ => ⟨S8704x64, .f32⟩
  | .hbm, ⟨39, _⟩ => ⟨S8704x128, .f32⟩
  | .hbm, ⟨40, _⟩ => ⟨S8704x64, .f32⟩
  | .hbm, ⟨41, _⟩ => ⟨S8704x64, .f32⟩
  | .hbm, ⟨42, _⟩ => ⟨S8704x64, .f32⟩
  | .hbm, ⟨43, _⟩ => ⟨S8704x128, .f32⟩
  | .hbm, ⟨44, _⟩ => ⟨S26112x5120, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048x5120, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x5120, .bf16⟩
  | .local _ .vmem, ⟨11, _⟩ => ⟨S512x5120, .bf16⟩
  | .local _ .vmem, ⟨12, _⟩ => ⟨S256x2048, .bf16⟩
  | .local _ .vmem, ⟨13, _⟩ => ⟨S256x2048, .bf16⟩
  | .local _ .smem, ⟨0, _⟩ => ⟨S51, .i32⟩
  | _, _ => ⟨S26112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![52], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.muli c2_i32 v0
  let c1_i32 : BitVec 32 := 1#32
  let v2 : BitVec 32 := Scalar.subi v1 c1_i32
  let c0_i32_0 : BitVec 32 := 0#32
  let c101_i32 : BitVec 32 := 101#32
  let v3 : BitVec 32 := Scalar.maxsi c0_i32_0 v2
  let v4 : BitVec 32 := Scalar.minsi c101_i32 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.muli c2_i32 v0
  let c101_i32 : BitVec 32 := 101#32
  let v2 : BitVec 32 := Scalar.minsi v1 c101_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S51) ![v2.toNat] S1.size (k0_off1_inb i)) numel1_S1
  let c0_i32_0 : BitVec 32 := 0#32
  let c0_i32_1 : BitVec 32 := 0#32
  ![v3.toNat, c0_i32_0.toNat]

def cc0_transform_5 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S51) ![v2.toNat] S1.size (k0_off1_inb i)) numel1_S1
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S26112x2048 : Shape := ⟨2, ![26112, 2048]⟩
abbrev S2048 : Shape := ⟨1, ![2048]⟩
abbrev S2x2048x5120 : Shape := ⟨3, ![2, 2048, 5120]⟩
abbrev S26112 : Shape := ⟨1, ![26112]⟩
abbrev S_ : Shape := ⟨0, ![]⟩
abbrev S26112x1 : Shape := ⟨2, ![26112, 1]⟩
abbrev S64 : Shape := ⟨1, ![64]⟩
abbrev S1x64 : Shape := ⟨2, ![1, 64]⟩
abbrev S26112x64 : Shape := ⟨2, ![26112, 64]⟩
abbrev S26112x128 : Shape := ⟨2, ![26112, 128]⟩
abbrev S26112x1x128 : Shape := ⟨3, ![26112, 1, 128]⟩
abbrev S1x2048 : Shape := ⟨2, ![1, 2048]⟩
abbrev S1x2048x5120 : Shape := ⟨3, ![1, 2048, 5120]⟩
abbrev S2048x5120 : Shape := ⟨2, ![2048, 5120]⟩
abbrev S26112x5120 : Shape := ⟨2, ![26112, 5120]⟩
abbrev S26112x512 : Shape := ⟨2, ![26112, 512]⟩
abbrev S26112x16x128 : Shape := ⟨3, ![26112, 16, 128]⟩
abbrev S26112x16x64 : Shape := ⟨3, ![26112, 16, 64]⟩
abbrev S26112x4x128 : Shape := ⟨3, ![26112, 4, 128]⟩
abbrev S26112x4x64 : Shape := ⟨3, ![26112, 4, 64]⟩

abbrev nBuf : Space → Nat
  | .hbm => 139
  | .vmem => 0
  | .smem => 0
  | _ => 0

abbrev hbmTy0_0 (i : Nat) : BufTy := match i % 128 with
  | 0 => ⟨S26112x2048, .f32⟩
  | 1 => ⟨S2048, .f32⟩
  | 2 => ⟨S2x2048x5120, .f32⟩
  | 3 => ⟨S26112, .i32⟩
  | 4 => ⟨S_, .i32⟩
  | 5 => ⟨S26112, .i32⟩
  | 6 => ⟨S26112, .i1⟩
  | 7 => ⟨S_, .i32⟩
  | 8 => ⟨S26112, .i32⟩
  | 9 => ⟨S26112, .i32⟩
  | 10 => ⟨S_, .i32⟩
  | 11 => ⟨S26112, .i32⟩
  | 12 => ⟨S26112, .i32⟩
  | 13 => ⟨S_, .i32⟩
  | 14 => ⟨S26112, .i32⟩
  | 15 => ⟨S26112, .i1⟩
  | 16 => ⟨S_, .i32⟩
  | 17 => ⟨S26112, .i32⟩
  | 18 => ⟨S26112, .i32⟩
  | 19 => ⟨S_, .i32⟩
  | 20 => ⟨S26112, .i32⟩
  | 21 => ⟨S26112, .i32⟩
  | 22 => ⟨S_, .i32⟩
  | 23 => ⟨S26112, .i32⟩
  | 24 => ⟨S26112, .i32⟩
  | 25 => ⟨S_, .i32⟩
  | 26 => ⟨S_, .i32⟩
  | 27 => ⟨S26112, .i32⟩
  | 28 => ⟨S26112, .i32⟩
  | 29 => ⟨S26112, .i32⟩
  | 30 => ⟨S_, .i32⟩
  | 31 => ⟨S26112, .i32⟩
  | 32 => ⟨S26112, .i1⟩
  | 33 => ⟨S_, .i32⟩
  | 34 => ⟨S26112, .i32⟩
  | 35 => ⟨S26112, .i32⟩
  | 36 => ⟨S_, .i32⟩
  | 37 => ⟨S26112, .i32⟩
  | 38 => ⟨S26112, .i32⟩
  | 39 => ⟨S_, .i32⟩
  | 40 => ⟨S_, .i32⟩
  | 41 => ⟨S26112, .i32⟩
  | 42 => ⟨S26112, .i32⟩
  | 43 => ⟨S_, .i32⟩
  | 44 => ⟨S26112, .i32⟩
  | 45 => ⟨S26112, .i32⟩
  | 46 => ⟨S_, .i32⟩
  | 47 => ⟨S26112, .i32⟩
  | 48 => ⟨S26112, .i32⟩
  | 49 => ⟨S26112, .i32⟩
  | 50 => ⟨S_, .i32⟩
  | 51 => ⟨S26112, .i32⟩
  | 52 => ⟨S26112, .i32⟩
  | 53 => ⟨S26112, .i32⟩
  | 54 => ⟨S_, .i32⟩
  | 55 => ⟨S26112, .i32⟩
  | 56 => ⟨S26112, .i32⟩
  | 57 => ⟨S26112, .i32⟩
  | 58 => ⟨S26112, .f32⟩
  | 59 => ⟨S26112x1, .f32⟩
  | 60 => ⟨S64, .f32⟩
  | 61 => ⟨S64, .f32⟩
  | 62 => ⟨S_, .f32⟩
  | 63 => ⟨S64, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S26112x64, .f32⟩
  | 70 => ⟨S26112x64, .f32⟩
  | 71 => ⟨S26112x64, .f32⟩
  | 72 => ⟨S26112x64, .f32⟩
  | 73 => ⟨S26112x64, .f32⟩
  | 74 => ⟨S26112x128, .f32⟩
  | 75 => ⟨S26112x1x128, .f32⟩
  | 76 => ⟨S26112x64, .f32⟩
  | 77 => ⟨S26112x64, .f32⟩
  | 78 => ⟨S26112x128, .f32⟩
  | 79 => ⟨S26112x1x128, .f32⟩
  | 80 => ⟨S26112x2048, .f32⟩
  | 81 => ⟨S_, .f32⟩
  | 82 => ⟨S26112, .f32⟩
  | 83 => ⟨S26112x1, .f32⟩
  | 84 => ⟨S_, .f32⟩
  | 85 => ⟨S26112x1, .f32⟩
  | 86 => ⟨S26112x1, .f32⟩
  | 87 => ⟨S_, .f32⟩
  | 88 => ⟨S26112x1, .f32⟩
  | 89 => ⟨S26112x1, .f32⟩
  | 90 => ⟨S26112x1, .f32⟩
  | 91 => ⟨S26112x2048, .f32⟩
  | 92 => ⟨S26112x2048, .f32⟩
  | 93 => ⟨S1x2048, .f32⟩
  | 94 => ⟨S26112x2048, .f32⟩
  | 95 => ⟨S26112x2048, .f32⟩
  | 96 => ⟨S1x2048x5120, .f32⟩
  | 97 => ⟨S2048x5120, .f32⟩
  | 98 => ⟨S26112x5120, .f32⟩
  | 99 => ⟨S26112x2048, .f32⟩
  | 100 => ⟨S26112x512, .f32⟩
  | 101 => ⟨S26112x512, .f32⟩
  | 102 => ⟨S26112x2048, .f32⟩
  | 103 => ⟨S26112x16x128, .f32⟩
  | 104 => ⟨S26112x16x64, .f32⟩
  | 105 => ⟨S26112x16x64, .f32⟩
  | 106 => ⟨S26112x16x64, .f32⟩
  | 107 => ⟨S26112x16x128, .f32⟩
  | 108 => ⟨S26112x16x128, .f32⟩
  | 109 => ⟨S26112x16x128, .f32⟩
  | 110 => ⟨S26112x16x128, .f32⟩
  | 111 => ⟨S26112x16x128, .f32⟩
  | 112 => ⟨S26112x16x128, .f32⟩
  | 113 => ⟨S26112x2048, .f32⟩
  | 114 => ⟨S_, .f32⟩
  | 115 => ⟨S26112x2048, .f32⟩
  | 116 => ⟨S26112x2048, .f32⟩
  | 117 => ⟨S26112x2048, .f32⟩
  | 118 => ⟨S26112x2048, .f32⟩
  | 119 => ⟨S_, .f32⟩
  | 120 => ⟨S26112x2048, .f32⟩
  | 121 => ⟨S26112x2048, .f32⟩
  | 122 => ⟨S_, .f32⟩
  | 123 => ⟨S26112x2048, .f32⟩
  | 124 => ⟨S26112x2048, .f32⟩
  | 125 => ⟨S26112x2048, .f32⟩
  | 126 => ⟨S26112x4x128, .f32⟩
  | 127 => ⟨S26112x4x64, .f32⟩
  | _ => ⟨S26112x2048, .f32⟩

abbrev hbmTy0_1 (i : Nat) : BufTy := match i % 128 with
  | 0 => ⟨S26112x4x64, .f32⟩
  | 1 => ⟨S26112x4x64, .f32⟩
  | 2 => ⟨S26112x4x128, .f32⟩
  | 3 => ⟨S26112x4x128, .f32⟩
  | 4 => ⟨S26112x4x128, .f32⟩
  | 5 => ⟨S26112x4x128, .f32⟩
  | 6 => ⟨S26112x4x128, .f32⟩
  | 7 => ⟨S26112x4x128, .f32⟩
  | 8 => ⟨S26112x512, .f32⟩
  | 9 => ⟨S26112x5120, .f32⟩
  | 10 => ⟨S26112x5120, .bf16⟩
  | _ => ⟨S26112x2048, .f32⟩

abbrev hbmTy (i : Nat) : BufTy := match i / 128 with
  | 0 => hbmTy0_0 i
  | 1 => hbmTy0_1 i
  | _ => ⟨S26112x2048, .f32⟩

abbrev bufTy : (tb : Table) → Fin (tcTables nBuf tb) → BufTy
  | .hbm, ⟨i, _⟩ => hbmTy i
  | _, _ => ⟨S26112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_c_8 : Ref sig .tc := ⟨.hbm, 33, rfl⟩
abbrev main_v19 : Ref sig .tc := ⟨.hbm, 34, rfl⟩
abbrev main_v20 : Ref sig .tc := ⟨.hbm, 35, rfl⟩
abbrev main_c_9 : Ref sig .tc := ⟨.hbm, 36, rfl⟩
abbrev main_v21 : Ref sig .tc := ⟨.hbm, 37, rfl⟩
abbrev main_v22 : Ref sig .tc := ⟨.hbm, 38, rfl⟩
abbrev main_c_10 : Ref sig .tc := ⟨.hbm, 39, rfl⟩
abbrev main_call2_v0 : Ref sig .tc := ⟨.hbm, 40, rfl⟩
abbrev main_call2_v1 : Ref sig .tc := ⟨.hbm, 41, rfl⟩
abbrev main_v23 : Ref sig .tc := ⟨.hbm, 42, rfl⟩
abbrev main_c_11 : Ref sig .tc := ⟨.hbm, 43, rfl⟩
abbrev main_v24 : Ref sig .tc := ⟨.hbm, 44, rfl⟩
abbrev main_v25 : Ref sig .tc := ⟨.hbm, 45, rfl⟩
abbrev main_c_12 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_13 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_14 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]
-- ==== Proof.Attn.Tables.lean ====
module

public import proofs.«01_k».proof.Proof.Attn.Kit
public import Idealize.ShloMosaic.Lib.StableHlo.RunRead
public import Idealize.ShloMosaic.PureOps.BitExact

@[expose] public section

set_option maxRecDepth 16384

noncomputable section

namespace Cert.Kernel.Attn

open Cert.Kernel.Gen
open Idealize.ShloMosaic Idealize.ShloMosaic.TcCoe
open Idealize.SL.Sem

/-- The four tables' words: the literals of the host constants. -/
def words {F : FTy → Type} [FloatOps F] : pre0.Contents (Elt F)
  | ⟨0, _⟩ => fun i => lit0 (S204.rowMajor i)
  | ⟨1, _⟩ => fun i => lit1 (S204.rowMajor i)
  | ⟨2, _⟩ => fun i => lit2 (S204.rowMajor i)
  | ⟨3, _⟩ => fun i => lit3 (S204.rowMajor i)

variable {F : FTy → Type} [FloatOps F] (m : (ℓ : Loc nD τ sig) → Buf (Elt F) ℓ)

set_option maxHeartbeats 4000000 in
/-- The region finds the literals in the four table buffers. -/
theorem tbl_eq : tbl m = words := by
  funext j
  match j with
  | ⟨0, _⟩ =>
    show StableHlo.after (hostOps0 ++ (hostOps0_1 ++ (hostOps0_2 ++ hostOps0_3))) _ (Proc.devRef .tc main_c) = _
    after_reads_simp
    rfl
  | ⟨1, _⟩ =>
    show StableHlo.after (hostOps0 ++ (hostOps0_1 ++ (hostOps0_2 ++ hostOps0_3))) _ (Proc.devRef .tc main_c_0) = _
    after_reads_simp
    rfl
  | ⟨2, _⟩ =>
    show StableHlo.after (hostOps0 ++ (hostOps0_1 ++ (hostOps0_2 ++ hostOps0_3))) _ (Proc.devRef .tc main_c_1) = _
    after_reads_simp
    rfl
  | ⟨3, _⟩ =>
    show StableHlo.after (hostOps0 ++ (hostOps0_1 ++ (hostOps0_2 ++ hostOps0_3))) _ (Proc.devRef .tc main_c_2) = _
    after_reads_simp
    rfl

set_option maxHeartbeats 4000000 in
/-- At the literals every block the tables name lies inside its array. -/
theorem ok_words : ok0 (F := Bits) words := by
  unfold ok0
  refine ⟨?_, ?_, ?_, ?_, ?_, ?_, ?_, ?_, ?_, ?_, ?_, ?_, ?_, ?_, ?_, ?_⟩ <;> decide +kernel

/-- So the pipeline's side condition holds of every launch memory. -/
theorem ok (m : (ℓ : Loc nD τ sig) → Buf (Elt Bits) ℓ) : Ok m := by
  unfold Ok; rw [tbl_eq m]; exact ok_words

end Cert.Kernel.Attn

end
-- ==== Proof.AttnIdeal.Schedule.lean ====
module

public import proofs.«01_k».proof.Proof.Gen.KernelIdeal
public import Idealize.ShloMosaic.Lib.Pipeline.Kit

@[expose] public section

noncomputable section

namespace Cert.KernelIdeal.Attn

open Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 4 (%arg4)) is fetched at the first point only, at any contents of the tables (its index map reads none). -/
theorem fetch0_0 (a : (pcfg0 (F := F)).Adm) : ∀ t : Fin (cfg0 a).N, ((cfg0 a).win 0).fetch t = true ↔ t.val % 51 = 0 :=
  (fun t => Pipeline.Window.fetchOf_const cc0_transform_0 (fun _ _ => rfl) (n := 51) (by decide) t : ∀ t : Fin grid0.N, Pipeline.Window.fetchOf grid0 false cc0_transform_0 t = true ↔ t.val % 51 = 0)
/-- Window 1 (operand 5 (%13)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 6 (%13)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
-- window 10: no schedule fact — its index map reads a prefetched table, so where it is fetched or written back depends on the tables' contents
-- window 11: no schedule fact — its index map reads a prefetched table, so where it is fetched or written back depends on the tables' contents
-- window 12: no schedule fact — its index map reads a prefetched table, so where it is fetched or written back depends on the tables' contents
-- window 13: no schedule fact — its index map reads a prefetched table, so where it is fetched or written back depends on the tables' contents
-- window 14: no schedule fact — its index map reads a prefetched table, so where it is fetched or written back depends on the tables' contents
-- window 15: no schedule fact — its index map reads a prefetched table, so where it is fetched or written back depends on the tables' contents
-- window 16: no schedule fact — its index map reads a prefetched table, so where it is fetched or written back depends on the tables' contents
-- window 17: no schedule fact — its index map reads a prefetched table, so where it is fetched or written back depends on the tables' contents
-- window 18: no schedule fact — its index map reads a prefetched table, so where it is fetched or written back depends on the tables' contents
/-- Window 19 (result 0 (%52)) is written back at every point, at any contents of the tables (its index map reads none). -/
theorem flush0_19 (a : (pcfg0 (F := F)).Adm) : ∀ t : Fin (cfg0 a).N, ((cfg0 a).win 19).flush t = true :=
  (fun t => (Pipeline.Window.flushOf_reads cc0_transform_19 reads0_19 hreads0_19 0 (by decide) (by decide) (Pipeline.Window.sep_of_coord cc0_transform_19 0 0 (fun _ => rfl) (by decide)) (P := 1) (m := 0) (by decide) rfl t).mpr (Nat.mod_one _) : ∀ t : Fin grid0.N, Pipeline.Window.flushOf grid0 true cc0_transform_19 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn_core (grid0.coords t) (Memref.whole main_c) (Memref.isWhole_whole _) (Memref.whole main_c_0) (Memref.isWhole_whole _) (Memref.whole main_c_1) (Memref.isWhole_whole _) (Memref.whole main_c_2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19))

end Cert.KernelIdeal.Attn

end
-- ==== Proof.AttnIdeal.Kit.lean ====
module

public import proofs.«01_k».proof.Proof.Gen.KernelIdeal.Launch
public import proofs.«01_k».proof.Proof.Gen.KernelIdeal.Skeleton
public import proofs.«01_k».proof.Proof.AttnIdeal.Schedule
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S204 .i32 := Memref.whole main_c
abbrev htbM0_0 : tbM0_0.IsWhole := Memref.isWhole_whole _
abbrev tbM0_1 : Memref sig .tc .smem S204 .i32 := Memref.whole main_c_0
abbrev htbM0_1 : tbM0_1.IsWhole := Memref.isWhole_whole _
abbrev tbM0_2 : Memref sig .tc .smem S204 .i32 := Memref.whole main_c_1
abbrev htbM0_2 : tbM0_2.IsWhole := Memref.isWhole_whole _
abbrev tbM0_3 : Memref sig .tc .smem S204 .i32 := Memref.whole main_c_2
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is of the clipped KIND (its block does not tile its array `S26112x5120`), but no block the grid
    reaches is cut, so no part of its staging buffer is left unfilled by a fetch. A default for such a part, which
    nothing reads. -/
def dflt0_1 (hO : Ok m) : ((cfgM m hO).win 1).block.Idx → Elt F ((cfgM m hO).win 1).elt := fun _ => Classical.choice inferInstance
/-- What input window 1's current staging buffer holds when the body runs at `t`: its block read off the array,
    filled over `dflt0_1` (block-typed, where `iblk` is typed at the cut). -/
def X0_1 (hO : Ok m) (c : Dev nD) (t : Fin (cfgM m hO).N) : ((cfgM m hO).win 1).block.Idx → Elt F ((cfgM m hO).win 1).elt :=
  ((cfgM m hO).win 1).fill ((cfgM m hO).grid.coords t) (dflt0_1 m hO) (iblk m hO c 1 t)
/-- At every point the cut's extent is the block's, decided over the grid: no transfer of input window 1 is cut. -/
theorem xsize0_1 (hO : Ok m) : ∀ t : Fin (cfgM m hO).N, ∀ a, ((cfgM m hO).win 1).xsize ((cfgM m hO).grid.coords t) a = ((cfgM m hO).win 1).size a := fun t a => by
  have h : ∀ t : Fin grid0.N, ∀ a : Fin 2, Pipeline.Clip.of (cc0_transform_1 (grid0.coords t) a) (S512x4096.size a) (S26112x5120.size a) = none := by decide +kernel
  show (Pipeline.Clip.of (cc0_transform_1 (grid0.coords t) a) (S512x4096.size a) (S26112x5120.size a)).extent (S512x4096.size a) = S512x4096.size a
  rw [h t a]
/-- Every index of input window 1's block is moved at every point. -/
theorem moved0_1 (hO : Ok m) (t : Fin (cfgM m hO).N) (j : ((cfgM m hO).win 1).block.Idx) : ((cfgM m hO).win 1).moved ((cfgM m hO).grid.coords t) j = true :=
  (((cfgM m hO).win 1).moved_iff _ j).mpr fun a => by rw [xsize0_1 m hO t a]; exact (j a).isLt
/-- A fill of input window 1's block covers the whole buffer, whatever it held. -/
theorem fill0_1 (hO : Ok m) (t : Fin (cfgM m hO).N) (d d' : ((cfgM m hO).win 1).block.Idx → Elt F ((cfgM m hO).win 1).elt) (g) :
    ((cfgM m hO).win 1).fill ((cfgM m hO).grid.coords t) d g = ((cfgM m hO).win 1).fill ((cfgM m hO).grid.coords t) d' g := by
  funext j; unfold Pipeline.Window.fill; rw [dif_pos (moved0_1 m hO t j), dif_pos (moved0_1 m hO t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = X0_1 m hO c t) (t : Fin (cfgM m hO).N) (d) : dat.before 1 t d = X0_1 m hO c t :=
  (dat.before_in_eq_fetched 1 rfl (fun _ => rfl)
      (fun t t' h => funext fun a => congrArg (fun n => Pipeline.Clip.of n (((cfgM m hO).win 1).size a) (S26112x5120.size a)) (congrFun h a))
      (fun t => by rw [hafter]; unfold X0_1; rw [Pipeline.Window.cut_fill]; unfold Dat.blockOf iblk; rw [hA]; try rfl) t d).trans
    (by unfold Dat.fetched X0_1; rw [fill0_1 m hO t d (dflt0_1 m hO)]; unfold Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats 0 c).arrAt_in 0 rfl _).trans ((hA c 0).trans (V_main_arg4 m c)))⟩) h

/-! ## The kernel body on any staging memrefs: a subtype the run finds -/

/-- One staging buffer of output window 19, through which its contents are stated (`View.read_writes_of_cover`: the
    choice does not matter). -/
abbrev VO0_19 : View sig .tc .vmem S512x2048 .bf16 := (Memref.whole cc0_stg19_0 : Memref sig .tc .vmem S512x2048 .bf16).view
/-- Each window's current staging memref at point `t`, spelled as the pipeline passes it (`bodyAt0`), and its wholeness. -/
abbrev ms0_0 (hO : Ok m) (t : Fin (cfgM m hO).N) : Memref sig .tc .smem S16 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x4096 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x400x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x400x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x400x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x400x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x1024 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S16x1024 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S128x1024 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S128x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S16x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S128x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S128x1024 .bf16 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S16x1024 .bf16 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S128x1024 .bf16 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S128x1024 .bf16 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S16x1024 .bf16 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S512x2048 .bf16 := spec0_19.stage ((cfgM m hO).slots t 19)
abbrev hs0_19 (hO : Ok m) (t : Fin (cfgM m hO).N) : (ms0_19 m hO t).IsWhole := hstage0_19 (((cfgM m hO).slots t 19).cast nbuf0_19)

end Cert.KernelIdeal.Attn

end
-- ==== Proof.AttnIdeal.Run.lean ====
module

public import proofs.«01_k».proof.Proof.AttnIdeal.Kit

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3360000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .smem S16 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S1x400x128 .f32) (harg8 : arg8.IsWhole) (arg9 : Memref sig .tc .vmem S1x400x128 .f32) (harg9 : arg9.IsWhole) (arg10 : Memref sig .tc .vmem S1x400x128 .f32) (harg10 : arg10.IsWhole) (arg11 : Memref sig .tc .vmem S1x400x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S16x1024 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S16x1024 .bf16) (harg17 : arg17.IsWhole) (arg18 : Memref sig .tc .vmem S128x1024 .bf16) (harg18 : arg18.IsWhole) (arg19 : Memref sig .tc .vmem S128x1024 .bf16) (harg19 : arg19.IsWhole) (arg20 : Memref sig .tc .vmem S16x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S16x1024 .bf16) (harg23 : arg23.IsWhole) (arg24 : Memref sig .tc .vmem S512x2048 .bf16) (harg24 : arg24.IsWhole)
    (x0 : Vec F S16 .f32) (x1 : Vec F S512x4096 .bf16) (x2 : Vec F S512x1024 .bf16) (x3 : Vec F S1x400x128 .f32) (x4 : Vec F S1x400x128 .f32) (x5 : Vec F S1x400x128 .f32) (x6 : Vec F S1x400x128 .f32) (x7 : Vec F S128x1024 .bf16) (x8 : Vec F S128x1024 .bf16) (x9 : Vec F S16x1024 .bf16) (x10 : Vec F S128x1024 .bf16) (x11 : Vec F S128x1024 .bf16) (x12 : Vec F S16x1024 .bf16) (x13 : Vec F S128x1024 .bf16) (x14 : Vec F S128x1024 .bf16) (x15 : Vec F S16x1024 .bf16) (x16 : Vec F S128x1024 .bf16) (x17 : Vec F S128x1024 .bf16) (x18 : Vec F S16x1024 .bf16) (xt0 : TbBuf0 (F := F) c tbM0_0) (xt1 : TbBuf0 (F := F) c tbM0_1) (xt2 : TbBuf0 (F := F) c tbM0_2) (xt3 : TbBuf0 (F := F) c tbM0_3) :
    { L19 : List (View.Piece (Elt F) S512x2048 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ (∃ d, owns (c : Thread nD τ) arg24 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ (∃ f, arg24.view.loc (c : Thread nD τ) ↦[arg24.view.set]{fullShare} arg24.view.writes (Elt F) f L19) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_attn_core i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    simp only [cc0_attn_core_eq_skeleton]; unfold cc0_attn_core_skel
    simp only [k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11; obtain rfl := harg17.eq_unread hf12; obtain rfl := harg18.eq_unread hf13; obtain rfl := harg19.eq_unread hf14; obtain rfl := harg20.eq_unread hf15; obtain rfl := harg21.eq_unread hf16; obtain rfl := harg22.eq_unread hf17; obtain rfl := harg23.eq_unread hf18
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _; isplitr; · ipureintro; exact harg18.read_unread _
      iexact H13
    isplitl [H14]
    · iexists _; isplitr; · ipureintro; exact harg19.read_unread _
      iexact H14
    isplitl [H15]
    · iexists _; isplitr; · ipureintro; exact harg20.read_unread _
      iexact H15
    isplitl [H16]
    · iexists _; isplitr; · ipureintro; exact harg21.read_unread _
      iexact H16
    isplitl [H17]
    · iexists _; isplitr; · ipureintro; exact harg22.read_unread _
      iexact H17
    isplitl [H18]
    · iexists _; isplitr; · ipureintro; exact harg23.read_unread _
      iexact H18
    isplitl [H19]; · iexists _; iexact H19
    isplitl [HT0]; · iexact HT0
    isplitl [HT1]; · iexact HT1
    isplitl [HT2]; · iexact HT2
    iexact HT3

end Cert.KernelIdeal.Attn

end
-- ==== Proof.AttnIdeal.Frame.lean ====
module

public import proofs.«01_k».proof.Proof.AttnIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 19 tile its block (64 stores of `S128x128`, checked by the kernel's evaluation: Lib/Ring.lean `Piece.tiledL`, linear in the pieces, through a loop's `@[irreducible]` trip theorem too), so they cover it. -/
theorem cover0_A_19 (c : Dev nD) (i : grid0.Coords) (arg5 : Memref sig .tc .smem S16 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S1x400x128 .f32) (harg8 : arg8.IsWhole) (arg9 : Memref sig .tc .vmem S1x400x128 .f32) (harg9 : arg9.IsWhole) (arg10 : Memref sig .tc .vmem S1x400x128 .f32) (harg10 : arg10.IsWhole) (arg11 : Memref sig .tc .vmem S1x400x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S16x1024 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S16x1024 .bf16) (harg17 : arg17.IsWhole) (arg18 : Memref sig .tc .vmem S128x1024 .bf16) (harg18 : arg18.IsWhole) (arg19 : Memref sig .tc .vmem S128x1024 .bf16) (harg19 : arg19.IsWhole) (arg20 : Memref sig .tc .vmem S16x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S16x1024 .bf16) (harg23 : arg23.IsWhole) (arg24 : Memref sig .tc .vmem S512x2048 .bf16) (harg24 : arg24.IsWhole)
    (x0 : Vec F S16 .f32) (x1 : Vec F S512x4096 .bf16) (x2 : Vec F S512x1024 .bf16) (x3 : Vec F S1x400x128 .f32) (x4 : Vec F S1x400x128 .f32) (x5 : Vec F S1x400x128 .f32) (x6 : Vec F S1x400x128 .f32) (x7 : Vec F S128x1024 .bf16) (x8 : Vec F S128x1024 .bf16) (x9 : Vec F S16x1024 .bf16) (x10 : Vec F S128x1024 .bf16) (x11 : Vec F S128x1024 .bf16) (x12 : Vec F S16x1024 .bf16) (x13 : Vec F S128x1024 .bf16) (x14 : Vec F S128x1024 .bf16) (x15 : Vec F S16x1024 .bf16) (x16 : Vec F S128x1024 .bf16) (x17 : Vec F S128x1024 .bf16) (x18 : Vec F S16x1024 .bf16) (xt0 : TbBuf0 (F := F) c tbM0_0) (xt1 : TbBuf0 (F := F) c tbM0_1) (xt2 : TbBuf0 (F := F) c tbM0_2) (xt3 : TbBuf0 (F := F) c tbM0_3) (y : S512x2048.Idx) :
    ∃ pc ∈ (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3).1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3).1 S128x128.size (by sl_kernel_rfl) y

/-- What the run leaves in output 19's staging buffer: its pieces read back over junk. -/
def out0_A_19 (c : Dev nD) (i : grid0.Coords) (arg5 : Memref sig .tc .smem S16 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S1x400x128 .f32) (harg8 : arg8.IsWhole) (arg9 : Memref sig .tc .vmem S1x400x128 .f32) (harg9 : arg9.IsWhole) (arg10 : Memref sig .tc .vmem S1x400x128 .f32) (harg10 : arg10.IsWhole) (arg11 : Memref sig .tc .vmem S1x400x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S16x1024 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S16x1024 .bf16) (harg17 : arg17.IsWhole) (arg18 : Memref sig .tc .vmem S128x1024 .bf16) (harg18 : arg18.IsWhole) (arg19 : Memref sig .tc .vmem S128x1024 .bf16) (harg19 : arg19.IsWhole) (arg20 : Memref sig .tc .vmem S16x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S16x1024 .bf16) (harg23 : arg23.IsWhole) (arg24 : Memref sig .tc .vmem S512x2048 .bf16) (harg24 : arg24.IsWhole)
    (x0 : Vec F S16 .f32) (x1 : Vec F S512x4096 .bf16) (x2 : Vec F S512x1024 .bf16) (x3 : Vec F S1x400x128 .f32) (x4 : Vec F S1x400x128 .f32) (x5 : Vec F S1x400x128 .f32) (x6 : Vec F S1x400x128 .f32) (x7 : Vec F S128x1024 .bf16) (x8 : Vec F S128x1024 .bf16) (x9 : Vec F S16x1024 .bf16) (x10 : Vec F S128x1024 .bf16) (x11 : Vec F S128x1024 .bf16) (x12 : Vec F S16x1024 .bf16) (x13 : Vec F S128x1024 .bf16) (x14 : Vec F S128x1024 .bf16) (x15 : Vec F S16x1024 .bf16) (x16 : Vec F S128x1024 .bf16) (x17 : Vec F S128x1024 .bf16) (x18 : Vec F S16x1024 .bf16) (xt0 : TbBuf0 (F := F) c tbM0_0) (xt1 : TbBuf0 (F := F) c tbM0_1) (xt2 : TbBuf0 (F := F) c tbM0_2) (xt3 : TbBuf0 (F := F) c tbM0_3) : Vec F S512x2048 .bf16 :=
  VO0_19.read (Elt F) (VO0_19.writes (Elt F) VO0_19.junk (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3).1)

/-! ## What the outputs hold after each point -/

/-- What the outputs' staging buffers hold after the body at point `t`: the run's contents at
    the point's memrefs and input blocks. -/
def outsAt0 (hO : Ok m) (c : Dev nD) (t : Fin (cfgM m hO).N) : Vec F S512x2048 .bf16 :=
  out0_A_19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (iblk m hO c 0 t) (X0_1 m hO c t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) (tbl m 1) (tbl m 2) (tbl m 3)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => X0_1 m hO c t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => (outsAt0 m hO c t)
    | ⟨_ + 20, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = X0_1 m hO c t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = X0_1 m hO c t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t))

set_option maxHeartbeats 2000000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m hO 0 c).Φ t.castSucc = iprop(Pipeline.ΦA spec0 c ∗ Pipeline.ΦT pre0 (tbl m) c) from rfl, PhiT0_eq]
  unfold outsAt0
  unfold out0_A_19
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ (iblk m hO c 0 t) (X0_1 m hO c t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (tbl m 0) (tbl m 1) (tbl m 2) (tbl m 3)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HT0]; · iexact HT0
  isplitl [HT1]; · iexact HT1
  isplitl [HT2]; · iexact HT2
  isplitl [HT3]; · iexact HT3
  iintro ⟨H0, H1, H2, H3, H4, H5, H6, H7, H8, H9, H10, H11, H12, H13, H14, H15, H16, H17, H18, ⟨%e19, H19⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Attn

end
-- ==== Proof.AttnIdeal.Tables.lean ====
module

public import proofs.«01_k».proof.Proof.AttnIdeal.Kit
public import Idealize.ShloMosaic.Lib.StableHlo.RunRead
public import Idealize.ShloMosaic.PureOps.Ideal

@[expose] public section

set_option maxRecDepth 16384

noncomputable section

namespace Cert.KernelIdeal.Attn

open Cert.KernelIdeal.Gen
open Idealize.ShloMosaic Idealize.ShloMosaic.TcCoe
open Idealize.SL.Sem

/-- The four tables' words: the literals of the host constants. -/
def words {F : FTy → Type} [FloatOps F] : pre0.Contents (Elt F)
  | ⟨0, _⟩ => fun i => lit0 (S204.rowMajor i)
  | ⟨1, _⟩ => fun i => lit1 (S204.rowMajor i)
  | ⟨2, _⟩ => fun i => lit2 (S204.rowMajor i)
  | ⟨3, _⟩ => fun i => lit3 (S204.rowMajor i)

variable {F : FTy → Type} [FloatOps F] (m : (ℓ : Loc nD τ sig) → Buf (Elt F) ℓ)

set_option maxHeartbeats 4000000 in
/-- The region finds the literals in the four table buffers. -/
theorem tbl_eq : tbl m = words := by
  funext j
  match j with
  | ⟨0, _⟩ =>
    show StableHlo.after (hostOps0 ++ (hostOps0_1 ++ (hostOps0_2 ++ hostOps0_3))) _ (Proc.devRef .tc main_c) = _
    after_reads_simp
    rfl
  | ⟨1, _⟩ =>
    show StableHlo.after (hostOps0 ++ (hostOps0_1 ++ (hostOps0_2 ++ hostOps0_3))) _ (Proc.devRef .tc main_c_0) = _
    after_reads_simp
    rfl
  | ⟨2, _⟩ =>
    show StableHlo.after (hostOps0 ++ (hostOps0_1 ++ (hostOps0_2 ++ hostOps0_3))) _ (Proc.devRef .tc main_c_1) = _
    after_reads_simp
    rfl
  | ⟨3, _⟩ =>
    show StableHlo.after (hostOps0 ++ (hostOps0_1 ++ (hostOps0_2 ++ hostOps0_3))) _ (Proc.devRef .tc main_c_2) = _
    after_reads_simp
    rfl

set_option maxHeartbeats 4000000 in
/-- At the literals every block the tables name lies inside its array. -/
theorem ok_words : ok0 (F := Ideal) words := by
  unfold ok0
  refine ⟨?_, ?_, ?_, ?_, ?_, ?_, ?_, ?_, ?_, ?_, ?_, ?_, ?_, ?_, ?_, ?_⟩ <;> decide +kernel

/-- So the pipeline's side condition holds of every launch memory. -/
theorem ok (m : (ℓ : Loc nD τ sig) → Buf (Elt Ideal) ℓ) : Ok m := by
  unfold Ok; rw [tbl_eq m]; exact ok_words

end Cert.KernelIdeal.Attn

end
-- ==== Proof.AttnIdeal.Host.lean ====
module

public import proofs.«01_k».proof.Proof.AttnIdeal.Tables
public import Idealize.ShloMosaic.Lib.Pointwise

@[expose] public section

set_option maxRecDepth 16384

noncomputable section

/-!
# The two arrays the host line prepares

The projections (queries over their scale, gates, keys, values side by side) and the table of biases, as terms of the
arguments.
-/

namespace Cert.KernelIdeal.Attn

open Cert.KernelIdeal.Gen
open Idealize.ShloMosaic Idealize.ShloMosaic.TcCoe
open Idealize.SL.Sem

variable {F : FTy → Type} [FloatOps F] [Named F]

/-- The scaled queries. -/
def queriesV (q : FVec F S26112x2048 .f32) : FVec F S26112x2048 .f32 :=
  Host.divf (mulf q (broadcastInDim S26112x2048 ![] bcast_S_S26112x2048 (constant S_ .f32 0x3DB504F3#32)))
    (broadcastInDim S26112x2048 ![] bcast_S_S26112x2048 (Host.log (constant S_ .f32 0x40000000#32)))

/-- The gates. -/
def gatesV (z : FVec F S26112x2048 .f32) : FVec F S26112x2048 .f32 :=
  mulf z (Host.divf (broadcastInDim S26112x2048 ![] bcast_S_S26112x2048 (constant S_ .f32 0x3F800000#32))
    (addf (broadcastInDim S26112x2048 ![] bcast_S_S26112x2048 (constant S_ .f32 0x3F800000#32)) (Host.exp (Host.negf z))))

/-- The projections. -/
def projV (q : FVec F S26112x2048 .f32) (k v : FVec F S26112x512 .f32) (z : FVec F S26112x2048 .f32) : FVec F S26112x5120 .bf16 :=
  truncf .bf16
    (concatenate S26112x5120 1 [⟨S26112x2048, queriesV q⟩, ⟨S26112x2048, gatesV z⟩, ⟨S26112x512, k⟩, ⟨S26112x512, v⟩]
      concatenates_S26112x2048_S26112x2048_S26112x512_S26112x512_S26112x5120_d1)
    bitsLt_bf16_f32

/-- A word for each case. -/
abbrev caseWords (l : Fin 5 → BitVec 32) : IVec S5x1x1 32 := broadcastInDim S5x1x1 ![0] bcast_S5_S5x1x1_0 (fun i => l (S5.rowMajor i))

/-- A word, one for each case. -/
abbrev casesC (w : BitVec 32) : IVec S5x1x1 32 := broadcastInDim S5x1x1 ![] bcast_S_S5x1x1 (constantI S_ 32 w)

/-- A word, one for each entry of the table. -/
abbrev tableC (w : BitVec 32) : IVec S5x400x128 32 := broadcastInDim S5x400x128 ![] bcast_S_S5x400x128 (constantI S_ 32 w)

/-- A word for each case, all over its table. -/
abbrev overTable (x : IVec S5x1x1 32) : IVec S5x400x128 32 := broadcastInDim S5x400x128 ![0, 1, 2] bcast_S5x1x1_S5x400x128_0_1_2 x

/-- The row of the query, counted from the start of its sequence's blocks. -/
def queryRow : IVec S5x400x128 32 := addi (overTable (muli (caseWords lit4) (casesC 128#32))) (iotaInDim S5x400x128 32 2)

/-- The row of the slot, counted likewise, as if all slots were of the three blocks. -/
def slotRow : IVec S5x400x128 32 :=
  addi (overTable (muli (subi (caseWords lit4) (casesC 1#32)) (casesC 128#32))) (iotaInDim S5x400x128 32 1)

/-- Which slots are visible. -/
def visV : IVec S5x400x128 1 :=
  select (cmpi .slt (iotaInDim S5x400x128 32 1) (tableC 384#32))
    (andi (andi (cmpi .sge slotRow (tableC 112#32)) (cmpi .slt slotRow (overTable (muli (caseWords lit5) (casesC 128#32)))))
      (cmpi .sle (absi (subi queryRow slotRow)) (tableC 128#32)))
    (cmpi .sgt (absi (subi (subi queryRow (tableC 112#32)) (subi (iotaInDim S5x400x128 32 1) (tableC 384#32)))) (tableC 128#32))

/-- The table of biases: zero where a slot is visible, minus infinity where it is not. -/
def biasV : FVec F S5x400x128 .f32 :=
  select visV (broadcastInDim S5x400x128 ![] bcast_S_S5x400x128 (constant S_ .f32 0x00000000#32))
    (broadcastInDim S5x400x128 ![] bcast_S_S5x400x128 (constant S_ .f32 0xFF800000#32))

variable (m : (ℓ : Loc nD τ sig) → Buf (Elt F) ℓ)

set_option maxHeartbeats 4000000 in
/-- The region finds the projections in their array. -/
theorem V_proj (c : Dev nD) : V m c main_v13 = projV (m ((c.tc : Thread nD τ).loc main_arg0)) (m ((c.tc : Thread nD τ).loc main_arg1))
    (m ((c.tc : Thread nD τ).loc main_arg2)) (m ((c.tc : Thread nD τ).loc main_arg3)) := by
  show StableHlo.after (hostOps0 ++ (hostOps0_1 ++ (hostOps0_2 ++ hostOps0_3))) _ (Proc.devRef .tc main_v13) = _
  after_reads_simp
  rfl

set_option maxHeartbeats 4000000 in
/-- The region finds the biases in their table. -/
theorem V_bias (c : Dev nD) : V m c main_v51 = biasV := by
  show StableHlo.after (hostOps0 ++ (hostOps0_1 ++ (hostOps0_2 ++ hostOps0_3))) _ (Proc.devRef .tc main_v51) = _
  after_reads_simp
  rfl

end Cert.KernelIdeal.Attn

end
-- ==== Proof.Softmax.lean ====
module

public import Idealize.ShloMosaic.PureOps.Ideal
public import Mathlib.Algebra.BigOperators.Fin
public import Mathlib.Data.Finset.Fold
public import Mathlib.Analysis.SpecialFunctions.Pow.Real

@[expose] public section

noncomputable section

/-!
# A softmax over the visible slots is the softmax over the masked rows

The reference weighs every row, a row that is not seen having the score minus infinity. The kernel weighs the slots of
its tile, whose visible ones are exactly the rows that are seen, with scores divided by the logarithm of two and powers
of two instead of exponentials, and it divides by the total after the sum over the values instead of before.
-/

namespace Cert.Softmax

open Idealize.ShloMosaic

/-- The greatest of scores, of which some are minus infinity, and a sink is the greatest of the others and the sink. -/
theorem fold_max_coe {ι : Type} [DecidableEq ι] (s : Finset ι) (p : ι → Prop) [DecidablePred p] (T : ι → ℝ) (σ : ℝ) :
    max (s.fold max (⊥ : EReal) (fun j => if p j then ((T j : ℝ) : EReal) else ⊥)) (σ : EReal) =
      (((s.filter p).fold max σ T : ℝ) : EReal) := by
  induction s using Finset.induction_on with
  | empty => simp
  | insert a s ha ih =>
    rw [Finset.fold_insert ha, max_assoc, ih, Finset.filter_insert]
    by_cases h : p a
    · rw [if_pos h, if_pos h, Finset.fold_insert (by simp [ha]), EReal.coe_strictMono.monotone.map_max]
    · rw [if_neg h, if_neg h]; simp

/-- Dividing every score and the sink by a positive number divides the greatest by it. -/
theorem fold_max_div {ι : Type} [DecidableEq ι] (s : Finset ι) (T : ι → ℝ) (σ l : ℝ) (hl : 0 < l) :
    s.fold max (σ / l) (fun j => T j / l) = s.fold max σ T / l := by
  induction s using Finset.induction_on with
  | empty => simp
  | insert a s ha ih =>
    rw [Finset.fold_insert ha, Finset.fold_insert ha, ih, max_div_div_right hl.le]

/-- The greatest over 80 groups of the greatest of each group's 5 is the greatest over all 400. -/
theorem fold_max_groups (f : Fin 400 → EReal) (h : ∀ (x : Fin 80) (y : Fin 5), (y : ℕ) * 80 + x < 400) :
    (Finset.univ : Finset (Fin 80)).fold max ⊥ (fun x : Fin 80 => (Finset.univ : Finset (Fin 5)).fold max ⊥ (fun y : Fin 5 => f ⟨y * 80 + x, h x y⟩)) =
      (Finset.univ : Finset (Fin 400)).fold max ⊥ f := by
  apply le_antisymm
  · refine Finset.fold_max_le _ |>.2 ⟨bot_le, fun x _ => Finset.fold_max_le _ |>.2 ⟨bot_le, fun y _ => ?_⟩⟩
    exact Finset.le_fold_max _ |>.2 (Or.inr ⟨_, Finset.mem_univ _, le_rfl⟩)
  · refine Finset.fold_max_le _ |>.2 ⟨bot_le, fun c _ => ?_⟩
    refine Finset.le_fold_max _ |>.2 (Or.inr ⟨(⟨c % 80, Nat.mod_lt _ (by omega)⟩ : Fin 80), Finset.mem_univ _, ?_⟩)
    refine Finset.le_fold_max _ |>.2 (Or.inr ⟨(⟨c / 80, by omega⟩ : Fin 5), Finset.mem_univ _, ?_⟩)
    refine le_of_eq (congrArg f (Fin.ext ?_))
    show (c : ℕ) = c / 80 * 80 + c % 80
    omega

/-- The sum over 80 groups of the sums of each group's 5 is the sum over all 400. -/
theorem sum_groups (f : Fin 400 → EReal) (h : ∀ (x : Fin 80) (y : Fin 5), (y : ℕ) * 80 + x < 400) :
    (∑ x : Fin 80, ∑ y : Fin 5, f ⟨y * 80 + x, h x y⟩) = ∑ c, f c := by
  rw [Finset.sum_comm, ← Fintype.sum_prod_type' (f := fun (y : Fin 5) (x : Fin 80) => f ⟨y * 80 + x, h x y⟩)]
  refine Fintype.sum_equiv finProdFinEquiv _ _ (fun p => congrArg f (Fin.ext ?_))
  show (p.1 : ℕ) * 80 + p.2 = _
  simp [finProdFinEquiv]; omega

/-- A sum of finite numbers, as a sum of extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite number that is not negative distributes over any sum. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb,
      EReal.right_distrib_of_nonneg_of_ne_top (by exact_mod_cast ha) (EReal.coe_ne_top a), ih]

/-- The visible slots and the rows that are seen: each visible slot's row is seen, no two visible slots have one row, and
every row that is seen is a visible slot's. -/
structure Match {ι κ : Type} (mask : ι → Prop) (vis : κ → Prop) (row : κ → ι) : Prop where
  seen : ∀ c, vis c → mask (row c)
  inj : ∀ c c', vis c → vis c' → row c = row c' → c = c'
  onto : ∀ j, mask j → ∃ c, vis c ∧ row c = j

variable {ι κ : Type} [Fintype ι] [Fintype κ] [DecidableEq ι] [DecidableEq κ] {mask : ι → Prop} {vis : κ → Prop}
  [DecidablePred mask] [DecidablePred vis] {row : κ → ι}

/-- The rows that are seen are the visible slots' rows. -/
theorem Match.image (H : Match mask vis row) :
    (Finset.univ.filter mask) = (Finset.univ.filter vis).image row := by
  ext j
  simp only [Finset.mem_filter, Finset.mem_univ, true_and, Finset.mem_image]
  exact ⟨H.onto j, fun ⟨c, h, e⟩ => e ▸ H.seen c h⟩

/-- A sum over the rows that are seen is the sum over the visible slots. -/
theorem Match.sum {M : Type} [AddCommMonoid M] (H : Match mask vis row) (f : ι → M) (g : κ → M) (hf : ∀ j, ¬ mask j → f j = 0)
    (hg : ∀ c, ¬ vis c → g c = 0) (hfg : ∀ c, vis c → g c = f (row c)) : ∑ j, f j = ∑ c, g c := by
  have h1 : ∑ j, f j = ∑ j ∈ Finset.univ.filter mask, f j :=
    (Finset.sum_filter_of_ne (fun j _ hne => by by_contra h; exact hne (hf j h))).symm
  have h2 : ∑ c, g c = ∑ c ∈ Finset.univ.filter vis, g c :=
    (Finset.sum_filter_of_ne (fun c _ hne => by by_contra h; exact hne (hg c h))).symm
  rw [h1, h2, H.image, Finset.sum_image]
  · exact Finset.sum_congr rfl fun c hc => (hfg c (by simpa using hc)).symm
  · intro c hc c' hc' e
    exact H.inj c c' (by simpa using hc) (by simpa using hc') e

/-- The greatest score over the rows that are seen is the greatest over the visible slots. -/
theorem Match.fold (H : Match mask vis row) (T : ι → ℝ) (σ : ℝ) :
    (Finset.univ.filter mask).fold max σ T = (Finset.univ.filter vis).fold max σ (fun c => T (row c)) := by
  rw [H.image, Finset.fold_image]
  · rfl
  · intro c hc c' hc' e
    exact H.inj c c' (by simpa using hc) (by simpa using hc') e

/-- Two to a number over the logarithm of two is the exponential of the number. -/
theorem two_pow (x : ℝ) : Real.rpow 2 (x / Real.log 2) = Real.exp x := by
  have h : Real.log 2 ≠ 0 := (Real.log_pos (by norm_num)).ne'
  show (2 : ℝ) ^ (x / Real.log 2) = _
  rw [Real.rpow_def_of_pos (by norm_num), mul_div_cancel₀ _ h]

/-- The kernel's softmax over its slots and the reference's over all rows give the same weighted sum. `T` holds the
scores, `σ` is the sink, `v` the values by row and `vs` the values by slot. -/
theorem attend (H : Match mask vis row) (T : ι → ℝ) (σ : ℝ) (v : ι → EReal) (vs : κ → EReal) (s : ι → EReal) (t : κ → EReal)
    (sk : EReal) (M m : EReal)
    (hs : ∀ j, s j = if mask j then ((T j : ℝ) : EReal) else ⊥)
    (ht : ∀ c, t c = if vis c then ((T (row c) / Real.log 2 : ℝ) : EReal) else ⊥)
    (hsk : sk = ((σ / Real.log 2 : ℝ) : EReal))
    (hM : M = max (Finset.univ.fold max ⊥ s) (σ : EReal)) (hm : m = max (Finset.univ.fold max ⊥ t) sk)
    (hv : ∀ c, vis c → vs c = v (row c)) :
    (∑ c, vs c * Ideal.exp2 (t c - m)) * Ideal.div 1 ((∑ c, Ideal.exp2 (t c - m)) + Ideal.exp2 (sk - m)) =
      ∑ j, v j * Ideal.div (Ideal.exp (s j - M)) ((∑ j, Ideal.exp (s j - M)) + Ideal.exp ((σ : EReal) - M)) := by
  have hl : 0 < Real.log 2 := Real.log_pos (by norm_num)
  obtain ⟨R, hR⟩ : ∃ R : ℝ, R = (Finset.univ.filter mask).fold max σ T := ⟨_, rfl⟩
  have hM' : M = (R : EReal) := by
    rw [hM, show s = _ from funext hs, fold_max_coe, hR]
  have hm' : m = ((R / Real.log 2 : ℝ) : EReal) := by
    rw [hm, hsk, show t = _ from funext ht, fold_max_coe Finset.univ vis (fun c => T (row c) / Real.log 2),
      fold_max_div _ (fun c => T (row c)) σ _ hl, hR, H.fold]
  have he : ∀ j, Ideal.exp (s j - M) = if mask j then ((Real.exp (T j - R) : ℝ) : EReal) else 0 := by
    intro j
    rw [hs, hM']
    split
    · rw [← EReal.coe_sub, Ideal.exp_coe]
    · rw [EReal.bot_sub, Ideal.exp_bot]
  have hp : ∀ x : ℝ, Ideal.exp2 (((x / Real.log 2 : ℝ) : EReal) - m) = ((Real.exp (x - R) : ℝ) : EReal) := by
    intro x
    rw [hm', ← EReal.coe_sub, Ideal.exp2_coe, ← sub_div, two_pow]
  have hw : ∀ c, Ideal.exp2 (t c - m) = if vis c then ((Real.exp (T (row c) - R) : ℝ) : EReal) else 0 := by
    intro c
    rw [ht]
    split
    · exact hp _
    · rw [hm', EReal.bot_sub, Ideal.exp2_bot]
  have hS : (∑ j, Ideal.exp (s j - M)) = ∑ c, Ideal.exp2 (t c - m) :=
    H.sum _ _ (fun j h => by rw [he, if_neg h]) (fun c h => by rw [hw, if_neg h])
      (fun c h => by rw [hw, if_pos h, he, if_pos (H.seen c h)])
  have hD : (∑ c, Ideal.exp2 (t c - m)) + Ideal.exp2 (sk - m) =
      ((∑ c, (if vis c then Real.exp (T (row c) - R) else 0) + Real.exp (σ - R) : ℝ) : EReal) := by
    rw [hsk, hp, EReal.coe_add, coe_sum]
    refine congrArg₂ _ (Finset.sum_congr rfl fun c _ => ?_) rfl
    rw [hw]; split <;> simp
  have hσ : Ideal.exp ((σ : EReal) - M) = Ideal.exp2 (sk - m) := by
    rw [hsk, hp, hM', ← EReal.coe_sub, Ideal.exp_coe]
  obtain ⟨D, hDr⟩ : ∃ D : ℝ, D = ∑ c, (if vis c then Real.exp (T (row c) - R) else 0) + Real.exp (σ - R) := ⟨_, rfl⟩
  have hpos : 0 < D := by
    rw [hDr]
    refine add_pos_of_nonneg_of_pos (Finset.sum_nonneg fun c _ => ?_) (Real.exp_pos _)
    split
    · exact (Real.exp_pos _).le
    · exact le_rfl
  rw [hσ, hS, hD, ← hDr, Ideal.div_coe hpos.ne', one_mul, sum_mul_coe _ _ _ (by positivity)]
  refine (H.sum _ _ (fun j h => ?_) (fun c h => ?_) (fun c h => ?_)).symm
  · rw [he, if_neg h, Ideal.div_coe hpos.ne', zero_mul, mul_zero]
  · rw [hw, if_neg h, mul_zero, zero_mul]
  · rw [hw, if_pos h, he, if_pos (H.seen c h), Ideal.div_coe hpos.ne', hv c h, mul_assoc]

/-- A product of two finite vectors, the second scaled, is the scaled product. -/
theorem dot_scaled {n : ℕ} (k q : Fin n → ℝ) (a l : ℝ) (hl : l ≠ 0) :
    (∑ x, (k x : EReal) * Ideal.div ((q x : EReal) * (a : EReal)) (l : EReal)) =
      (((∑ x, k x * q x) * a / l : ℝ) : EReal) := by
  have : ∀ x, (k x : EReal) * Ideal.div ((q x : EReal) * (a : EReal)) (l : EReal) = ((k x * q x * a / l : ℝ) : EReal) := by
    intro x
    rw [Ideal.div_coe hl, ← EReal.coe_mul, ← EReal.coe_mul, ← EReal.coe_mul]
    congr 1; ring
  rw [Finset.sum_congr rfl fun x _ => this x, ← coe_sum]
  congr 1
  rw [Finset.sum_mul, Finset.sum_div]

/-- A product of two finite vectors, then scaled. -/
theorem dot_then {n : ℕ} (k q : Fin n → ℝ) (a : ℝ) :
    (∑ x, (k x : EReal) * (q x : EReal)) * (a : EReal) = (((∑ x, k x * q x) * a : ℝ) : EReal) := by
  rw [EReal.coe_mul, coe_sum]
  simp only [EReal.coe_mul]

end Cert.Softmax

end
-- ==== Proof.Seen.lean ====
module

public import proofs.«01_k».proof.KernelIdeal
public import Idealize.ShloMosaic.Lib.Pointwise
public import proofs.«01_k».proof.Proof.Softmax

@[expose] public section

set_option maxRecDepth 16384

/-!
# Which rows a row sees, and which slots of its block's tile hold them

The rows are in 204 blocks of 128. Of a row the file states its sequence and its position, of a block its place in its
sequence; of a slot of a block's tile the row it holds and whether a row of the block sees it. The visible slots are
exactly the rows that are seen.
-/

namespace Cert.Seen

open Idealize.ShloMosaic

/-- The sequence of a row. -/
def seqR (R : ℕ) : ℕ := if 24576 ≤ R then (R - 24576) / 128 else if R < 8192 then 0 else (R - 8192) / 2048 + 1

/-- The position of a row in its sequence. -/
def posR (R : ℕ) : ℤ :=
  if 24576 ≤ R then (R : ℤ) - 24576 - 128 * seqR R - 112
  else (R : ℤ) - (if seqR R = 0 then 0 else 6144 + 2048 * seqR R) + 16

/-- Row `R` sees row `R'`. -/
def Sees (R R' : ℕ) : Prop :=
  seqR R = seqR R' ∧ 0 ≤ posR R' ∧ (|posR R - posR R'| ≤ 128 ∨ posR R' < 16)

instance (R R' : ℕ) : Decidable (Sees R R') := by unfold Sees; infer_instance

/-- The sequence of a block. -/
def seqB (β : ℕ) : ℕ := if 192 ≤ β then β - 192 else if β < 64 then 0 else (β - 64) / 16 + 1

/-- The place of a block in its sequence, whose first block holds its first sixteen positions. -/
def placeB (β : ℕ) : ℕ := if 192 ≤ β then 0 else if β < 64 then β + 1 else (β - 64) % 16 + 1

/-- How many blocks a block's sequence has. -/
def countB (β : ℕ) : ℕ := if seqB β = 0 then 65 else if seqB β ≤ 8 then 17 else 1

/-- The block before it, itself for the first. -/
def prevB (β : ℕ) : ℕ := if 192 ≤ β then β else if placeB β = 1 then 192 + seqB β else β - 1

/-- The block after it, itself for the last. -/
def nextB (β : ℕ) : ℕ :=
  if countB β = placeB β + 1 then β else if 192 ≤ β then (if seqB β = 0 then 0 else 48 + 16 * seqB β) else β + 1

/-- The block that holds its sequence's first positions. -/
def leadB (β : ℕ) : ℕ := 192 + seqB β

/-- The row in slot `c` of the tile of block `β`: the block before, the block, the block after, the first positions. -/
def rowOf (β c : ℕ) : ℕ :=
  if c < 128 then 128 * prevB β + c else if c < 256 then 128 * β + (c - 128)
  else if c < 384 then 128 * nextB β + (c - 256) else 16 * (leadB β * 8 + 7) + (c - 384)

/-- Slot `c` is visible to row `r` of a block at place `j` of `n`. -/
def Vis (j n c r : ℤ) : Prop :=
  (c < 384 ∧ (112 ≤ (j - 1) * 128 + c ∧ (j - 1) * 128 + c < n * 128) ∧ |j * 128 + r - ((j - 1) * 128 + c)| ≤ 128) ∨
    (384 ≤ c ∧ 128 < |j * 128 + r - 112 - (c - 384)|)

instance (j n c r : ℤ) : Decidable (Vis j n c r) := by unfold Vis; infer_instance

theorem seq_row {β r : ℕ} (hβ : β < 204) (hr : r < 128) : seqR (128 * β + r) = seqB β := by
  unfold seqR seqB; split_ifs <;> omega

theorem pos_row {β r : ℕ} (hβ : β < 204) (hr : r < 128) : posR (128 * β + r) = 128 * (placeB β : ℤ) + r - 112 := by
  unfold posR; rw [seq_row hβ hr]; unfold placeB seqB; split_ifs <;> first | contradiction | omega

/-- Two blocks of one sequence at one place are one block. -/
theorem block_inj {β β' : ℕ} (h : β < 204) (h' : β' < 204) (hs : seqB β = seqB β') (hp : placeB β = placeB β') : β = β' := by
  unfold seqB at hs; unfold placeB at hp; split_ifs at hs hp <;> first | contradiction | omega

/-- The block before a block that is not the first of its sequence. -/
theorem prev_spec {β : ℕ} (h : β < 204) (hp : 1 ≤ placeB β) :
    prevB β < 204 ∧ seqB (prevB β) = seqB β ∧ placeB (prevB β) + 1 = placeB β := by
  unfold prevB seqB placeB at *; split_ifs at * <;> first | contradiction | omega

/-- The block after a block that is not the last of its sequence. -/
theorem next_spec {β : ℕ} (h : β < 204) (hp : placeB β + 1 < countB β) :
    nextB β < 204 ∧ seqB (nextB β) = seqB β ∧ placeB (nextB β) = placeB β + 1 := by
  unfold nextB countB seqB placeB at *; split_ifs at * <;> first | contradiction | omega

/-- The block with its sequence's first positions. -/
theorem lead_spec {β : ℕ} (h : β < 204) : leadB β < 204 ∧ seqB (leadB β) = seqB β ∧ placeB (leadB β) = 0 := by
  unfold leadB seqB placeB; split_ifs <;> first | contradiction | omega

/-- A block's place is one of its sequence's. -/
theorem place_lt {β : ℕ} (h : β < 204) : placeB β < countB β := by
  unfold countB seqB placeB; split_ifs <;> first | contradiction | omega

/-- Every slot's row is a row. -/
theorem rowOf_lt {β c : ℕ} (h : β < 204) (hc : c < 400) : rowOf β c < 26112 := by
  have h1 : prevB β < 204 := by
    unfold prevB seqB placeB; split_ifs <;> first | contradiction | omega
  have h2 : nextB β < 204 := by
    unfold nextB countB seqB placeB; split_ifs <;> first | contradiction | omega
  have h3 := (lead_spec h).1
  unfold rowOf; split_ifs <;> omega

/-- Which rows of a block a row of a block sees. -/
theorem sees_iff {β β' r r' : ℕ} (h : β < 204) (h' : β' < 204) (hr : r < 128) (hr' : r' < 128) :
    Sees (128 * β + r) (128 * β' + r') ↔ seqB β = seqB β' ∧ 112 ≤ 128 * (placeB β' : ℤ) + r' ∧
      ((-128 ≤ 128 * (placeB β : ℤ) + r - (128 * placeB β' + r') ∧ 128 * (placeB β : ℤ) + r - (128 * placeB β' + r') ≤ 128) ∨
        128 * (placeB β' : ℤ) + r' < 128) := by
  unfold Sees
  rw [seq_row h hr, seq_row h' hr', pos_row h hr, pos_row h' hr', abs_le]
  omega

/-- A place that tells the kernel's tile what it has to know of the true one. -/
structure Tells (β : ℕ) (j n : ℤ) : Prop where
  nonneg : 0 ≤ j
  zero : j = 0 ↔ placeB β = 0
  one : j = 1 ↔ placeB β = 1
  lt : j < n
  last : j + 1 < n ↔ placeB β + 1 < countB β

/-- A visible slot of the three blocks says what place it is at, and how near its row is. -/
theorem vis_band {β c r : ℕ} (h : β < 204) {j n : ℤ} (T : Tells β j n) (hc : c < 384) (hv : Vis j n c r) :
    (c < 128 → placeB (prevB β) + 1 = placeB β) ∧ (256 ≤ c → placeB (nextB β) = placeB β + 1) ∧ (c : ℤ) ≤ r + 256 ∧ (r : ℤ) ≤ c := by
  obtain ⟨t0, t1, t2, t3, t4⟩ := T
  have hl := place_lt h
  simp only [Vis, abs_le] at hv
  have hv := hv.resolve_right (by omega)
  exact ⟨fun q => (prev_spec h (by omega)).2.2, fun q => (next_spec h (by omega)).2.2, by omega, by omega⟩

/-- No visible slot of the first positions has the row of a visible slot of the three blocks. -/
theorem slot_ne {β c c' r : ℕ} (h : β < 204) (hr : r < 128) {j n : ℤ} (T : Tells β j n) (hc : c < 384) (hc' : 384 ≤ c') (hc4 : c' < 400)
    (hv : Vis j n c r) (hv' : Vis j n c' r) : rowOf β c ≠ rowOf β c' := by
  obtain ⟨f1, f2, f3, f4⟩ := vis_band h T hc hv
  obtain ⟨t0, t1, t2, t3, t4⟩ := T
  obtain ⟨-, -, l3⟩ := lead_spec h
  simp only [Vis, lt_abs] at hv'
  have hv' := (hv'.resolve_left (by omega)).2
  intro e
  unfold rowOf at e
  rw [if_neg (show ¬ c' < 128 by omega), if_neg (show ¬ c' < 256 by omega), if_neg (show ¬ c' < 384 by omega)] at e
  split_ifs at e with h1 h2
  · have q : prevB β = leadB β := by omega
    have f1 := f1 h1
    rw [q] at f1
    omega
  · have q : β = leadB β := by omega
    rw [← q] at l3
    omega
  · have q : nextB β = leadB β := by omega
    have f2 := f2 (by omega)
    rw [q] at f2
    omega

/-- Two visible slots with one row are one slot. -/
theorem slot_inj {β c c' r : ℕ} (h : β < 204) (hr : r < 128) {j n : ℤ} (T : Tells β j n) (hc4 : c < 400) (hc4' : c' < 400)
    (hv : Vis j n c r) (hv' : Vis j n c' r) (e : rowOf β c = rowOf β c') : c = c' := by
  by_cases hc : c < 384 <;> by_cases hc' : c' < 384
  · obtain ⟨f1, f2, -, -⟩ := vis_band h T hc hv
    obtain ⟨g1, g2, -, -⟩ := vis_band h T hc' hv'
    clear hv hv' T
    have n1 : prevB β = β → placeB (prevB β) = placeB β := fun q => by rw [q]
    have n2 : nextB β = β → placeB (nextB β) = placeB β := fun q => by rw [q]
    have n3 : prevB β = nextB β → placeB (prevB β) = placeB (nextB β) := fun q => by rw [q]
    unfold rowOf at e
    split_ifs at e <;> omega
  · exact absurd e (slot_ne h hr T hc (by omega) hc4' hv hv')
  · exact absurd e.symm (slot_ne h hr T hc' (by omega) hc4 hv' hv)
  · unfold rowOf at e
    split_ifs at e <;> omega

/-- The visible slots of a block's tile are the rows that a row of the block sees. -/
theorem sees_match {β r : ℕ} (h : β < 204) (hr : r < 128) {j n : ℤ} (T : Tells β j n) :
    Softmax.Match (fun R' : Fin 26112 => Sees (128 * β + r) R') (fun c : Fin 400 => Vis j n (c : ℕ) r)
      (fun c => ⟨rowOf β c, rowOf_lt h c.2⟩) := by
  obtain ⟨t0, t1, t2, t3, t4⟩ := T
  obtain ⟨l1, l2, l3⟩ := lead_spec h
  have hp := fun q => prev_spec h q
  have hn := fun q => next_spec h q
  have hl := place_lt h
  refine ⟨fun c hc => ?_, fun c c' hc hc' e => ?_, fun R hR => ?_⟩
  · obtain ⟨c, hc400⟩ := c
    show Sees (128 * β + r) (rowOf β c)
    simp only [Vis, abs_le, lt_abs] at hc
    unfold rowOf
    split_ifs with h1 h2 h3
    · obtain ⟨p1, p2, p3⟩ := hp (by omega)
      rw [sees_iff h p1 hr h1]; omega
    · rw [sees_iff h h hr (by omega)]; omega
    · obtain ⟨p1, p2, p3⟩ := hn (by omega)
      rw [sees_iff h p1 hr (by omega)]; omega
    · rw [show 16 * (leadB β * 8 + 7) + (c - 384) = 128 * leadB β + (112 + (c - 384)) by omega,
        sees_iff h l1 hr (by omega)]
      omega
  · obtain ⟨c, hc400⟩ := c
    obtain ⟨c', hc400'⟩ := c'
    exact Fin.ext (slot_inj h hr ⟨t0, t1, t2, t3, t4⟩ hc400 hc400' hc hc' (congrArg Fin.val e))
  · obtain ⟨R, hR26⟩ := R
    have hR : Sees (128 * β + r) R := hR
    obtain ⟨β', r', hβ', hr', rfl⟩ : ∃ β' r', β' < 204 ∧ r' < 128 ∧ R = 128 * β' + r' :=
      ⟨R / 128, R % 128, by omega, by omega, by omega⟩
    rw [sees_iff h hβ' hr hr'] at hR
    obtain ⟨s1, s2, s3⟩ := hR
    have inj : ∀ b, b < 204 → seqB b = seqB β → placeB b = placeB β' → b = β' :=
      fun b hb e1 e2 => block_inj hb hβ' (e1.trans s1) e2
    have hl' := place_lt hβ'
    have hcount : countB β' = countB β := by unfold countB; rw [s1]
    by_cases near : -128 ≤ 128 * (placeB β : ℤ) + r - (128 * placeB β' + r') ∧ 128 * (placeB β : ℤ) + r - (128 * placeB β' + r') ≤ 128
    · rcases (show placeB β' + 1 = placeB β ∨ placeB β' = placeB β ∨ placeB β' = placeB β + 1 by omega) with q | q | q
      · obtain ⟨p1, p2, p3⟩ := hp (by omega)
        have := inj _ p1 p2 (by omega)
        refine ⟨⟨r', by omega⟩, ?_, Fin.ext ?_⟩
        · simp only [Vis, abs_le, lt_abs]; omega
        · show rowOf β r' = _
          unfold rowOf; rw [if_pos hr', this]
      · have := inj _ h rfl q.symm
        refine ⟨⟨128 + r', by omega⟩, ?_, Fin.ext ?_⟩
        · simp only [Vis, abs_le, lt_abs]; push_cast; omega
        · show rowOf β (128 + r') = 128 * β' + r'
          unfold rowOf; split_ifs <;> omega
      · obtain ⟨p1, p2, p3⟩ := hn (by omega)
        have := inj _ p1 p2 (by omega)
        refine ⟨⟨256 + r', by omega⟩, ?_, Fin.ext ?_⟩
        · simp only [Vis, abs_le, lt_abs]; push_cast; omega
        · show rowOf β (256 + r') = 128 * β' + r'
          unfold rowOf; split_ifs <;> omega
    · have := inj _ l1 l2 (by omega)
      refine ⟨⟨384 + (r' - 112), by omega⟩, ?_, Fin.ext ?_⟩
      · simp only [Vis, abs_le, lt_abs]; push_cast; omega
      · show rowOf β (384 + (r' - 112)) = 128 * β' + r'
        unfold rowOf; split_ifs <;> omega

/-- The four tables at a block: the block before, the block after, the block of the first positions, and the case of
its bias, whose place and count tell the tile what it needs. -/
theorem tables (β : Fin 204) :
    (KernelIdeal.lit0 β).toNat = prevB β ∧ (KernelIdeal.lit1 β).toNat = nextB β ∧ (KernelIdeal.lit2 β).toNat = leadB β ∧
      (KernelIdeal.lit3 β).toNat < 5 := by
  revert β; decide +kernel

/-- The case of a block's bias. -/
noncomputable def caseB (β : Fin 204) : Fin 5 := ⟨(KernelIdeal.lit3 β).toNat, (tables β).2.2.2⟩

/-- The place and the count of a block's case. -/
theorem tells (β : Fin 204) : Tells β (KernelIdeal.lit4 (caseB β)).toNat (KernelIdeal.lit5 (caseB β)).toNat := by
  have : ∀ β : Fin 204, ((KernelIdeal.lit4 (caseB β)).toNat = 0 ↔ placeB β = 0) ∧ ((KernelIdeal.lit4 (caseB β)).toNat = 1 ↔ placeB β = 1) ∧
      (KernelIdeal.lit4 (caseB β)).toNat < (KernelIdeal.lit5 (caseB β)).toNat ∧
      ((KernelIdeal.lit4 (caseB β)).toNat + 1 < (KernelIdeal.lit5 (caseB β)).toNat ↔ placeB β + 1 < countB β) := by
    decide +kernel
  obtain ⟨h1, h2, h3, h4⟩ := this β
  exact ⟨by omega, by omega, by omega, by omega, by omega⟩

/-- A case's place and count are small. -/
theorem case_small (k : Fin 5) : (KernelIdeal.lit4 k).toNat ≤ 65 ∧ (KernelIdeal.lit5 k).toNat ≤ 65 := by
  revert k; decide +kernel

end Cert.Seen
-- ==== Proof.AttnIdeal.BlocksAt.lean ====
module

public import proofs.«01_k».proof.Proof.AttnIdeal.Frame
public import proofs.«01_k».proof.Proof.AttnIdeal.Tables
public import proofs.«01_k».proof.Proof.Seen
public import Idealize.ShloMosaic.Lib.Pipeline.Value
public import Idealize.ShloMosaic.Lib.Pointwise

@[expose] public section

set_option maxRecDepth 16384

noncomputable section

/-!
# The blocks a grid point reads

Where each element of a point's blocks lies in the array it is a block of.
-/

namespace Cert.KernelIdeal.Attn

open Cert.KernelIdeal.Gen
open Idealize.ShloMosaic Idealize.ShloMosaic.TcCoe
open Idealize.SL.Sem
open Cert.Seen

/-- Block `b` of grid point `t`. -/
def blockAt (t : Fin 51) (b : Fin 4) : Fin 204 := ⟨4 * t + b, by omega⟩

/-- Where the bias of block `b` is. -/
def biasIndex (pf : pre0.Contents (Elt Ideal)) (b : Fin 4) : grid0.Coords → Fin 3 → ℕ :=
  match b with
  | 0 => cc0_transform_3 (F := Ideal) k0_off1_inb numel1_S1 pf
  | 1 => cc0_transform_4 (F := Ideal) k0_off1_inb numel1_S1 pf
  | 2 => cc0_transform_5 (F := Ideal) k0_off1_inb numel1_S1 pf
  | 3 => cc0_transform_6 (F := Ideal) k0_off1_inb numel1_S1 pf

/-- Where the block before block `b` is. -/
def prevIndex (pf : pre0.Contents (Elt Ideal)) (b : Fin 4) : grid0.Coords → Fin 2 → ℕ :=
  match b with
  | 0 => cc0_transform_7 (F := Ideal) k0_off1_inb numel1_S1 pf
  | 1 => cc0_transform_10 (F := Ideal) k0_off1_inb numel1_S1 pf
  | 2 => cc0_transform_13 (F := Ideal) k0_off1_inb numel1_S1 pf
  | 3 => cc0_transform_16 (F := Ideal) k0_off1_inb numel1_S1 pf

/-- Where the block after block `b` is. -/
def nextIndex (pf : pre0.Contents (Elt Ideal)) (b : Fin 4) : grid0.Coords → Fin 2 → ℕ :=
  match b with
  | 0 => cc0_transform_8 (F := Ideal) k0_off1_inb numel1_S1 pf
  | 1 => cc0_transform_11 (F := Ideal) k0_off1_inb numel1_S1 pf
  | 2 => cc0_transform_14 (F := Ideal) k0_off1_inb numel1_S1 pf
  | 3 => cc0_transform_17 (F := Ideal) k0_off1_inb numel1_S1 pf

/-- Where the first positions of the sequence of block `b` are. -/
def leadIndex (pf : pre0.Contents (Elt Ideal)) (b : Fin 4) : grid0.Coords → Fin 2 → ℕ :=
  match b with
  | 0 => cc0_transform_9 (F := Ideal) k0_off1_inb numel1_S1 pf
  | 1 => cc0_transform_12 (F := Ideal) k0_off1_inb numel1_S1 pf
  | 2 => cc0_transform_15 (F := Ideal) k0_off1_inb numel1_S1 pf
  | 3 => cc0_transform_18 (F := Ideal) k0_off1_inb numel1_S1 pf

/-- The tables send the windows of block `b` where its bias, its neighbours and its sequence's first positions are. -/
theorem index_tables (t : Fin grid0.N) (b : Fin 4) :
    (∀ a, biasIndex words b (grid0.coords t) a = ![(caseB (blockAt t b) : ℕ), 0, 0] a) ∧
    (∀ a, prevIndex words b (grid0.coords t) a = ![prevB (blockAt t b), 4] a) ∧
    (∀ a, nextIndex words b (grid0.coords t) a = ![nextB (blockAt t b), 4] a) ∧
    (∀ a, leadIndex words b (grid0.coords t) a = ![leadB (blockAt t b) * 8 + 7, 4] a) := by
  revert t b; decide +kernel

/-- The windows that no table drives are at the grid point's rows. -/
theorem index_plain (t : Fin grid0.N) :
    (∀ a, cc0_transform_1 (grid0.coords t) a = ![(t : ℕ), 0] a) ∧ (∀ a, cc0_transform_2 (grid0.coords t) a = ![(t : ℕ), 4] a) ∧
    (∀ a, cc0_transform_19 (grid0.coords t) a = ![(t : ℕ), 0] a) := by
  revert t; decide +kernel

variable (m : (ℓ : Loc nD τ sig) → Buf (Elt Ideal) ℓ) (hO : Ok m) (c : Dev nD)

/-- The biases that a grid point reads for its four blocks. -/
def biasBlk (t : Fin (cfgM m hO).N) (b : Fin 4) : Vec Ideal S1x400x128 .f32 :=
  match b with
  | 0 => iblk m hO c 3 t | 1 => iblk m hO c 4 t | 2 => iblk m hO c 5 t | 3 => iblk m hO c 6 t

/-- The blocks before its four blocks. -/
def prevBlk (t : Fin (cfgM m hO).N) (b : Fin 4) : Vec Ideal S128x1024 .bf16 :=
  match b with
  | 0 => iblk m hO c 7 t | 1 => iblk m hO c 10 t | 2 => iblk m hO c 13 t | 3 => iblk m hO c 16 t

/-- The blocks after its four blocks. -/
def nextBlk (t : Fin (cfgM m hO).N) (b : Fin 4) : Vec Ideal S128x1024 .bf16 :=
  match b with
  | 0 => iblk m hO c 8 t | 1 => iblk m hO c 11 t | 2 => iblk m hO c 14 t | 3 => iblk m hO c 17 t

/-- The first positions of the sequences of its four blocks. -/
def leadBlk (t : Fin (cfgM m hO).N) (b : Fin 4) : Vec Ideal S16x1024 .bf16 :=
  match b with
  | 0 => iblk m hO c 9 t | 1 => iblk m hO c 12 t | 2 => iblk m hO c 15 t | 3 => iblk m hO c 18 t

/-- An element of a window's block lies in the array at the block's place plus its own. -/
theorem emb_eq {G : Pipeline.Grid} (w : Pipeline.Window sig G) (t : Fin G.N) (hk : w.kind = .blocked) (y : (w.xblock (G.coords t)).Idx)
    (z : w.shape.Idx) (h : ∀ a, w.index t a * w.size a + y a = (z a : ℕ)) : (w.rect t).emb y = z :=
  funext fun a => Fin.ext ((Pipeline.Window.rect_emb_val w t y a hk).trans (h a))

/-- The place of an element of a block of rows of the keys and values. -/
theorem place_rows (n p : ℕ) (f : Fin 2 → ℕ) (hf : ∀ a, f a = ![p, 4] a) (i : Fin n) (j : Fin 1024) (h : n * p + i < 26112)
    (h' : 4096 + (j : ℕ) < 5120) (a : Fin 2) :
    f a * (![n, 1024] : Fin 2 → ℕ) a + (ix2 i j : (⟨2, ![n, 1024]⟩ : Shape).Idx) a =
      ((ix2 (⟨n * p + i, h⟩ : Fin 26112) (⟨4096 + j, h'⟩ : Fin 5120) : S26112x5120.Idx) a : ℕ) := by
  rw [hf]
  match a with
  | 0 => show p * n + i = n * p + i; rw [Nat.mul_comm]
  | 1 => show 4 * 1024 + (j : ℕ) = 4096 + j; omega

set_option maxHeartbeats 2000000 in
/-- An element of the block before. -/
theorem prevBlk_at (t : Fin (cfgM m hO).N) (b : Fin 4) (i : Fin 128) (j : Fin 1024) (h : 128 * prevB (blockAt t b) + i < 26112) :
    prevBlk m hO c t b (ix2 i j) = V m c main_v13 (ix2 ⟨128 * prevB (blockAt t b) + i, h⟩ ⟨4096 + j, by omega⟩) := by
  have hz := fun b (h : 128 * prevB (blockAt t b) + (i : ℕ) < 26112) => place_rows 128 (prevB (blockAt t b)) _ (fun a => (congrFun (congrArg (fun T => prevIndex T b (grid0.coords t)) (tbl_eq m)) a).trans ((index_tables t b).2.1 a)) i j h (by omega)
  revert h
  match b with
  | 0 => exact fun h => congrArg (V m c main_v13) (emb_eq ((cfgM m hO).win 7) t rfl (ix2 i j) _ (hz 0 h))
  | 1 => exact fun h => congrArg (V m c main_v13) (emb_eq ((cfgM m hO).win 10) t rfl (ix2 i j) _ (hz 1 h))
  | 2 => exact fun h => congrArg (V m c main_v13) (emb_eq ((cfgM m hO).win 13) t rfl (ix2 i j) _ (hz 2 h))
  | 3 => exact fun h => congrArg (V m c main_v13) (emb_eq ((cfgM m hO).win 16) t rfl (ix2 i j) _ (hz 3 h))

set_option maxHeartbeats 2000000 in
/-- An element of the block after. -/
theorem nextBlk_at (t : Fin (cfgM m hO).N) (b : Fin 4) (i : Fin 128) (j : Fin 1024) (h : 128 * nextB (blockAt t b) + i < 26112) :
    nextBlk m hO c t b (ix2 i j) = V m c main_v13 (ix2 ⟨128 * nextB (blockAt t b) + i, h⟩ ⟨4096 + j, by omega⟩) := by
  have hz := fun b (h : 128 * nextB (blockAt t b) + (i : ℕ) < 26112) => place_rows 128 (nextB (blockAt t b)) _ (fun a => (congrFun (congrArg (fun T => nextIndex T b (grid0.coords t)) (tbl_eq m)) a).trans ((index_tables t b).2.2.1 a)) i j h (by omega)
  revert h
  match b with
  | 0 => exact fun h => congrArg (V m c main_v13) (emb_eq ((cfgM m hO).win 8) t rfl (ix2 i j) _ (hz 0 h))
  | 1 => exact fun h => congrArg (V m c main_v13) (emb_eq ((cfgM m hO).win 11) t rfl (ix2 i j) _ (hz 1 h))
  | 2 => exact fun h => congrArg (V m c main_v13) (emb_eq ((cfgM m hO).win 14) t rfl (ix2 i j) _ (hz 2 h))
  | 3 => exact fun h => congrArg (V m c main_v13) (emb_eq ((cfgM m hO).win 17) t rfl (ix2 i j) _ (hz 3 h))

set_option maxHeartbeats 2000000 in
/-- An element of the first positions. -/
theorem leadBlk_at (t : Fin (cfgM m hO).N) (b : Fin 4) (i : Fin 16) (j : Fin 1024) (h : 16 * (leadB (blockAt t b) * 8 + 7) + i < 26112) :
    leadBlk m hO c t b (ix2 i j) = V m c main_v13 (ix2 ⟨16 * (leadB (blockAt t b) * 8 + 7) + i, h⟩ ⟨4096 + j, by omega⟩) := by
  have hz := fun b (h : 16 * (leadB (blockAt t b) * 8 + 7) + (i : ℕ) < 26112) => place_rows 16 (leadB (blockAt t b) * 8 + 7) _ (fun a => (congrFun (congrArg (fun T => leadIndex T b (grid0.coords t)) (tbl_eq m)) a).trans ((index_tables t b).2.2.2 a)) i j h (by omega)
  revert h
  match b with
  | 0 => exact fun h => congrArg (V m c main_v13) (emb_eq ((cfgM m hO).win 9) t rfl (ix2 i j) _ (hz 0 h))
  | 1 => exact fun h => congrArg (V m c main_v13) (emb_eq ((cfgM m hO).win 12) t rfl (ix2 i j) _ (hz 1 h))
  | 2 => exact fun h => congrArg (V m c main_v13) (emb_eq ((cfgM m hO).win 15) t rfl (ix2 i j) _ (hz 2 h))
  | 3 => exact fun h => congrArg (V m c main_v13) (emb_eq ((cfgM m hO).win 18) t rfl (ix2 i j) _ (hz 3 h))

set_option maxHeartbeats 2000000 in
/-- An element of the biases. -/
theorem biasBlk_at (t : Fin (cfgM m hO).N) (b : Fin 4) (i : Fin 400) (j : Fin 128) :
    biasBlk m hO c t b (ix3 0 i j) = V m c main_v51 (ix3 (caseB (blockAt t b)) i j) := by
  have hz : ∀ (b : Fin 4) (a : Fin 3), biasIndex (tbl m) b (grid0.coords t) a * S1x400x128.size a + (ix3 0 i j : S1x400x128.Idx) a =
      ((ix3 (caseB (blockAt t b)) i j : S5x400x128.Idx) a : ℕ) := by
    intro b a
    have hi : ∀ a, biasIndex (tbl m) b (grid0.coords t) a = _ := fun a => (congrFun (congrArg (fun T => biasIndex T b (grid0.coords t)) (tbl_eq m)) a).trans ((index_tables t b).1 a)
    rw [hi]
    match a with
    | 0 => show (caseB (blockAt t b) : ℕ) * 1 + 0 = caseB (blockAt t b); omega
    | 1 => show 0 * 400 + (i : ℕ) = i; omega
    | 2 => show 0 * 128 + (j : ℕ) = j; omega
  match b with
  | 0 => exact congrArg (V m c main_v51) (emb_eq ((cfgM m hO).win 3) t rfl (ix3 0 i j) _ (hz 0))
  | 1 => exact congrArg (V m c main_v51) (emb_eq ((cfgM m hO).win 4) t rfl (ix3 0 i j) _ (hz 1))
  | 2 => exact congrArg (V m c main_v51) (emb_eq ((cfgM m hO).win 5) t rfl (ix3 0 i j) _ (hz 2))
  | 3 => exact congrArg (V m c main_v51) (emb_eq ((cfgM m hO).win 6) t rfl (ix3 0 i j) _ (hz 3))

/-- An element of the point's own keys and values. -/
theorem ownBlk_at (t : Fin (cfgM m hO).N) (i : Fin 512) (j : Fin 1024) (h : 512 * (t : ℕ) + i < 26112) :
    iblk m hO c 2 t (ix2 i j) = V m c main_v13 (ix2 ⟨512 * t + i, h⟩ ⟨4096 + j, by omega⟩) :=
  congrArg (V m c main_v13) (emb_eq ((cfgM m hO).win 2) t rfl (ix2 i j) _
    (place_rows 512 t _ (fun a => (index_plain t).2.1 a) i j h (by omega)))

/-- An element of the point's own queries and gates. -/
theorem qzBlk_at (t : Fin (cfgM m hO).N) (i : Fin 512) (j : Fin 4096) (h : 512 * (t : ℕ) + i < 26112) :
    X0_1 m hO c t (ix2 i j) = V m c main_v13 (ix2 ⟨512 * t + i, h⟩ ⟨j, by omega⟩) := by
  have hz : ∀ a : Fin 2, cc0_transform_1 (grid0.coords t) a * S512x4096.size a + (ix2 i j : S512x4096.Idx) a =
      ((ix2 (⟨512 * t + i, h⟩ : Fin 26112) (⟨j, by omega⟩ : Fin 5120) : S26112x5120.Idx) a : ℕ) := by
    intro a
    rw [(index_plain t).1]
    match a with
    | 0 => show (t : ℕ) * 512 + i = 512 * t + i; omega
    | 1 => show 0 * 4096 + (j : ℕ) = j; omega
  unfold X0_1 Pipeline.Window.fill
  rw [dif_pos (moved0_1 m hO t (ix2 i j))]
  exact congrArg (V m c main_v13) (emb_eq ((cfgM m hO).win 1) t rfl _ _ hz)

/-- The sinks are read whole. -/
theorem sinkBlk_at (t : Fin (cfgM m hO).N) (i : Fin 16) :
    iblk m hO c 0 t (ix1 i) = V m c main_arg4 (ix1 i) := by
  have hz : ∀ a : Fin 1, cc0_transform_0 (grid0.coords t) a * S16.size a + (ix1 i : S16.Idx) a = ((ix1 i : S16.Idx) a : ℕ) := by
    intro a
    match a with
    | 0 => show 0 * 16 + (i : ℕ) = i; omega
  exact congrArg (V m c main_arg4) (emb_eq ((cfgM m hO).win 0) t rfl (ix1 i) _ hz)

end Cert.KernelIdeal.Attn

end
-- ==== Proof.AttnIdeal.Tile.lean ====
module

public import proofs.«01_k».proof.Proof.AttnIdeal.Frame
public import Idealize.ShloMosaic.Lib.Pipeline.Value

@[expose] public section

set_option maxRecDepth 16384

noncomputable section

/-!
# What one grid point of the attention kernel stores

The body at a grid point stores 64 tiles of 128 × 128: one for each of its four blocks of rows, four key heads and
four query heads of a key head.  All of them are the one function `tile` of the point's blocks.
-/

namespace Cert.KernelIdeal.Attn

open Cert.KernelIdeal.Gen
open Idealize.ShloMosaic Idealize.ShloMosaic.TcCoe

variable {F : FTy → Type} [FloatOps F] [Named F]

theorem inb_rows (b : Fin 4) (c : ℕ) (hc : c + 128 ≤ 1024) :
    ∀ a, (![128 * b.val, c] : Fin 2 → ℕ) a + S128x128.size a ≤ S512x1024.size a := by
  have := b.isLt
  intro a
  match a with
  | ⟨0, _⟩ => show 128 * b.val + 128 ≤ 512; omega
  | ⟨1, _⟩ => show c + 128 ≤ 1024; omega

theorem inb_qz (b : Fin 4) (c : ℕ) (hc : c + 128 ≤ 4096) :
    ∀ a, (![128 * b.val, c] : Fin 2 → ℕ) a + S128x128.size a ≤ S512x4096.size a := by
  have := b.isLt
  intro a
  match a with
  | ⟨0, _⟩ => show 128 * b.val + 128 ≤ 512; omega
  | ⟨1, _⟩ => show c + 128 ≤ 4096; omega

theorem inb_out (b : Fin 4) (c : ℕ) (hc : c + 128 ≤ 2048) :
    ∀ a, (![128 * b.val, c] : Fin 2 → ℕ) a + (![128, 128] : Fin 2 → ℕ) a ≤ S512x2048.size a := by
  have := b.isLt
  intro a
  match a with
  | ⟨0, _⟩ => show 128 * b.val + 128 ≤ 512; omega
  | ⟨1, _⟩ => show c + 128 ≤ 2048; omega

theorem inb_nbr (c : ℕ) (hc : c + 128 ≤ 1024) :
    ∀ a, (![0, c] : Fin 2 → ℕ) a + S128x128.size a ≤ S128x1024.size a := by
  intro a
  match a with
  | ⟨0, _⟩ => show 0 + 128 ≤ 128; omega
  | ⟨1, _⟩ => show c + 128 ≤ 1024; omega

theorem inb_lead (c : ℕ) (hc : c + 128 ≤ 1024) :
    ∀ a, (![0, c] : Fin 2 → ℕ) a + S16x128.size a ≤ S16x1024.size a := by
  intro a
  match a with
  | ⟨0, _⟩ => show 0 + 16 ≤ 16; omega
  | ⟨1, _⟩ => show c + 128 ≤ 1024; omega

theorem inb_sink (H : ℕ) (hH : H < 16) : ∀ a, (![H] : Fin 1 → ℕ) a + S1.size a ≤ S16.size a := by
  intro a
  match a with
  | ⟨0, _⟩ => show H + 1 ≤ 16; omega

theorem first_sink (H : ℕ) (hH : H < 16) : 0 < (Rect.unit (s := S16) ![H] S1.size (inb_sink H hH)).shape.numel := by
  show 0 < S1.numel; decide

theorem slices_scores (g : Fin 4) : S400x512.Slices ![0, 128 * g.val] S400x128 := by
  revert g; decide

theorem slices_outs (g : Fin 4) : S128x512.Slices ![0, 128 * g.val] S128x128 := by
  revert g; decide

/-- The 400 key (or value) rows a block attends to: the block before, its own, the block after, the lead's rows. -/
def rows400 (own : Vec F S512x1024 .bf16) (prv nxt : Vec F S128x1024 .bf16) (led : Vec F S16x1024 .bf16)
    (b : Fin 4) (c : ℕ) (hc : c + 128 ≤ 1024) : FVec F S400x128 .bf16 :=
  concatenate S400x128 0
    [⟨S128x128, shapeCast S128x128 (View.ld prv (Rect.unit ![0, c] S128x128.size (inb_nbr c hc))) shapeCasts_S128x128_S128x128⟩,
     ⟨S128x128, shapeCast S128x128 (View.ld own (Rect.unit ![128 * b.val, c] S128x128.size (inb_rows b c hc))) shapeCasts_S128x128_S128x128⟩,
     ⟨S128x128, shapeCast S128x128 (View.ld nxt (Rect.unit ![0, c] S128x128.size (inb_nbr c hc))) shapeCasts_S128x128_S128x128⟩,
     ⟨S16x128, shapeCast S16x128 (View.ld led (Rect.unit ![0, c] S16x128.size (inb_lead c hc))) shapeCasts_S16x128_S16x128⟩]
    concatenates_S128x128_S128x128_S128x128_S16x128_S400x128_d0

/-- A 128 × 128 tile of the queries and gates: block `b`'s rows, from column `c` on. -/
def tileQz (qz : Vec F S512x4096 .bf16) (b : Fin 4) (c : ℕ) (hc : c + 128 ≤ 4096) : FVec F S128x128 .bf16 :=
  shapeCast S128x128 (View.ld qz (Rect.unit ![128 * b.val, c] S128x128.size (inb_qz b c hc))) shapeCasts_S128x128_S128x128

/-- The queries of the four heads of key head `h`, stacked. -/
def queries (qz : Vec F S512x4096 .bf16) (b h : Fin 4) : FVec F S512x128 .bf16 :=
  concatenate S512x128 0
    [⟨S128x128, tileQz qz b (512 * h.val) (by have := h.isLt; omega)⟩,
     ⟨S128x128, tileQz qz b (512 * h.val + 128) (by have := h.isLt; omega)⟩,
     ⟨S128x128, tileQz qz b (512 * h.val + 256) (by have := h.isLt; omega)⟩,
     ⟨S128x128, tileQz qz b (512 * h.val + 384) (by have := h.isLt; omega)⟩]
    concatenates_S128x128_S128x128_S128x128_S128x128_S512x128_d0

/-- The products of every key with every query of the four heads. -/
def products (ks : FVec F S400x128 .bf16) (qs : FVec F S512x128 .bf16) : FVec F S400x512 .f32 :=
  matmul dot_S400x128_S512x128_S400x512_1_1_0_0_n_n none ks qs (constant S400x512 .f32 0x00000000#32)

/-- One head's scores: its 128 columns of the products with the bias added. -/
def scores (pr : FVec F S400x512 .f32) (bias : Vec F S1x400x128 .f32) (g : Fin 4) : FVec F S400x128 .f32 :=
  addf (extractStridedSlice S400x128 ![0, 128 * g.val] pr (slices_scores g))
    (shapeCast S400x128 (View.ld bias (Rect.unit ![0, 0, 0] S1x400x128.size inb_S1x400x128_S1x400x128_0_0_0))
      shapeCasts_S1x400x128_S400x128)

/-- A head's sink, scaled to base two. -/
def sinkOf (sink : Vec F S16 .f32) (H : ℕ) (hH : H < 16) : F .f32 :=
  Scalar.mulf (View.ld sink (Rect.unit ![H] S1.size (inb_sink H hH)) (Shape.Idx.first (first_sink H hH)))
    (Named.named κ "log2e" 0x3FB8AA3B#32)

/-- The greatest of a query's scores and its sink. -/
def peak (s : FVec F S400x128 .f32) (sk : F .f32) : FVec F S1x128 .f32 :=
  maximumf
    (shapeCast S1x128
      (multiReduction .maximumf [0] S128
        (multiReduction .maximumf [0] S80x128 (shapeCast S5x80x128 s shapeCasts_S400x128_S5x80x128) 0xFF800000#32
          reduces_S5x80x128_S80x128 (.inl rfl) rfl)
        0xFF800000#32 reduces_S80x128_S128 (.inl rfl) rfl)
      shapeCasts_S128_S1x128)
    (broadcast S1x128 sk)

/-- The weights before they are divided by their total. -/
def weights (s : FVec F S400x128 .f32) (sk : F .f32) : FVec F S400x128 .f32 :=
  exp2 (subf s (broadcastTo S400x128 (peak s sk) broadcasts_S1x128_S400x128))

/-- One over the total of the weights and the sink's weight. -/
def scaleOf (s : FVec F S400x128 .f32) (sk : F .f32) : FVec F S1x128 .f32 :=
  divf (broadcast S1x128 (Scalar.ofBits .f32 0x3F800000#32))
    (addf
      (shapeCast S1x128
        (multiReduction .add [0] S128
          (multiReduction .add [0] S80x128 (shapeCast S5x80x128 (weights s sk) shapeCasts_S400x128_S5x80x128) 0x00000000#32
            reduces_S5x80x128_S80x128 (.inl rfl) rfl)
          0x00000000#32 reduces_S80x128_S128 (.inl rfl) rfl)
        shapeCasts_S128_S1x128)
      (exp2 (subf (broadcast S1x128 sk) (peak s sk))))

/-- The attention of the four heads of one key head, transposed: features by queries. -/
def heads (vs : FVec F S400x128 .bf16) (s : Fin 4 → FVec F S400x128 .f32) (sk : Fin 4 → F .f32) : FVec F S128x512 .f32 :=
  mulf
    (matmul dot_S400x128_S400x512_S128x512_0_0_1_1_n_n none vs
      (concatenate S400x512 1
        [⟨S400x128, truncf .bf16 (weights (s 0) (sk 0)) bitsLt_bf16_f32⟩,
         ⟨S400x128, truncf .bf16 (weights (s 1) (sk 1)) bitsLt_bf16_f32⟩,
         ⟨S400x128, truncf .bf16 (weights (s 2) (sk 2)) bitsLt_bf16_f32⟩,
         ⟨S400x128, truncf .bf16 (weights (s 3) (sk 3)) bitsLt_bf16_f32⟩]
        concatenates_S400x128_S400x128_S400x128_S400x128_S400x512_d1)
      (constant S128x512 .f32 0x00000000#32))
    (broadcastTo S128x512
      (concatenate S1x512 1
        [⟨S1x128, scaleOf (s 0) (sk 0)⟩, ⟨S1x128, scaleOf (s 1) (sk 1)⟩,
         ⟨S1x128, scaleOf (s 2) (sk 2)⟩, ⟨S1x128, scaleOf (s 3) (sk 3)⟩]
        concatenates_S1x128_S1x128_S1x128_S1x128_S1x512_d1)
      broadcasts_S1x512_S128x512)

/-- The attention of block `b`, key head `h`, from the point's blocks. -/
def headsOf (sink : Vec F S16 .f32) (qz : Vec F S512x4096 .bf16) (own : Vec F S512x1024 .bf16) (bias : Vec F S1x400x128 .f32)
    (prv nxt : Vec F S128x1024 .bf16) (led : Vec F S16x1024 .bf16) (b h : Fin 4) : FVec F S128x512 .f32 :=
  heads (rows400 own prv nxt led b (512 + 128 * h.val) (by have := h.isLt; omega))
    (fun g => scores (products (rows400 own prv nxt led b (128 * h.val) (by have := h.isLt; omega)) (queries qz b h)) bias g)
    (fun g => sinkOf sink (4 * h.val + g.val) (by have := h.isLt; have := g.isLt; omega))

/-- The tile of block `b`, key head `h` and its query head `g`: the attention turned back and multiplied by the gate. -/
def tile (sink : Vec F S16 .f32) (qz : Vec F S512x4096 .bf16) (own : Vec F S512x1024 .bf16) (bias : Vec F S1x400x128 .f32)
    (prv nxt : Vec F S128x1024 .bf16) (led : Vec F S16x1024 .bf16) (b h g : Fin 4) : FVec F S128x128 .bf16 :=
  truncf .bf16
    (mulf
      (transpose S128x128 [1, 0]
        (extractStridedSlice S128x128 ![0, 128 * g.val] (headsOf sink qz own bias prv nxt led b h) (slices_outs g))
        transposes_S128x128_p1_0_S128x128)
      (extf .f32 (tileQz qz b (2048 + 128 * (4 * h.val + g.val)) (by have := h.isLt; have := g.isLt; omega)) bitsLt_bf16_f32))
    bitsLt_bf16_f32

/-- The tile as a store: where it goes and what it holds. -/
def piece (sink : Vec F S16 .f32) (qz : Vec F S512x4096 .bf16) (own : Vec F S512x1024 .bf16) (bias : Vec F S1x400x128 .f32)
    (prv nxt : Vec F S128x1024 .bf16) (led : Vec F S16x1024 .bf16) (b h g : Fin 4) : View.Piece (Elt F) S512x2048 .bf16 :=
  ⟨Rect.unit ![128 * b.val, 128 * (4 * h.val + g.val)] ![128, 128] (inb_out b _ (by have := h.isLt; have := g.isLt; omega)),
    tile sink qz own bias prv nxt led b h g⟩

/-- The 16 stores of one block, last first. -/
def pieces (sink : Vec F S16 .f32) (qz : Vec F S512x4096 .bf16) (own : Vec F S512x1024 .bf16) (bias : Vec F S1x400x128 .f32)
    (prv nxt : Vec F S128x1024 .bf16) (led : Vec F S16x1024 .bf16) (b : Fin 4) : List (View.Piece (Elt F) S512x2048 .bf16) :=
  [piece sink qz own bias prv nxt led b 3 3, piece sink qz own bias prv nxt led b 3 2,
   piece sink qz own bias prv nxt led b 3 1, piece sink qz own bias prv nxt led b 3 0,
   piece sink qz own bias prv nxt led b 2 3, piece sink qz own bias prv nxt led b 2 2,
   piece sink qz own bias prv nxt led b 2 1, piece sink qz own bias prv nxt led b 2 0,
   piece sink qz own bias prv nxt led b 1 3, piece sink qz own bias prv nxt led b 1 2,
   piece sink qz own bias prv nxt led b 1 1, piece sink qz own bias prv nxt led b 1 0,
   piece sink qz own bias prv nxt led b 0 3, piece sink qz own bias prv nxt led b 0 2,
   piece sink qz own bias prv nxt led b 0 1, piece sink qz own bias prv nxt led b 0 0]

end Cert.KernelIdeal.Attn

end
-- ==== Proof.AttnIdeal.Pieces.lean ====
module

public import proofs.«01_k».proof.Proof.AttnIdeal.Tile

@[expose] public section

set_option maxRecDepth 16384

noncomputable section

/-!
# A grid point's stores, all 64 of them, are the tiles of its four blocks
-/

namespace Cert.KernelIdeal.Attn

open Cert.KernelIdeal.Gen
open Idealize.ShloMosaic Idealize.ShloMosaic.TcCoe

variable {F : FTy → Type} [FloatOps F] [Named F]

set_option maxHeartbeats 4000000 in
/-- The stores of a grid point are the tiles of its four blocks. -/
theorem pieces_eq (c : Dev nD) (i : grid0.Coords) (arg5 : Memref sig .tc .smem S16 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S1x400x128 .f32) (harg8 : arg8.IsWhole) (arg9 : Memref sig .tc .vmem S1x400x128 .f32) (harg9 : arg9.IsWhole) (arg10 : Memref sig .tc .vmem S1x400x128 .f32) (harg10 : arg10.IsWhole) (arg11 : Memref sig .tc .vmem S1x400x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S16x1024 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S16x1024 .bf16) (harg17 : arg17.IsWhole) (arg18 : Memref sig .tc .vmem S128x1024 .bf16) (harg18 : arg18.IsWhole) (arg19 : Memref sig .tc .vmem S128x1024 .bf16) (harg19 : arg19.IsWhole) (arg20 : Memref sig .tc .vmem S16x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S16x1024 .bf16) (harg23 : arg23.IsWhole) (arg24 : Memref sig .tc .vmem S512x2048 .bf16) (harg24 : arg24.IsWhole)
    (x0 : Vec F S16 .f32) (x1 : Vec F S512x4096 .bf16) (x2 : Vec F S512x1024 .bf16) (x3 : Vec F S1x400x128 .f32) (x4 : Vec F S1x400x128 .f32) (x5 : Vec F S1x400x128 .f32) (x6 : Vec F S1x400x128 .f32) (x7 : Vec F S128x1024 .bf16) (x8 : Vec F S128x1024 .bf16) (x9 : Vec F S16x1024 .bf16) (x10 : Vec F S128x1024 .bf16) (x11 : Vec F S128x1024 .bf16) (x12 : Vec F S16x1024 .bf16) (x13 : Vec F S128x1024 .bf16) (x14 : Vec F S128x1024 .bf16) (x15 : Vec F S16x1024 .bf16) (x16 : Vec F S128x1024 .bf16) (x17 : Vec F S128x1024 .bf16) (x18 : Vec F S16x1024 .bf16) (xt0 : TbBuf0 (F := F) c tbM0_0) (xt1 : TbBuf0 (F := F) c tbM0_1) (xt2 : TbBuf0 (F := F) c tbM0_2) (xt3 : TbBuf0 (F := F) c tbM0_3)  :
    (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3).1 =
      (fun sink qz own => pieces sink qz own (arg11.view.read (Elt F) (harg11.unread x6)) (arg21.view.read (Elt F) (harg21.unread x16))
          (arg22.view.read (Elt F) (harg22.unread x17)) (arg23.view.read (Elt F) (harg23.unread x18)) 3
        ++ (pieces sink qz own (arg10.view.read (Elt F) (harg10.unread x5)) (arg18.view.read (Elt F) (harg18.unread x13))
          (arg19.view.read (Elt F) (harg19.unread x14)) (arg20.view.read (Elt F) (harg20.unread x15)) 2
        ++ (pieces sink qz own (arg9.view.read (Elt F) (harg9.unread x4)) (arg15.view.read (Elt F) (harg15.unread x10))
          (arg16.view.read (Elt F) (harg16.unread x11)) (arg17.view.read (Elt F) (harg17.unread x12)) 1
        ++ pieces sink qz own (arg8.view.read (Elt F) (harg8.unread x3)) (arg12.view.read (Elt F) (harg12.unread x7))
          (arg13.view.read (Elt F) (harg13.unread x8)) (arg14.view.read (Elt F) (harg14.unread x9)) 0)))
        (arg5.view.read (Elt F) (harg5.unread x0)) (arg6.view.read (Elt F) (harg6.unread x1)) (arg7.view.read (Elt F) (harg7.unread x2)) := by
  unfold kernelRun0_A
  dsimp only [pieces, List.cons_append, List.nil_append]
  iterate 64 (refine congrArg₂ List.cons (by rfl) ?_)
  rfl

end Cert.KernelIdeal.Attn

end
-- ==== Proof.AttnIdeal.TileAt.lean ====
module

public import proofs.«01_k».proof.Proof.AttnIdeal.Pieces
public import proofs.«01_k».proof.Proof.Seen
public import Idealize.ShloMosaic.Lib.Pointwise

@[expose] public section

set_option maxRecDepth 16384

noncomputable section

/-!
# The elements of one tile

An element of a tile, at the ideal: a sum over the tile's 400 slots of the values times powers of two, times one over the
total of these powers, times the gate.
-/

namespace Cert.KernelIdeal.Attn

open Cert.KernelIdeal.Gen
open Idealize.ShloMosaic Idealize.ShloMosaic.TcCoe
open Cert.Seen

theorem ofBits_neg_inf : Idealize.ShloMosaic.Ideal.ofBits .f32 4286578688#32 = (⊥ : EReal) := by
  simp [Ideal.ofBits, Ideal.ieee]

/-- The greatest of a query's scores and its sink. -/
theorem peak_at (s : FVec Ideal S400x128 .f32) (sk : Ideal .f32) (r : Fin 128) :
    (peak s sk (ix2 0 r) : EReal) = max ((Finset.univ : Finset (Fin 400)).fold max (⊥ : EReal) (fun c => s (ix2 c r))) sk := by
  pointwise [peak]
  simp only [ofBits_neg_inf]
  exact congrArg (max · sk) (Softmax.fold_max_groups (fun c => s (ix2 c r)) _)

/-- A weight. -/
theorem weights_at (s : FVec Ideal S400x128 .f32) (sk : Ideal .f32) (c : Fin 400) (r : Fin 128) :
    (weights s sk (ix2 c r) : EReal) = Ideal.exp2 (s (ix2 c r) - peak s sk (ix2 0 r)) := by
  pointwise [weights]
  rfl

/-- One over the total. -/
theorem scaleOf_at (s : FVec Ideal S400x128 .f32) (sk : Ideal .f32) (r : Fin 128) :
    (scaleOf s sk (ix2 0 r) : EReal) =
      Ideal.div 1 ((∑ c : Fin 400, weights s sk (ix2 c r)) + Ideal.exp2 (sk - peak s sk (ix2 0 r))) := by
  pointwise [scaleOf]
  refine congrArg (Ideal.div 1) (congrArg₂ (· + ·) ?_ rfl)
  exact Softmax.sum_groups (fun c => weights s sk (ix2 c r)) _

/-- One head's attention, before it is turned back. -/
theorem heads_at (vs : FVec Ideal S400x128 .bf16) (s : Fin 4 → FVec Ideal S400x128 .f32) (sk : Fin 4 → Ideal .f32) (g : Fin 4)
    (d r : Fin 128) (h : 128 * (g : ℕ) + r < 512) :
    (heads vs s sk (ix2 d ⟨128 * g + r, h⟩) : EReal) =
      (∑ c : Fin 400, vs (ix2 c d) * weights (s g) (sk g) (ix2 c r)) * scaleOf (s g) (sk g) (ix2 0 r) := by
  have hr := r.isLt
  fin_cases g <;> pointwise [heads]
  · have e : ∀ h, (⟨256 + (r : ℕ) - 128 - 128, h⟩ : Fin 128) = r := fun h => Fin.ext (by simp only; omega)
    simp only [dif_neg (show ¬ 256 + (r : ℕ) < 128 by omega), dif_neg (show ¬ 256 + (r : ℕ) - 128 < 128 by omega),
      dif_pos (show 256 + (r : ℕ) - 128 - 128 < 128 by omega), e]
  · have e : ∀ h, (⟨384 + (r : ℕ) - 128 - 128 - 128, h⟩ : Fin 128) = r := fun h => Fin.ext (by simp only; omega)
    simp only [dif_neg (show ¬ 384 + (r : ℕ) < 128 by omega), dif_neg (show ¬ 384 + (r : ℕ) - 128 < 128 by omega),
      dif_neg (show ¬ 384 + (r : ℕ) - 128 - 128 < 128 by omega), e]

/-- The stacked queries. -/
theorem queries_at (qz : Vec Ideal S512x4096 .bf16) (b h g : Fin 4) (r d : Fin 128) (hg : 128 * (g : ℕ) + r < 512)
    (hb : 128 * (b : ℕ) + r < 512) (hc : 512 * (h : ℕ) + 128 * g + d < 4096) :
    (queries qz b h (ix2 ⟨128 * g + r, hg⟩ d) : EReal) = qz (ix2 ⟨128 * b + r, hb⟩ ⟨512 * h + 128 * g + d, hc⟩) := by
  have hr := r.isLt
  fin_cases g <;> pointwise [queries, tileQz]
  · rw [dif_neg (by omega), dif_neg (by omega), dif_pos (by omega)]
    exact congrArg₂ (fun i j => qz (ix2 i j)) (Fin.ext (by simp only; omega)) rfl
  · rw [dif_neg (by omega), dif_neg (by omega), dif_neg (by omega)]
    exact congrArg₂ (fun i j => qz (ix2 i j)) (Fin.ext (by simp only; omega)) rfl

/-- The rows of a block's tile, when the four blocks it is made of are blocks of one array of rows. -/
theorem rows400_at (A : Fin 26112 → Fin 5120 → EReal) (own : Vec Ideal S512x1024 .bf16) (prv nxt : Vec Ideal S128x1024 .bf16)
    (led : Vec Ideal S16x1024 .bf16) (b : Fin 4) (c : ℕ) (hc : c + 128 ≤ 1024) (β : Fin 204)
    (hprv : ∀ (i : Fin 128) (j : Fin 1024) (h : 128 * prevB β + i < 26112), (prv (ix2 i j) : EReal) = A ⟨128 * prevB β + i, h⟩ ⟨4096 + j, by omega⟩)
    (hown : ∀ (i : Fin 128) (j : Fin 1024) (h : 128 * (b : ℕ) + i < 512),
      (own (ix2 ⟨128 * b + i, h⟩ j) : EReal) = A ⟨128 * β + i, by omega⟩ ⟨4096 + j, by omega⟩)
    (hnxt : ∀ (i : Fin 128) (j : Fin 1024) (h : 128 * nextB β + i < 26112), (nxt (ix2 i j) : EReal) = A ⟨128 * nextB β + i, h⟩ ⟨4096 + j, by omega⟩)
    (hled : ∀ (i : Fin 16) (j : Fin 1024) (h : 16 * (leadB β * 8 + 7) + i < 26112),
      (led (ix2 i j) : EReal) = A ⟨16 * (leadB β * 8 + 7) + i, h⟩ ⟨4096 + j, by omega⟩)
    (k : Fin 400) (d : Fin 128) :
    (rows400 own prv nxt led b c hc (ix2 k d) : EReal) = A ⟨rowOf β k, rowOf_lt β.2 k.2⟩ ⟨4096 + (c + d), by omega⟩ := by
  have hk := rowOf_lt β.2 k.2
  have hk4 := k.isLt
  pointwise [rows400]
  by_cases h1 : (k : ℕ) < 128
  · have e : rowOf β k = 128 * prevB β + k := by unfold rowOf; rw [if_pos h1]
    rw [dif_pos h1]
    exact (hprv _ _ (e ▸ hk)).trans (congrArg₂ A (Fin.ext e.symm) rfl)
  rw [dif_neg h1]
  by_cases h2 : (k : ℕ) - 128 < 128
  · have e : rowOf β k = 128 * β + (k - 128) := by unfold rowOf; rw [if_neg h1, if_pos (by omega)]
    rw [dif_pos h2]
    exact (hown ⟨k - 128, h2⟩ _ _).trans (congrArg₂ A (Fin.ext e.symm) rfl)
  rw [dif_neg h2]
  by_cases h3 : (k : ℕ) - 128 - 128 < 128
  · have e : rowOf β k = 128 * nextB β + (k - 128 - 128) := by
      unfold rowOf; rw [if_neg h1, if_neg (by omega), if_pos (by omega)]; omega
    rw [dif_pos h3]
    exact (hnxt ⟨k - 128 - 128, h3⟩ _ (e ▸ hk)).trans (congrArg₂ A (Fin.ext e.symm) rfl)
  · have e : rowOf β k = 16 * (leadB β * 8 + 7) + (k - 128 - 128 - 128) := by
      unfold rowOf; rw [if_neg h1, if_neg (by omega), if_neg (by omega)]; omega
    rw [dif_neg h3]
    exact (hled ⟨k - 128 - 128 - 128, by omega⟩ _ (e ▸ hk)).trans (congrArg₂ A (Fin.ext e.symm) rfl)

/-- One head's scores. -/
theorem scores_at (ks : FVec Ideal S400x128 .bf16) (qs : FVec Ideal S512x128 .bf16) (bias : Vec Ideal S1x400x128 .f32) (k : Fin 400)
    (r : Fin 128) (g : Fin 4) (hg : 128 * (g : ℕ) + r < 512) :
    (scores (products ks qs) bias g (ix2 k r) : EReal) =
      (∑ x : Fin 128, ks (ix2 k x) * qs (ix2 ⟨128 * g + r, hg⟩ x)) + bias (ix3 0 k r) := by
  pointwise [scores, products]

/-- A tile's element: the attention times the gate. -/
theorem tile_at (sink : Vec Ideal S16 .f32) (qz : Vec Ideal S512x4096 .bf16) (own : Vec Ideal S512x1024 .bf16)
    (bias : Vec Ideal S1x400x128 .f32) (prv nxt : Vec Ideal S128x1024 .bf16) (led : Vec Ideal S16x1024 .bf16) (b h g : Fin 4)
    (r d : Fin 128) (hg : 128 * (g : ℕ) + r < 512) (hb : 128 * (b : ℕ) + r < 512) (hc : 2048 + 128 * (4 * (h : ℕ) + g) + d < 4096) :
    (tile sink qz own bias prv nxt led b h g (ix2 r d) : EReal) =
      headsOf sink qz own bias prv nxt led b h (ix2 d ⟨128 * g + r, hg⟩) *
        qz (ix2 ⟨128 * b + r, hb⟩ ⟨2048 + 128 * (4 * h + g) + d, hc⟩) := by
  pointwise [tile, tileQz]

/-- A head's sink over the logarithm of two. -/
theorem sinkOf_at (sink : Vec Ideal S16 .f32) (H : ℕ) (hH : H < 16) :
    (sinkOf sink H hH : EReal) = sink (ix1 ⟨H, hH⟩) * (((Real.log 2)⁻¹ : ℝ) : EReal) := by
  pointwise [sinkOf]
  rfl

/-! ## The attention of a row, from the projections, the bias and the sinks -/

/-- The score of slot `c` for row `r` of block `β` and query head `g` of key head `h`. -/
def score (A : Fin 26112 → Fin 5120 → EReal) (B : Fin 5 → Fin 400 → Fin 128 → EReal) (β : Fin 204) (h g : Fin 4) (r : Fin 128)
    (c : Fin 400) : EReal :=
  (∑ x : Fin 128, A ⟨rowOf β c, rowOf_lt β.2 c.2⟩ ⟨4096 + (128 * h + x), by omega⟩ *
    A ⟨128 * β + r, by omega⟩ ⟨512 * h + 128 * g + x, by omega⟩) + B (caseB β) c r

/-- The sink of a query head, over the logarithm of two. -/
def sinkAt (sink : Fin 16 → EReal) (h g : Fin 4) : EReal := sink ⟨4 * h + g, by omega⟩ * (((Real.log 2)⁻¹ : ℝ) : EReal)

/-- The greatest of a row's scores and its sink. -/
def peakAt (A : Fin 26112 → Fin 5120 → EReal) (B : Fin 5 → Fin 400 → Fin 128 → EReal) (sink : Fin 16 → EReal) (β : Fin 204) (h g : Fin 4)
    (r : Fin 128) : EReal :=
  max ((Finset.univ : Finset (Fin 400)).fold max (⊥ : EReal) (score A B β h g r)) (sinkAt sink h g)

/-- The gated attention of a row at dimension `d` of a query head. -/
def attnAt (A : Fin 26112 → Fin 5120 → EReal) (B : Fin 5 → Fin 400 → Fin 128 → EReal) (sink : Fin 16 → EReal) (β : Fin 204) (h g : Fin 4)
    (r d : Fin 128) : EReal :=
  ((∑ c : Fin 400, A ⟨rowOf β c, rowOf_lt β.2 c.2⟩ ⟨4096 + (512 + 128 * h + d), by omega⟩ *
      Ideal.exp2 (score A B β h g r c - peakAt A B sink β h g r)) *
    Ideal.div 1 ((∑ c : Fin 400, Ideal.exp2 (score A B β h g r c - peakAt A B sink β h g r)) +
      Ideal.exp2 (sinkAt sink h g - peakAt A B sink β h g r))) *
    A ⟨128 * β + r, by omega⟩ ⟨2048 + 128 * (4 * h + g) + d, by omega⟩

/-- A tile's element is the gated attention, when the blocks it reads are blocks of the projections, of the bias and of
the sinks. -/
theorem tile_eq (A : Fin 26112 → Fin 5120 → EReal) (B : Fin 5 → Fin 400 → Fin 128 → EReal) (S : Fin 16 → EReal)
    (sink : Vec Ideal S16 .f32) (qz : Vec Ideal S512x4096 .bf16) (own : Vec Ideal S512x1024 .bf16)
    (bias : Vec Ideal S1x400x128 .f32) (prv nxt : Vec Ideal S128x1024 .bf16) (led : Vec Ideal S16x1024 .bf16) (b : Fin 4) (β : Fin 204)
    (hS : ∀ i, (sink (ix1 i) : EReal) = S i)
    (hB : ∀ c r, (bias (ix3 0 c r) : EReal) = B (caseB β) c r)
    (hqz : ∀ (i : Fin 128) (j : Fin 4096) (h : 128 * (b : ℕ) + i < 512),
      (qz (ix2 ⟨128 * b + i, h⟩ j) : EReal) = A ⟨128 * β + i, by omega⟩ ⟨j, by omega⟩)
    (hprv : ∀ (i : Fin 128) (j : Fin 1024) (h : 128 * prevB β + i < 26112), (prv (ix2 i j) : EReal) = A ⟨128 * prevB β + i, h⟩ ⟨4096 + j, by omega⟩)
    (hown : ∀ (i : Fin 128) (j : Fin 1024) (h : 128 * (b : ℕ) + i < 512),
      (own (ix2 ⟨128 * b + i, h⟩ j) : EReal) = A ⟨128 * β + i, by omega⟩ ⟨4096 + j, by omega⟩)
    (hnxt : ∀ (i : Fin 128) (j : Fin 1024) (h : 128 * nextB β + i < 26112), (nxt (ix2 i j) : EReal) = A ⟨128 * nextB β + i, h⟩ ⟨4096 + j, by omega⟩)
    (hled : ∀ (i : Fin 16) (j : Fin 1024) (h : 16 * (leadB β * 8 + 7) + i < 26112),
      (led (ix2 i j) : EReal) = A ⟨16 * (leadB β * 8 + 7) + i, h⟩ ⟨4096 + j, by omega⟩)
    (h g : Fin 4) (r d : Fin 128) :
    (tile sink qz own bias prv nxt led b h g (ix2 r d) : EReal) = attnAt A B S β h g r d := by
  rw [tile_at sink qz own bias prv nxt led b h g r d (by omega) (by omega) (by omega), hqz]
  unfold headsOf
  rw [heads_at]
  have hs : ∀ c : Fin 400, (scores (products (rows400 own prv nxt led b (128 * h.val) (by have := h.isLt; omega)) (queries qz b h)) bias g
      (ix2 c r) : EReal) = score A B β h g r c := by
    intro c
    rw [scores_at _ _ _ _ _ _ (by omega), hB]
    refine congrArg (· + _) (Finset.sum_congr rfl fun x _ => ?_)
    rw [rows400_at A own prv nxt led b _ _ β hprv hown hnxt hled, queries_at qz b h g r x (by omega) (by omega) (by omega), hqz]
  have hk : (sinkOf sink (4 * h.val + g.val) (by omega) : EReal) = sinkAt S h g := by
    rw [sinkOf_at, hS]; rfl
  have hp : (peak (scores (products (rows400 own prv nxt led b (128 * h.val) (by have := h.isLt; omega)) (queries qz b h)) bias g)
      (sinkOf sink (4 * h.val + g.val) (by omega)) (ix2 0 r) : EReal) = peakAt A B S β h g r := by
    rw [peak_at, hk]
    unfold peakAt
    rw [show score A B β h g r = _ from funext fun c => (hs c).symm]
  unfold attnAt
  refine congrArg (· * _) (congrArg₂ (· * ·) (Finset.sum_congr rfl fun c _ => ?_) ?_)
  · rw [rows400_at A own prv nxt led b _ _ β hprv hown hnxt hled, weights_at, hs, hp]
  · rw [scaleOf_at, hp]
    refine congrArg (Ideal.div 1) (congrArg₂ (· + ·) (Finset.sum_congr rfl fun c _ => ?_) (by rw [hk]))
    rw [weights_at, hs, hp]

end Cert.KernelIdeal.Attn

end
-- ==== Proof.AttnIdeal.Value.lean ====
module

public import proofs.«01_k».proof.Proof.AttnIdeal.BlocksAt
public import proofs.«01_k».proof.Proof.AttnIdeal.TileAt
public import proofs.«01_k».proof.Proof.AttnIdeal.Pieces

@[expose] public section

set_option maxRecDepth 16384

noncomputable section

/-!
# What the kernel leaves in its result array

Every element of the array is the gated attention of its row at its head and dimension.
-/

namespace Cert.KernelIdeal.Attn

open Cert.KernelIdeal Cert.KernelIdeal.Gen
open Idealize.ShloMosaic Idealize.ShloMosaic.TcCoe
open Idealize.SL.Sem
open Idealize.ShloMosaic.Pipeline (Dat)
open Cert.Seen

/-- A property of every store of one block holds when it holds of every tile's. -/
theorem of_mem_pieces {Q : View.Piece (Elt Ideal) S512x2048 .bf16 → Prop} (sink : Vec Ideal S16 .f32) (qz : Vec Ideal S512x4096 .bf16)
    (own : Vec Ideal S512x1024 .bf16) (bias : Vec Ideal S1x400x128 .f32) (prv nxt : Vec Ideal S128x1024 .bf16)
    (led : Vec Ideal S16x1024 .bf16) (b : Fin 4) (H : ∀ h g, Q (piece sink qz own bias prv nxt led b h g)) :
    ∀ p ∈ pieces sink qz own bias prv nxt led b, Q p := by
  unfold pieces
  simp only [List.forall_mem_cons, H, true_and]
  exact fun p hp => absurd hp List.not_mem_nil

/-- A tile's store holds the elements of an array when the tile does. -/
theorem piece_holds (G : S512x2048.Idx → Elt Ideal .bf16) (sink : Vec Ideal S16 .f32) (qz : Vec Ideal S512x4096 .bf16)
    (own : Vec Ideal S512x1024 .bf16) (bias : Vec Ideal S1x400x128 .f32) (prv nxt : Vec Ideal S128x1024 .bf16)
    (led : Vec Ideal S16x1024 .bf16) (b h g : Fin 4)
    (H : ∀ r d : Fin 128, tile sink qz own bias prv nxt led b h g (ix2 r d) =
      G (ix2 ⟨128 * b + r, by omega⟩ ⟨128 * (4 * h + g) + d, by omega⟩)) (x : (piece sink qz own bias prv nxt led b h g).1.shape.Idx) :
    (piece sink qz own bias prv nxt led b h g).2 x = G ((piece sink qz own bias prv nxt led b h g).1.emb x) := by
  have lt0 : ((x 0 : Fin 128) : ℕ) < 128 := (show Fin 128 from x 0).isLt
  have lt1 : ((x 1 : Fin 128) : ℕ) < 128 := (show Fin 128 from x 1).isLt
  have e : x = (ix2 (x 0 : Fin 128) (x 1 : Fin 128) : S128x128.Idx) := funext fun a => by match a with | 0 => rfl | 1 => rfl
  have k : (piece sink qz own bias prv nxt led b h g).1.emb x =
      (ix2 (⟨128 * b + (x 0 : Fin 128), by omega⟩ : Fin 512)
        (⟨128 * (4 * h + g) + (x 1 : Fin 128), by omega⟩ : Fin 2048) : S512x2048.Idx) := by
    funext a
    apply Fin.ext
    match a with
    | 0 => show 128 * (b : ℕ) + 1 * (x 0 : Fin 128) = 128 * b + (x 0 : Fin 128); omega
    | 1 => show 128 * (4 * (h : ℕ) + g) + 1 * (x 1 : Fin 128) = 128 * (4 * h + g) + (x 1 : Fin 128); omega
  exact (congrArg (tile sink qz own bias prv nxt led b h g) e).trans ((H (x 0) (x 1)).trans (congrArg G k.symm))

set_option maxHeartbeats 4000000 in
/-- What a grid point leaves in its block is an array that holds its tiles. -/
theorem out_holds (c : Dev nD) (i : grid0.Coords) (arg5 : Memref sig .tc .smem S16 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S1x400x128 .f32) (harg8 : arg8.IsWhole) (arg9 : Memref sig .tc .vmem S1x400x128 .f32) (harg9 : arg9.IsWhole) (arg10 : Memref sig .tc .vmem S1x400x128 .f32) (harg10 : arg10.IsWhole) (arg11 : Memref sig .tc .vmem S1x400x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S16x1024 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S16x1024 .bf16) (harg17 : arg17.IsWhole) (arg18 : Memref sig .tc .vmem S128x1024 .bf16) (harg18 : arg18.IsWhole) (arg19 : Memref sig .tc .vmem S128x1024 .bf16) (harg19 : arg19.IsWhole) (arg20 : Memref sig .tc .vmem S16x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S16x1024 .bf16) (harg23 : arg23.IsWhole) (arg24 : Memref sig .tc .vmem S512x2048 .bf16) (harg24 : arg24.IsWhole)
    (x0 : Vec Ideal S16 .f32) (x1 : Vec Ideal S512x4096 .bf16) (x2 : Vec Ideal S512x1024 .bf16) (x3 : Vec Ideal S1x400x128 .f32) (x4 : Vec Ideal S1x400x128 .f32) (x5 : Vec Ideal S1x400x128 .f32) (x6 : Vec Ideal S1x400x128 .f32) (x7 : Vec Ideal S128x1024 .bf16) (x8 : Vec Ideal S128x1024 .bf16) (x9 : Vec Ideal S16x1024 .bf16) (x10 : Vec Ideal S128x1024 .bf16) (x11 : Vec Ideal S128x1024 .bf16) (x12 : Vec Ideal S16x1024 .bf16) (x13 : Vec Ideal S128x1024 .bf16) (x14 : Vec Ideal S128x1024 .bf16) (x15 : Vec Ideal S16x1024 .bf16) (x16 : Vec Ideal S128x1024 .bf16) (x17 : Vec Ideal S128x1024 .bf16) (x18 : Vec Ideal S16x1024 .bf16) (xt0 : TbBuf0 (F := Ideal) c tbM0_0) (xt1 : TbBuf0 (F := Ideal) c tbM0_1) (xt2 : TbBuf0 (F := Ideal) c tbM0_2) (xt3 : TbBuf0 (F := Ideal) c tbM0_3)
    (G : S512x2048.Idx → Elt Ideal .bf16)
    (H0 : ∀ (h g : Fin 4) (r d : Fin 128), tile x0 x1 x2 x3 x7 x8 x9 0 h g (ix2 r d) = G (ix2 ⟨128 * (0 : Fin 4) + r, by omega⟩ ⟨128 * (4 * h + g) + d, by omega⟩))
    (H1 : ∀ (h g : Fin 4) (r d : Fin 128), tile x0 x1 x2 x4 x10 x11 x12 1 h g (ix2 r d) = G (ix2 ⟨128 * (1 : Fin 4) + r, by omega⟩ ⟨128 * (4 * h + g) + d, by omega⟩))
    (H2 : ∀ (h g : Fin 4) (r d : Fin 128), tile x0 x1 x2 x5 x13 x14 x15 2 h g (ix2 r d) = G (ix2 ⟨128 * (2 : Fin 4) + r, by omega⟩ ⟨128 * (4 * h + g) + d, by omega⟩))
    (H3 : ∀ (h g : Fin 4) (r d : Fin 128), tile x0 x1 x2 x6 x16 x17 x18 3 h g (ix2 r d) = G (ix2 ⟨128 * (3 : Fin 4) + r, by omega⟩ ⟨128 * (4 * h + g) + d, by omega⟩))
    (y : S512x2048.Idx) : out0_A_19 c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3 y = G y := by
  unfold out0_A_19
  rw [View.read_writes_junk_eq_canon]
  refine View.canon_apply_of_pieces G _ ?_ y (cover0_A_19 c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 xt0 xt1 xt2 xt3 y)
  rw [pieces_eq]
  simp only [Memref.IsWhole.read_unread]
  intro p hp
  rcases List.mem_append.1 hp with hp | hp
  · exact of_mem_pieces (Q := fun p => ∀ x : p.1.shape.Idx, p.2 x = G (p.1.emb x)) _ _ _ _ _ _ _ _ (fun h g => piece_holds G _ _ _ _ _ _ _ 3 h g (H3 h g)) p hp
  rcases List.mem_append.1 hp with hp | hp
  · exact of_mem_pieces (Q := fun p => ∀ x : p.1.shape.Idx, p.2 x = G (p.1.emb x)) _ _ _ _ _ _ _ _ (fun h g => piece_holds G _ _ _ _ _ _ _ 2 h g (H2 h g)) p hp
  rcases List.mem_append.1 hp with hp | hp
  · exact of_mem_pieces (Q := fun p => ∀ x : p.1.shape.Idx, p.2 x = G (p.1.emb x)) _ _ _ _ _ _ _ _ (fun h g => piece_holds G _ _ _ _ _ _ _ 1 h g (H1 h g)) p hp
  · exact of_mem_pieces (Q := fun p => ∀ x : p.1.shape.Idx, p.2 x = G (p.1.emb x)) _ _ _ _ _ _ _ _ (fun h g => piece_holds G _ _ _ _ _ _ _ 0 h g (H0 h g)) p hp

variable (m : (ℓ : Loc nD τ sig) → Buf (Elt Ideal) ℓ) (hO : Ok m) (c : Dev nD)

/-- An element of the projections. -/
def projM (R : Fin 26112) (C : Fin 5120) : EReal := V m c main_v13 (ix2 R C)

/-- An element of the biases. -/
def biasM (k : Fin 5) (i : Fin 400) (j : Fin 128) : EReal := V m c main_v51 (ix3 k i j)

/-- A sink. -/
def sinkM (i : Fin 16) : EReal := V m c main_arg4 (ix1 i)

/-- The result array: at a row and a column, the gated attention of the row's block, of the column's head. -/
def outM : Vec Ideal S26112x2048 .bf16 := fun i =>
  attnAt (projM m c) (biasM m c) (sinkM m c) ⟨(i 0 : Fin 26112) / 128, by have lt : ((i 0 : Fin 26112) : ℕ) < 26112 := (i 0).isLt; omega⟩
    ⟨(i 1 : Fin 2048) / 512, by have lt : ((i 1 : Fin 2048) : ℕ) < 2048 := (i 1).isLt; omega⟩ ⟨(i 1 : Fin 2048) / 128 % 4, by omega⟩
    ⟨(i 0 : Fin 26112) % 128, by omega⟩ ⟨(i 1 : Fin 2048) % 128, by omega⟩

/-- The result array at an element of a tile. -/
theorem outM_at (β : Fin 204) (h g : Fin 4) (r d : Fin 128) (hR : 128 * (β : ℕ) + r < 26112) (hC : 128 * (4 * (h : ℕ) + g) + d < 2048) :
    (outM m c (ix2 ⟨128 * β + r, hR⟩ ⟨128 * (4 * h + g) + d, hC⟩) : EReal) = attnAt (projM m c) (biasM m c) (sinkM m c) β h g r d := by
  have e : ∀ (β' : Fin 204) (h' g' : Fin 4) (r' d' : Fin 128), β' = β → h' = h → g' = g → r' = r → d' = d →
      attnAt (projM m c) (biasM m c) (sinkM m c) β' h' g' r' d' = attnAt (projM m c) (biasM m c) (sinkM m c) β h g r d := by
    intro β' h' g' r' d' e1 e2 e3 e4 e5
    rw [e1, e2, e3, e4, e5]
  exact e _ _ _ _ _
    (Fin.ext (show (128 * (β : ℕ) + r) / 128 = β by omega))
    (Fin.ext (show (128 * (4 * (h : ℕ) + g) + d) / 512 = h by omega))
    (Fin.ext (show (128 * (4 * (h : ℕ) + g) + d) / 128 % 4 = g by omega))
    (Fin.ext (show (128 * (β : ℕ) + r) % 128 = r by omega))
    (Fin.ext (show (128 * (4 * (h : ℕ) + g) + d) % 128 = d by omega))

/-- A tile of a grid point holds the result array's elements. -/
theorem tile_holds (t : Fin (cfgM m hO).N) (b h g : Fin 4) (r d : Fin 128) (hR : 128 * (blockAt t b : ℕ) + r < 26112)
    (hC : 128 * (4 * (h : ℕ) + g) + d < 2048) :
    tile (iblk m hO c 0 t) (X0_1 m hO c t) (iblk m hO c 2 t) (biasBlk m hO c t b) (prevBlk m hO c t b) (nextBlk m hO c t b)
      (leadBlk m hO c t b) b h g (ix2 r d) = outM m c (ix2 ⟨128 * blockAt t b + r, hR⟩ ⟨128 * (4 * h + g) + d, hC⟩) := by
  have ht : (t : ℕ) < 51 := t.isLt
  have row : ∀ i : Fin 128, 512 * (t : ℕ) + (128 * (b : ℕ) + i) = 128 * (blockAt t b : ℕ) + i := fun i => by
    show _ = 128 * (4 * (t : ℕ) + b) + i; omega
  refine (tile_eq (projM m c) (biasM m c) (sinkM m c) _ _ _ _ _ _ _ b (blockAt t b) ?_ ?_ ?_ ?_ ?_ ?_ ?_ h g r d).trans
    (outM_at m c (blockAt t b) h g r d hR hC).symm
  · exact fun i => sinkBlk_at m hO c t i
  · exact fun i j => biasBlk_at m hO c t b i j
  · intro i j hi
    refine (qzBlk_at m hO c t ⟨128 * b + i, hi⟩ j (by have := row i; have := (blockAt t b).isLt; show 512 * (t : ℕ) + (128 * (b : ℕ) + i) < _; omega)).trans ?_
    exact congrArg (fun R => V m c main_v13 (ix2 R _)) (Fin.ext (row i))
  · exact fun i j hi => prevBlk_at m hO c t b i j hi
  · intro i j hi
    refine (ownBlk_at m hO c t ⟨128 * b + i, hi⟩ j (by have := row i; have := (blockAt t b).isLt; show 512 * (t : ℕ) + (128 * (b : ℕ) + i) < _; omega)).trans ?_
    exact congrArg (fun R => V m c main_v13 (ix2 R _)) (Fin.ext (row i))
  · exact fun i j hi => nextBlk_at m hO c t b i j hi
  · exact fun i j hi => leadBlk_at m hO c t b i j hi

/-- The rows of the result array that a grid point writes. -/
def blockM (t : Fin 51) : S512x2048.Idx → Elt Ideal .bf16 := fun y =>
  outM m c (ix2 ⟨512 * t + (y 0 : Fin 512), by have lt : ((y 0 : Fin 512) : ℕ) < 512 := (y 0).isLt; omega⟩ (y 1 : Fin 2048))

set_option maxHeartbeats 4000000 in
/-- What a grid point leaves in its block of the result. -/
theorem outs_at (t : Fin (cfgM m hO).N) (y : S512x2048.Idx) : outsAt0 m hO c t y = blockM m c t y := by
  have ht : (t : ℕ) < 51 := t.isLt
  have main : ∀ (b h g : Fin 4) (r d : Fin 128),
      tile (iblk m hO c 0 t) (X0_1 m hO c t) (iblk m hO c 2 t) (biasBlk m hO c t b) (prevBlk m hO c t b) (nextBlk m hO c t b)
        (leadBlk m hO c t b) b h g (ix2 r d) =
      blockM m c t
        (ix2 ⟨128 * b + r, by omega⟩ ⟨128 * (4 * h + g) + d, by omega⟩) := fun b h g r d => by
    refine (tile_holds m hO c t b h g r d (by have := (blockAt t b).isLt; omega) (by omega)).trans ?_
    refine congrArg (fun R => outM m c (ix2 R _)) (Fin.ext ?_)
    show 128 * (4 * (t : ℕ) + b) + r = 512 * t + (128 * b + r); omega
  unfold outsAt0
  exact out_holds c _ _ _ _ _ _ _ _ _ _ _ _ _ _ _ _ _ _ _ _ _ _ _ _ _ _ _ _ _ _ _ _ _ _ _ _ _ _ _ _ _
    (iblk m hO c 0 t) (X0_1 m hO c t) (iblk m hO c 2 t) (iblk m hO c 3 t) (iblk m hO c 4 t) (iblk m hO c 5 t) (iblk m hO c 6 t)
    (iblk m hO c 7 t) (iblk m hO c 8 t) (iblk m hO c 9 t) (iblk m hO c 10 t) (iblk m hO c 11 t) (iblk m hO c 12 t)
    (iblk m hO c 13 t) (iblk m hO c 14 t) (iblk m hO c 15 t) (iblk m hO c 16 t) (iblk m hO c 17 t) (iblk m hO c 18 t) _ _ _ _ (blockM m c t)
    (main 0) (main 1) (main 2) (main 3) y

/-- Where an element of a grid point's block lies in the result array. -/
theorem place_out (t : Fin 51) (y : S512x2048.Idx) (h : 512 * (t : ℕ) + (y 0 : Fin 512) < 26112) (a : Fin 2) :
    cc0_transform_19 (grid0.coords t) a * S512x2048.size a + y a =
      ((ix2 (⟨512 * t + (y 0 : Fin 512), h⟩ : Fin 26112) (y 1 : Fin 2048) : S26112x2048.Idx) a : ℕ) := by
  rw [(index_plain t).2.2]
  match a with
  | 0 => show (t : ℕ) * 512 + (y 0 : Fin 512) = 512 * t + (y 0 : Fin 512); omega
  | 1 => show 0 * 2048 + ((y 1 : Fin 2048) : ℕ) = (y 1 : Fin 2048); omega

set_option maxHeartbeats 4000000 in
/-- What a point writes back is its block of the result array. -/
theorem flushed_eq (t : Fin (cfgM m hO).N) :
    (dats m hO 0 c).flushed 19 t = (((cfgM m hO).win 19).blk t).view.read (Elt Ideal) (outM m c) := by
  show ((cfgM m hO).win 19).cut (grid0.coords t) ((dats m hO 0 c).after 19 t) = _
  rw [after0_19]
  refine funext fun (y : S512x2048.Idx) => ?_
  refine (outs_at m hO c t y).trans ?_
  exact congrArg (outM m c) (emb_eq ((cfgM m hO).win 19) t rfl y _ (place_out t y _)).symm

set_option maxHeartbeats 4000000 in
/-- The points' blocks cover the result array. -/
theorem cover (i : S26112x2048.Idx) :
    ∃ t : Fin (cfgM m hO).N, ((cfgM m hO).win 19).flush t = true ∧ i ∈ (((cfgM m hO).win 19).blk t).view.set := by
  have lt0 : ((i 0 : Fin 26112) : ℕ) < 26112 := (i 0).isLt
  have ht : ((i 0 : Fin 26112) : ℕ) / 512 < 51 := by omega
  let y : S512x2048.Idx := ix2 (⟨((i 0 : Fin 26112) : ℕ) % 512, by omega⟩ : Fin 512) (i 1 : Fin 2048)
  have e : (((cfgM m hO).win 19).rect ⟨((i 0 : Fin 26112) : ℕ) / 512, ht⟩).emb y = i :=
    (emb_eq ((cfgM m hO).win 19) ⟨((i 0 : Fin 26112) : ℕ) / 512, ht⟩ rfl y _ (place_out ⟨((i 0 : Fin 26112) : ℕ) / 512, ht⟩ y (by
      show 512 * (((i 0 : Fin 26112) : ℕ) / 512) + ((i 0 : Fin 26112) : ℕ) % 512 < 26112; omega))).trans
      (funext fun a => by
        apply Fin.ext
        match a with
        | 0 => show 512 * (((i 0 : Fin 26112) : ℕ) / 512) + ((i 0 : Fin 26112) : ℕ) % 512 = (i 0 : Fin 26112); omega
        | 1 => rfl)
  refine ⟨⟨((i 0 : Fin 26112) : ℕ) / 512, ht⟩, flush0_19 _ _, ?_⟩
  have hm : i ∈ (((cfgM m hO).win 19).rect ⟨((i 0 : Fin 26112) : ℕ) / 512, ht⟩).set :=
    Eq.subst (motive := fun j => j ∈ (((cfgM m hO).win 19).rect ⟨((i 0 : Fin 26112) : ℕ) / 512, ht⟩).set) e
      ((((cfgM m hO).win 19).rect ⟨((i 0 : Fin 26112) : ℕ) / 512, ht⟩).idx_mem y)
  exact (Finset.ext_iff.1 (View.set_slice_whole main_v52 (((cfgM m hO).win 19).rect ⟨((i 0 : Fin 26112) : ℕ) / 512, ht⟩)) i).2 hm

set_option maxHeartbeats 4000000 in
/-- The result array after the run. -/
theorem final : (dats m hO 0 c).arrAt 19 (cfgM m hO).N = outM m c :=
  (dats m hO 0 c).arrAt_eq_of_cover 19 (outM m c) (fun t _ => flushed_eq m hO c t) (cover m hO)

include hO in
set_option maxHeartbeats 4000000 in
/-- Every run ends with the result array at the gated attention. -/
theorem run_value (ρ : Dev nD → PrngReg) : θ_run defs (onTc (τ := τ) (main (F := Ideal))) ⟨m, fun _ => 0, ρ⟩ fun r => ∀ c : Dev nD,
    r.2.mem ((c.tc : Thread nD τ).loc main_v52) = outM m c :=
  (θ_run defs _ _).mono (fun _ h c => ((h c).1 19).trans (final m hO c)) (run_main m ρ hO)

end Cert.KernelIdeal.Attn

end
-- ==== Proof.Ref.Stages.lean ====
module

public import proofs.«01_k».proof.Proof.Gen.ReferenceIdeal.Run
public import Idealize.ShloMosaic.Lib.Pointwise

@[expose] public section

set_option maxRecDepth 16384

noncomputable section

/-!
# The reference's stages, named

The reference's result as a composition of named stages: which sequence a row belongs to, its position there, which
rows a row sees, the masked scores, their greatest, the weights, their total, and the gated attention.
-/

namespace Cert.ReferenceIdeal.Attn

open Cert.ReferenceIdeal Cert.ReferenceIdeal.Gen
open Idealize.ShloMosaic Idealize.ShloMosaic.TcCoe

variable {F : FTy → Type} [FloatOps F]

/-- An integer constant, one copy for each row. -/
abbrev rowsC (w : BitVec 32) : IVec S26112 32 := broadcastInDim S26112 ![] bcast_S_S26112 (constantI S_ 32 w)

/-- The sequence of each row. -/
def seqV : IVec S26112 32 :=
  select (cmpi .sge (iotaInDim S26112 32 0) (rowsC 24576#32))
    (Host.shrsi (subi (iotaInDim S26112 32 0) (rowsC 24576#32)) (rowsC 7#32))
    (select (cmpi .slt (iotaInDim S26112 32 0) (rowsC 8192#32)) (rowsC 0#32)
      (addi (Host.shrsi (subi (iotaInDim S26112 32 0) (rowsC 8192#32)) (rowsC 11#32)) (rowsC 1#32)))

/-- The position of each row in its sequence. -/
def posV : IVec S26112 32 :=
  select (cmpi .sge (iotaInDim S26112 32 0) (rowsC 24576#32))
    (subi (subi (subi (iotaInDim S26112 32 0) (rowsC 24576#32)) (muli (rowsC 128#32) seqV)) (rowsC 112#32))
    (addi (subi (iotaInDim S26112 32 0)
      (select (cmpi .eq seqV (rowsC 0#32)) (rowsC 0#32) (addi (rowsC 6144#32) (muli (rowsC 2048#32) seqV)))) (rowsC 16#32))

/-- A value for each row, along the rows of a square. -/
def downV (x : IVec S26112 32) : IVec S26112x26112 32 :=
  broadcastInDim S26112x26112 ![0, 1] bcast_S26112x1_S26112x26112_0_1 (broadcastInDim S26112x1 ![0] bcast_S26112_S26112x1_0 x)

/-- A value for each row as the one row of a matrix. -/
def rowV (x : IVec S26112 32) : IVec S1x26112 32 := broadcastInDim S1x26112 ![1] bcast_S26112_S1x26112_1 x

/-- Which rows (second index) a row (first index) sees. -/
def maskV : IVec S26112x26112 1 :=
  andi
    (andi
      (cmpi .eq (downV seqV) (broadcastInDim S26112x26112 ![0, 1] bcast_S1x26112_S26112x26112_0_1 (rowV seqV)))
      (broadcastInDim S26112x26112 ![0, 1] bcast_S1x26112_S26112x26112_0_1
        (cmpi .sge (rowV posV) (broadcastInDim S1x26112 ![] bcast_S_S1x26112 (constantI S_ 32 0#32)))))
    (ori
      (cmpi .sle
        (absi (subi (downV posV) (broadcastInDim S26112x26112 ![0, 1] bcast_S1x26112_S26112x26112_0_1 (rowV posV))))
        (broadcastInDim S26112x26112 ![] bcast_S_S26112x26112 (constantI S_ 32 128#32)))
      (broadcastInDim S26112x26112 ![0, 1] bcast_S1x26112_S26112x26112_0_1
        (cmpi .slt (rowV posV) (broadcastInDim S1x26112 ![] bcast_S_S1x26112 (constantI S_ 32 16#32)))))

/-- The masked scores of a head and a row against every row. -/
def scoresV (q : FVec F S26112x2048 .f32) (k : FVec F S26112x512 .f32) : FVec F S4x4x26112x26112 .f32 :=
  select
    (broadcastInDim S4x4x26112x26112 ![0, 1, 2, 3] bcast_S1x1x26112x26112_S4x4x26112x26112_0_1_2_3
      (broadcastInDim S1x1x26112x26112 ![2, 3] bcast_S26112x26112_S1x1x26112x26112_2_3 maskV))
    (mulf
      (transpose S4x4x26112x26112 [0, 3, 2, 1]
        (Host.dotGeneral dot_S26112x4x128_S26112x4x4x128_S4x26112x26112x4_2_3_0_02_1_1 none
          (shapeCast _ k shapeCasts_S26112x512_S26112x4x128)
          (shapeCast _ q shapeCasts_S26112x2048_S26112x4x4x128))
        transposes_S4x26112x26112x4_S4x4x26112x26112_0_3_2_1)
      (broadcastInDim S4x4x26112x26112 ![] bcast_S_S4x4x26112x26112 (constant S_ .f32 0x3DB504F3#32)))
    (broadcastInDim S4x4x26112x26112 ![] bcast_S_S4x4x26112x26112 (constant S_ .f32 0xFF800000#32))

/-- The sinks, one for each head and row. -/
def sinkV (sink : FVec F S16 .f32) : FVec F S4x4x26112x1 .f32 :=
  broadcastInDim S4x4x26112x1 ![0, 1, 2, 3] bcast_S4x4x1x1_S4x4x26112x1_0_1_2_3
    (shapeCast _ sink shapeCasts_S16_S4x4x1x1)

/-- The greatest of a row's scores and its head's sink. -/
def peakV (s : FVec F S4x4x26112x26112 .f32) (sk : FVec F S4x4x26112x1 .f32) : FVec F S4x4x26112x1 .f32 :=
  maximumf
    (broadcastInDim S4x4x26112x1 ![0, 1, 2] bcast_S4x4x26112_S4x4x26112x1_0_1_2
      (Host.reduce FloatOps.maximumf s (constant S_ .f32 0xFF800000#32) reducesTo_S4x4x26112x26112_S4x4x26112_d3 h_S_))
    sk

/-- A value for each head and row, along all the rows it is compared with. -/
def spreadV (x : FVec F S4x4x26112x1 .f32) : FVec F S4x4x26112x26112 .f32 :=
  broadcastInDim S4x4x26112x26112 ![0, 1, 2, 3] bcast_S4x4x26112x1_S4x4x26112x26112_0_1_2_3 x

/-- The weights before they are divided by their total. -/
def weightsV (s : FVec F S4x4x26112x26112 .f32) (p : FVec F S4x4x26112x1 .f32) : FVec F S4x4x26112x26112 .f32 :=
  Host.exp (subf s (spreadV p))

/-- The total of a row's weights and of its sink's weight. -/
def totalV (e : FVec F S4x4x26112x26112 .f32) (sk p : FVec F S4x4x26112x1 .f32) : FVec F S4x4x26112x1 .f32 :=
  addf
    (broadcastInDim S4x4x26112x1 ![0, 1, 2] bcast_S4x4x26112_S4x4x26112x1_0_1_2
      (Host.reduceAdd e (constant S_ .f32 0x00000000#32) reducesTo_S4x4x26112x26112_S4x4x26112_d3 h_S_))
    (Host.exp (subf sk p))

/-- The attention: the weights over their total against the values. -/
def attnV (e : FVec F S4x4x26112x26112 .f32) (t : FVec F S4x4x26112x1 .f32) (v : FVec F S26112x512 .f32) :
    FVec F S26112x2048 .f32 :=
  shapeCast _
    (transpose S26112x4x4x128 [3, 0, 2, 1]
      (Host.dotGeneral dot_S26112x4x128_S4x4x26112x26112_S4x128x4x26112_0_3_2_12_1_0 none
        (shapeCast _ v shapeCasts_S26112x512_S26112x4x128)
        (Host.divf e (spreadV t)))
      transposes_S4x128x4x26112_S26112x4x4x128_3_0_2_1)
    shapeCasts_S26112x4x4x128_S26112x2048

/-- The gate: a number times one over one plus the exponential of its negative. -/
def gateV (z : FVec F S26112x2048 .f32) : FVec F S26112x2048 .f32 :=
  mulf z (Host.divf (broadcastInDim S26112x2048 ![] bcast_S_S26112x2048 (constant S_ .f32 0x3F800000#32))
    (addf (broadcastInDim S26112x2048 ![] bcast_S_S26112x2048 (constant S_ .f32 0x3F800000#32)) (Host.exp (Host.negf z))))

/-- The reference's result from its five arguments. -/
def resultV (q : FVec F S26112x2048 .f32) (k v : FVec F S26112x512 .f32) (z : FVec F S26112x2048 .f32)
    (sink : FVec F S16 .f32) : FVec F S26112x2048 .bf16 :=
  truncf .bf16
    (mulf
      (attnV (weightsV (scoresV q k) (peakV (scoresV q k) (sinkV sink)))
        (totalV (weightsV (scoresV q k) (peakV (scoresV q k) (sinkV sink))) (sinkV sink) (peakV (scoresV q k) (sinkV sink))) v)
      (gateV z))
    bitsLt_bf16_f32

variable (m : (ℓ : Loc nD τ sig) → Buf (Elt F) ℓ)

/-- What the run leaves in the result array is the composition of the stages. -/
theorem res_eq (c : Dev nD) :
    Value.res_main_v89 m c = resultV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

end Cert.ReferenceIdeal.Attn

end
-- ==== Proof.Words.lean ====
module

public import Idealize.ShloMosaic.PureOps.Ideal
public import Idealize.ShloMosaic.Lib.Pointwise

@[expose] public section

/-!
# 32-bit words that hold small numbers

What the integer operations give on words that hold numbers of at most thirty bits, and what the bits of a comparison say.
-/

namespace Cert.Words

open Idealize.ShloMosaic

/-- The word that holds a number. -/
abbrev W (a : ℤ) : BitVec 32 := BitVec.ofInt 32 a

/-- A number of at most thirty bits. -/
abbrev Small (a : ℤ) : Prop := -1073741824 ≤ a ∧ a ≤ 1073741824

theorem toInt_W {a : ℤ} (h : Small a) : (W a).toInt = a := by
  rw [BitVec.toInt_ofInt]
  exact Int.bmod_eq_of_le (by have := h.1; simp; omega) (by have := h.2; simp; omega)

theorem ofNat_eq (n : ℕ) : BitVec.ofNat 32 n = W (n : ℤ) := (BitVec.ofInt_natCast 32 n).symm

theorem addi_W (a b : ℤ) : IntOp.addi (W a) (W b) = W (a + b) := (BitVec.ofInt_add ..).symm

theorem muli_W (a b : ℤ) : IntOp.muli (W a) (W b) = W (a * b) := (BitVec.ofInt_mul ..).symm

theorem subi_W (a b : ℤ) : IntOp.subi (W a) (W b) = W (a - b) := by
  show W a - W b = _
  apply BitVec.eq_of_toInt_eq
  rw [BitVec.toInt_sub, BitVec.toInt_ofInt, BitVec.toInt_ofInt, BitVec.toInt_ofInt]
  simp

theorem neg_W (a : ℤ) : - (W a) = W (-a) := by
  apply BitVec.eq_of_toInt_eq
  rw [BitVec.toInt_neg, BitVec.toInt_ofInt, BitVec.toInt_ofInt]
  simp

theorem absi_W {a : ℤ} (h : Small a) : IntOp.absi (W a) = W |a| := by
  unfold IntOp.absi
  rw [BitVec.msb_eq_toInt, toInt_W h, neg_W]
  by_cases h0 : a < 0
  · rw [if_pos (by simpa using h0), abs_of_neg h0]
  · rw [if_neg (by simpa using h0), abs_of_nonneg (by omega)]

theorem ofBool_eq_one (b : Bool) : BitVec.ofBool b = 1#1 ↔ b = true := by cases b <;> decide

theorem sge_W {a b : ℤ} (ha : Small a) (hb : Small b) : IntOp.cmpi .sge (W a) (W b) = 1#1 ↔ b ≤ a := by
  unfold IntOp.cmpi
  rw [ofBool_eq_one]
  show (W b).sle (W a) = true ↔ _
  rw [BitVec.sle_iff_toInt_le, toInt_W ha, toInt_W hb]

theorem sle_W {a b : ℤ} (ha : Small a) (hb : Small b) : IntOp.cmpi .sle (W a) (W b) = 1#1 ↔ a ≤ b := by
  unfold IntOp.cmpi
  rw [ofBool_eq_one]
  show (W a).sle (W b) = true ↔ _
  rw [BitVec.sle_iff_toInt_le, toInt_W ha, toInt_W hb]

theorem slt_W {a b : ℤ} (ha : Small a) (hb : Small b) : IntOp.cmpi .slt (W a) (W b) = 1#1 ↔ a < b := by
  unfold IntOp.cmpi
  rw [ofBool_eq_one]
  show (W a).slt (W b) = true ↔ _
  rw [BitVec.slt_iff_toInt_lt, toInt_W ha, toInt_W hb]

theorem sgt_W {a b : ℤ} (ha : Small a) (hb : Small b) : IntOp.cmpi .sgt (W a) (W b) = 1#1 ↔ b < a := by
  unfold IntOp.cmpi
  rw [ofBool_eq_one]
  show (W b).slt (W a) = true ↔ _
  rw [BitVec.slt_iff_toInt_lt, toInt_W ha, toInt_W hb]

theorem eq_W {a b : ℤ} (ha : Small a) (hb : Small b) : IntOp.cmpi .eq (W a) (W b) = 1#1 ↔ a = b := by
  unfold IntOp.cmpi
  rw [ofBool_eq_one]
  show (W a == W b) = true ↔ _
  rw [beq_iff_eq]
  exact ⟨fun h => by rw [← toInt_W ha, ← toInt_W hb, h], fun h => h ▸ rfl⟩

theorem andi_one (x y : BitVec 1) : IntOp.andi x y = 1#1 ↔ x = 1#1 ∧ y = 1#1 := by
  unfold IntOp.andi; revert x y; decide

theorem ori_one (x y : BitVec 1) : IntOp.ori x y = 1#1 ↔ x = 1#1 ∨ y = 1#1 := by
  unfold IntOp.ori; revert x y; decide

theorem shrsi_W {a : ℤ} (h : Small a) (n : ℕ) (hn : n < 32) :
    IntOp.shrsi .host (W a) (BitVec.ofNat 32 n) = W (a / 2 ^ n) := by
  have e : (BitVec.ofNat 32 n).toNat = n := by rw [BitVec.toNat_ofNat]; exact Nat.mod_eq_of_lt (by omega)
  have hs : Small (a / 2 ^ n) := by
    have hp : (0 : ℤ) < 2 ^ n := by positivity
    have h1 : (1 : ℤ) ≤ 2 ^ n := hp
    constructor
    · rw [Int.le_ediv_iff_mul_le hp]; nlinarith [h.1]
    · refine (Int.ediv_le_ediv hp h.2).trans ?_
      exact Int.ediv_le_self _ (by norm_num)
  unfold IntOp.shrsi
  rw [e, if_pos hn]
  apply BitVec.eq_of_toInt_eq
  rw [toInt_W hs, BitVec.toInt_sshiftRight', toInt_W h, e, Int.shiftRight_eq_div_pow]
  norm_cast

theorem remsi_W {u : ArithUnit} {a b : ℤ} (ha : Small a) (h0 : 0 ≤ a) (hb : 0 < b) (hs : Small b) :
    IntOp.remsi u (W a) (W b) = W (a % b) := by
  unfold IntOp.remsi
  have tb := toInt_W hs
  have ta := toInt_W ha
  rw [if_neg]
  · apply BitVec.eq_of_toInt_eq
    have hm := Int.emod_nonneg a (by omega : b ≠ 0)
    have hl := Int.emod_lt_of_pos a hb
    rw [BitVec.toInt_srem, ta, tb, toInt_W ⟨by omega, by have := hs.2; omega⟩, Int.tmod_eq_emod_of_nonneg h0]
  · unfold IntOp.SDivCorner
    rintro (h | ⟨-, h⟩)
    · rw [h] at tb; simp at tb; omega
    · rw [h] at tb; simp at tb; omega

theorem abs_small {a : ℤ} (h : Small a) : Small |a| := by
  have h1 := abs_nonneg a
  exact ⟨by omega, abs_le.mpr ⟨by omega, h.2⟩⟩

/-- A word is the word of its number. -/
theorem word_eq (w : BitVec 32) : w = W (w.toNat : ℤ) := by
  rw [← ofNat_eq]; simp

/-- A select between words of one bit. -/
theorem select_one (b x y : BitVec 1) : Scalar.select b x y = 1#1 ↔ (b = 1#1 ∧ x = 1#1) ∨ (¬ b = 1#1 ∧ y = 1#1) := by
  revert b x y; decide

end Cert.Words
-- ==== Proof.AttnIdeal.BiasAt.lean ====
module

public import proofs.«01_k».proof.Proof.AttnIdeal.Host
public import proofs.«01_k».proof.Proof.Seen
public import proofs.«01_k».proof.Proof.Words
public import Idealize.ShloMosaic.Lib.Pointwise

@[expose] public section

set_option maxRecDepth 16384

noncomputable section

/-!
# The elements of the arrays the host line prepares

The bias is zero at a visible slot and minus infinity at any other; the projections are the scaled queries, the gates, the
keys and the values side by side.
-/

namespace Cert.KernelIdeal.Attn

open Cert.KernelIdeal.Gen
open Idealize.ShloMosaic Idealize.ShloMosaic.TcCoe
open Cert.Seen

theorem rowMajor5 (k : Fin 5) : S5.rowMajor (ix1 k) = k := Fin.ext (by revert k; decide +kernel)

/-- The bits of the table say which slots are visible. -/
theorem visV_at (k : Fin 5) (c : Fin 400) (r : Fin 128) :
    visV (ix3 k c r) = 1#1 ↔ Vis (lit4 k).toNat (lit5 k).toNat (c : ℕ) (r : ℕ) := by
  have hk := case_small k
  have hc := c.isLt
  have hr := r.isLt
  pointwise [visV, queryRow, slotRow]
  rw [rowMajor5]
  generalize hJ : (lit4 k).toNat = J at *
  generalize hN : (lit5 k).toNat = N at *
  rw [show lit4 k = Words.W (J : ℤ) from hJ ▸ Words.word_eq _, show lit5 k = Words.W (N : ℤ) from hN ▸ Words.word_eq _]
  simp only [Words.ofNat_eq, Words.addi_W, Words.subi_W, Words.muli_W, Nat.cast_ofNat, Nat.cast_one]
  have s1 : Words.Small ((J : ℤ) * 128 + (r : ℕ) - (((J : ℤ) - 1) * 128 + (c : ℕ))) := by constructor <;> omega
  have s2 : Words.Small ((J : ℤ) * 128 + (r : ℕ) - 112 - ((c : ℕ) - 384)) := by constructor <;> omega
  rw [Words.select_one, Words.andi_one, Words.andi_one, Words.absi_W s1, Words.absi_W s2,
    Words.slt_W ⟨by omega, by omega⟩ ⟨by omega, by omega⟩, Words.slt_W ⟨by omega, by omega⟩ ⟨by omega, by omega⟩,
    Words.sge_W ⟨by omega, by omega⟩ ⟨by omega, by omega⟩, Words.sle_W (Words.abs_small s1) ⟨by omega, by omega⟩,
    Words.sgt_W (Words.abs_small s2) ⟨by omega, by omega⟩]
  unfold Vis
  rw [not_lt]

theorem neg_inf : Idealize.ShloMosaic.Ideal.ofBits .f32 4286578688#32 = (⊥ : EReal) := by
  simp [Ideal.ofBits, Ideal.ieee]

/-- The biases. -/
theorem biasV_at (k : Fin 5) (c : Fin 400) (r : Fin 128) :
    (biasV (F := Ideal) (ix3 k c r) : EReal) = if Vis (lit4 k).toNat (lit5 k).toNat (c : ℕ) (r : ℕ) then 0 else ⊥ := by
  pointwise [biasV]
  rw [neg_inf]
  unfold Scalar.select
  exact if_congr (visV_at k c r) rfl rfl

/-- A scaled query. -/
theorem proj_query (q : FVec Ideal S26112x2048 .f32) (k v : FVec Ideal S26112x512 .f32) (z : FVec Ideal S26112x2048 .f32)
    (R : Fin 26112) (C : Fin 2048) (h : (C : ℕ) < 5120) : (projV q k v z (ix2 R ⟨C, h⟩) : EReal) =
      Ideal.div (q (ix2 R C) * Ideal.ofBits .f32 1035273459#32) (Ideal.log (Ideal.ofBits .f32 1073741824#32)) := by
  pointwise [projV, queriesV]

/-- A gate. -/
theorem proj_gate (q : FVec Ideal S26112x2048 .f32) (k v : FVec Ideal S26112x512 .f32) (z : FVec Ideal S26112x2048 .f32)
    (R : Fin 26112) (C : Fin 2048) (h : 2048 + (C : ℕ) < 5120) : (projV q k v z (ix2 R ⟨2048 + C, h⟩) : EReal) =
      z (ix2 R C) * Ideal.div 1 (1 + Ideal.exp (-z (ix2 R C))) := by
  pointwise [projV, gatesV]

/-- A key. -/
theorem proj_key (q : FVec Ideal S26112x2048 .f32) (k v : FVec Ideal S26112x512 .f32) (z : FVec Ideal S26112x2048 .f32)
    (R : Fin 26112) (C : Fin 512) (h : 4096 + (C : ℕ) < 5120) : (projV q k v z (ix2 R ⟨4096 + C, h⟩) : EReal) = k (ix2 R C) := by
  have hC := C.isLt
  pointwise [projV]
  rw [dif_neg (by omega), dif_neg (by omega), dif_pos (by omega)]
  exact congrArg (fun j => k (ix2 R j)) (Fin.ext (by simp only; omega))

/-- A value. -/
theorem proj_value (q : FVec Ideal S26112x2048 .f32) (k v : FVec Ideal S26112x512 .f32) (z : FVec Ideal S26112x2048 .f32)
    (R : Fin 26112) (C : Fin 512) (h : 4096 + (512 + (C : ℕ)) < 5120) : (projV q k v z (ix2 R ⟨4096 + (512 + C), h⟩) : EReal) = v (ix2 R C) := by
  have hC := C.isLt
  pointwise [projV]
  rw [dif_neg (by omega), dif_neg (by omega), dif_neg (by omega)]
  exact congrArg (fun j => v (ix2 R j)) (Fin.ext (by simp only; omega))

end Cert.KernelIdeal.Attn

end
-- ==== Proof.Ref.At.lean ====
module

public import proofs.«01_k».proof.Proof.Ref.Stages
public import proofs.«01_k».proof.Proof.Seen
public import proofs.«01_k».proof.Proof.Words
public import Idealize.ShloMosaic.Lib.Pointwise

@[expose] public section

set_option maxRecDepth 16384

noncomputable section

/-!
# The elements of the reference's stages

At the ideal, one element of each stage, and of the result.
-/

namespace Cert.ReferenceIdeal.Attn

open Cert.ReferenceIdeal Cert.ReferenceIdeal.Gen
open Idealize.ShloMosaic Idealize.ShloMosaic.TcCoe
open Cert.Seen

/-- A choice by a bit. -/
theorem select_bit {α : Type} (b : BitVec 1) (x y : α) : Scalar.select b x y = if b = 1#1 then x else y := rfl

/-- The greatest element along the last axis. -/
theorem greatest (n0 n1 n2 n3 : ℕ) (s : FVec Ideal ⟨4, ![n0, n1, n2, n3]⟩ .f32)
    (h : (⟨4, ![n0, n1, n2, n3]⟩ : Shape).ReducesTo [3] ⟨3, ![n0, n1, n2]⟩) (i : FVec Ideal ⟨0, ![]⟩ .f32)
    (hu : 0 < (⟨0, ![]⟩ : Shape).numel) (a : Fin n0) (b : Fin n1) (c : Fin n2) :
    Host.reduce (FloatOps.maximumf (F := Ideal) (φ := .f32)) s i h hu (ix3 a b c) =
      Finset.univ.fold max (i (Shape.Idx.first hu)) (fun x => s (ix4 a b c x)) := by
  pointwise

/-- The sequence of a row, as a word. -/
theorem seqV_at (R : Fin 26112) : seqV (ix1 R) = Words.W (seqR R : ℕ) := by
  have hR := R.isLt
  have hs : Words.Small ((R : ℕ) : ℤ) := ⟨by omega, by omega⟩
  pointwise [seqV]
  simp only [Words.ofNat_eq (R : ℕ), show (24576#32) = Words.W 24576 from rfl, show (8192#32) = Words.W 8192 from rfl, Words.subi_W,
    Words.shrsi_W (show Words.Small ((R : ℕ) - 24576) from ⟨by omega, by omega⟩) 7 (by norm_num),
    Words.shrsi_W (show Words.Small ((R : ℕ) - 8192) from ⟨by omega, by omega⟩) 11 (by norm_num),
    show (0#32) = Words.W 0 from rfl, show (1#32) = Words.W 1 from rfl, Words.addi_W, select_bit,
    Words.sge_W hs (show Words.Small 24576 by decide), Words.slt_W hs (show Words.Small 8192 by decide)]
  unfold seqR
  split_ifs <;> first | rfl | omega | (refine congrArg Words.W ?_; push_cast; omega)

theorem seqR_lt (R : Fin 26112) : seqR R < 12 := by
  have hR := R.isLt
  unfold seqR; split_ifs <;> omega

theorem posR_small (R : Fin 26112) : -1000000 ≤ posR R ∧ posR R ≤ 1000000 := by
  have hR := R.isLt
  have := seqR_lt R
  unfold posR; split_ifs <;> constructor <;> omega

/-- The position of a row, as a word. -/
theorem posV_at (R : Fin 26112) : posV (ix1 R) = Words.W (posR R) := by
  have hR := R.isLt
  have hs : Words.Small ((R : ℕ) : ℤ) := ⟨by omega, by omega⟩
  have hq := seqR_lt R
  pointwise [posV]
  rw [seqV_at]
  simp only [Words.ofNat_eq (R : ℕ), show (24576#32) = Words.W 24576 from rfl, show (128#32) = Words.W 128 from rfl,
    show (112#32) = Words.W 112 from rfl, show (6144#32) = Words.W 6144 from rfl, show (2048#32) = Words.W 2048 from rfl,
    show (0#32) = Words.W 0 from rfl, show (16#32) = Words.W 16 from rfl, Words.subi_W, Words.addi_W, Words.muli_W, select_bit,
    Words.sge_W hs (show Words.Small 24576 by decide),
    Words.eq_W (show Words.Small ((seqR R : ℕ) : ℤ) from ⟨by omega, by omega⟩) (show Words.Small 0 by decide)]
  unfold posR
  split_ifs
  all_goals
    first
    | omega
    | exact congrArg Words.W (by push_cast; omega)
    | (rw [Words.subi_W, Words.addi_W]; exact congrArg Words.W (by push_cast; omega))

/-- The bits of the mask say which rows a row sees. -/
theorem maskV_at (R R' : Fin 26112) : maskV (ix2 R R') = 1#1 ↔ Sees R R' := by
  have hq := seqR_lt R
  have hq' := seqR_lt R'
  have hp := posR_small R
  have hp' := posR_small R'
  pointwise [maskV, downV, rowV]
  rw [seqV_at, seqV_at, posV_at, posV_at, show (128#32) = Words.W 128 from rfl, show (0#32) = Words.W 0 from rfl,
    show (16#32) = Words.W 16 from rfl, Words.subi_W]
  have s1 : Words.Small (posR R - posR R') := ⟨by omega, by omega⟩
  rw [Words.andi_one, Words.andi_one, Words.ori_one, Words.absi_W s1, Words.eq_W ⟨by omega, by omega⟩ ⟨by omega, by omega⟩,
    Words.sge_W ⟨by omega, by omega⟩ (by decide), Words.sle_W (Words.abs_small s1) (by decide),
    Words.slt_W ⟨by omega, by omega⟩ (by decide)]
  unfold Sees
  rw [and_assoc, Nat.cast_inj]

theorem neg_inf : Idealize.ShloMosaic.Ideal.ofBits .f32 4286578688#32 = (⊥ : EReal) := by
  simp [Ideal.ofBits, Ideal.ieee]

/-- A masked score. -/
theorem scoresV_at (q : FVec Ideal S26112x2048 .f32) (k : FVec Ideal S26112x512 .f32) (h g : Fin 4) (R R' : Fin 26112) :
    (scoresV q k (ix4 h g R R') : EReal) =
      if Sees R R' then (∑ x : Fin 128, k (ix2 R' ⟨h * 128 + x, by omega⟩) * q (ix2 R ⟨h * 512 + g * 128 + x, by omega⟩)) *
        Ideal.ofBits .f32 1035273459#32 else ⊥ := by
  pointwise [scoresV]
  rw [neg_inf]
  rw [select_bit]
  exact if_congr (maskV_at R R') rfl rfl

/-- A sink. -/
theorem sinkV_at (s : FVec Ideal S16 .f32) (h g : Fin 4) (R : Fin 26112) :
    (sinkV s (ix4 h g R 0) : EReal) = s (ix1 ⟨h * 4 + g, by omega⟩) := by
  pointwise [sinkV]

/-- A value of each head and row as a column. -/
theorem spread_last (w : FVec Ideal S4x4x26112 .f32) (h g : Fin 4) (R : Fin 26112) :
    (broadcastInDim S4x4x26112x1 ![0, 1, 2] bcast_S4x4x26112_S4x4x26112x1_0_1_2 w (ix4 h g R 0) : EReal) = w (ix3 h g R) := by
  pointwise

/-- The greatest score of a row. -/
theorem greatest_at (s : FVec Ideal S4x4x26112x26112 .f32) (h g : Fin 4) (R : Fin 26112) :
    Host.reduce (FloatOps.maximumf (F := Ideal) (φ := .f32)) s (constant (F := Ideal) S_ .f32 0xFF800000#32) reducesTo_S4x4x26112x26112_S4x4x26112_d3 h_S_ (ix3 h g R) =
      Finset.univ.fold max (constant (F := Ideal) S_ .f32 0xFF800000#32 (Shape.Idx.first h_S_)) (fun x : Fin 26112 => (s (ix4 h g R x) : EReal)) :=
  greatest 4 4 26112 26112 s reducesTo_S4x4x26112x26112_S4x4x26112_d3 (constant S_ .f32 0xFF800000#32) h_S_ h g R

/-- The greatest element starts from minus infinity. -/
theorem least_at : (constant (F := Ideal) S_ .f32 0xFF800000#32 (Shape.Idx.first h_S_) : EReal) = ⊥ := neg_inf

/-- The same for the maximum of a row's scores. -/
theorem fold_at (s : FVec Ideal S4x4x26112x26112 .f32) (h g : Fin 4) (R : Fin 26112) :
      Finset.univ.fold max (constant (F := Ideal) S_ .f32 0xFF800000#32 (Shape.Idx.first h_S_) : EReal) (fun x : Fin 26112 => (s (ix4 h g R x) : EReal)) = Finset.univ.fold max ⊥ (fun x : Fin 26112 => (s (ix4 h g R x) : EReal)) :=
  by rw [least_at]

/-- The maximum of a column and the sinks. -/
theorem peak_sum (w : FVec Ideal S4x4x26112 .f32) (sk : FVec Ideal S4x4x26112x1 .f32) (h g : Fin 4) (R : Fin 26112) :
    (maximumf (broadcastInDim S4x4x26112x1 ![0, 1, 2] bcast_S4x4x26112_S4x4x26112x1_0_1_2 w) sk (ix4 h g R 0) : EReal) =
      max (w (ix3 h g R)) (sk (ix4 h g R 0)) := by
  pointwise

/-- The greatest of a row's scores and its sink. -/
theorem peakV_at (s : FVec Ideal S4x4x26112x26112 .f32) (sk : FVec Ideal S4x4x26112x1 .f32) (h g : Fin 4) (R : Fin 26112) :
    (peakV s sk (ix4 h g R 0) : EReal) =
      max (Finset.univ.fold max ⊥ (fun x : Fin 26112 => (s (ix4 h g R x) : EReal))) (sk (ix4 h g R 0)) :=
  (peak_sum _ sk h g R).trans (congrArg (fun a : EReal => max a (sk (ix4 h g R 0))) ((greatest_at s h g R).trans (fold_at s h g R)))

/-- A weight. -/
theorem weightsV_at (s : FVec Ideal S4x4x26112x26112 .f32) (p : FVec Ideal S4x4x26112x1 .f32) (h g : Fin 4) (R R' : Fin 26112) :
    (weightsV s p (ix4 h g R R') : EReal) = Ideal.exp (s (ix4 h g R R') - p (ix4 h g R 0)) := by
  pointwise [weightsV, spreadV]

/-- A total. -/
theorem totalV_at (e : FVec Ideal S4x4x26112x26112 .f32) (sk p : FVec Ideal S4x4x26112x1 .f32) (h g : Fin 4) (R : Fin 26112) :
    (totalV e sk p (ix4 h g R 0) : EReal) =
      (∑ x : Fin 26112, e (ix4 h g R x)) + Ideal.exp (sk (ix4 h g R 0) - p (ix4 h g R 0)) := by
  pointwise [totalV]

/-- The attention of a row at one dimension of a head. -/
theorem attnV_at (e : FVec Ideal S4x4x26112x26112 .f32) (t : FVec Ideal S4x4x26112x1 .f32) (v : FVec Ideal S26112x512 .f32) (h g : Fin 4)
    (R : Fin 26112) (d : Fin 128) (hc : 128 * (4 * (h : ℕ) + g) + d < 2048) :
    (attnV e t v (ix2 R ⟨128 * (4 * h + g) + d, hc⟩) : EReal) =
      ∑ x : Fin 26112, v (ix2 x ⟨h * 128 + d, by omega⟩) * Ideal.div (e (ix4 h g R x)) (t (ix4 h g R 0)) := by
  pointwise [attnV, spreadV]

/-- A gate. -/
theorem gateV_at (z : FVec Ideal S26112x2048 .f32) (R : Fin 26112) (C : Fin 2048) :
    (gateV z (ix2 R C) : EReal) = z (ix2 R C) * Ideal.div 1 (1 + Ideal.exp (-z (ix2 R C))) := by
  pointwise [gateV]

end Cert.ReferenceIdeal.Attn

end
-- ==== Proof.Equal.lean ====
module

public import proofs.«01_k».proof.Proof.AttnIdeal.Value
public import proofs.«01_k».proof.Proof.AttnIdeal.Host
public import proofs.«01_k».proof.Proof.AttnIdeal.BiasAt
public import proofs.«01_k».proof.Proof.Ref.At
public import proofs.«01_k».proof.Proof.Softmax

@[expose] public section

set_option maxRecDepth 16384

noncomputable section

/-!
# The kernel's element is the reference's

For finite queries, keys and sinks, the gated attention over the 400 rows a block reads is the gated attention over all the
rows, because the rows that are seen are the same, and powers of two of scores over `log 2` are the exponentials.
-/

namespace Cert.Equal

open Idealize.ShloMosaic Idealize.ShloMosaic.TcCoe
open Cert.Seen
open Cert.KernelIdeal.Attn (projV biasV score sinkAt peakAt attnAt proj_query proj_gate proj_key proj_value biasV_at)
open Cert.ReferenceIdeal.Attn (resultV scoresV sinkV peakV weightsV totalV attnV gateV)

/-- The scale is a real number. -/
theorem scale_real : ∃ a : ℝ, Ideal.ofBits .f32 1035273459#32 = (a : EReal) := by
  refine ⟨((Ideal.ofBits .f32 1035273459#32 : EReal)).toReal, ?_⟩
  rw [EReal.coe_toReal] <;> simp [Ideal.ofBits, Ideal.ieee, -EReal.coe_mul]

/-- The logarithm the queries are divided by. -/
theorem log_two : Ideal.log (Ideal.ofBits .f32 1073741824#32) = ((Real.log 2 : ℝ) : EReal) := by
  have e : (Ideal.ofBits .f32 1073741824#32 : EReal) = ((2 : ℝ) : EReal) := by
    simp [Ideal.ofBits, Ideal.ieee, -EReal.coe_mul]; norm_num
  rw [e, Ideal.log_coe, if_neg (by norm_num)]

section Elements

variable (q : FVec Ideal ⟨2, ![26112, 2048]⟩ .f32) (k v : FVec Ideal ⟨2, ![26112, 512]⟩ .f32) (z : FVec Ideal ⟨2, ![26112, 2048]⟩ .f32)
  (sink : FVec Ideal ⟨1, ![16]⟩ .f32)

/-- The projections by row and column. -/
def A (R : Fin 26112) (C : Fin 5120) : EReal := projV q k v z (ix2 R C)

/-- The biases by case, slot and row. -/
def B (i : Fin 5) (c : Fin 400) (r : Fin 128) : EReal := biasV (F := Ideal) (ix3 i c r)

/-- The sinks by head. -/
def S (i : Fin 16) : EReal := sink (ix1 i)

/-- A visible slot's score is the scaled product of its row's key over `log 2`; any other's is minus infinity. -/
theorem score_at (qr : (⟨2, ![26112, 2048]⟩ : Shape).Idx → ℝ) (hq : ∀ i, (q i : EReal) = qr i)
    (kr : (⟨2, ![26112, 512]⟩ : Shape).Idx → ℝ) (hk : ∀ i, (k i : EReal) = kr i)
    (a : ℝ) (ha : Ideal.ofBits .f32 1035273459#32 = (a : EReal)) (β : Fin 204) (h g : Fin 4) (r : Fin 128) (c : Fin 400) :
    score (A q k v z) B β h g r c =
      if Vis (KernelIdeal.lit4 (caseB β)).toNat (KernelIdeal.lit5 (caseB β)).toNat (c : ℕ) (r : ℕ) then
        (((∑ x : Fin 128, kr (ix2 ⟨rowOf β c, rowOf_lt β.2 c.2⟩ ⟨h * 128 + x, by omega⟩) *
          qr (ix2 ⟨128 * β + r, by omega⟩ ⟨h * 512 + g * 128 + x, by omega⟩)) * a / Real.log 2 : ℝ) : EReal)
      else ⊥ := by
  have hl : Real.log 2 ≠ 0 := (Real.log_pos (by norm_num)).ne'
  have key : ∀ x : Fin 128, A q k v z ⟨rowOf β c, rowOf_lt β.2 c.2⟩ ⟨4096 + (128 * h + x), by omega⟩ =
      (kr (ix2 ⟨rowOf β c, rowOf_lt β.2 c.2⟩ ⟨h * 128 + x, by omega⟩) : EReal) := fun x => by
    unfold A
    refine (proj_key q k v z _ ⟨128 * h + x, by omega⟩ (by simp only; omega)).trans ((hk _).trans ?_)
    exact congrArg (fun j => ((kr (ix2 _ j) : ℝ) : EReal)) (Fin.ext (by simp only; omega))
  have qry : ∀ x : Fin 128, A q k v z ⟨128 * β + r, by omega⟩ ⟨512 * h + 128 * g + x, by omega⟩ =
      Ideal.div ((qr (ix2 ⟨128 * β + r, by omega⟩ ⟨h * 512 + g * 128 + x, by omega⟩) : EReal) * (a : EReal)) ((Real.log 2 : ℝ) : EReal) := fun x => by
    unfold A
    refine (proj_query q k v z _ ⟨512 * h + 128 * g + x, by omega⟩ (by simp only; omega)).trans ?_
    rw [hq, ha, log_two]
    exact congrArg (fun j => Ideal.div (((qr (ix2 _ j) : ℝ) : EReal) * (a : EReal)) ((Real.log 2 : ℝ) : EReal)) (Fin.ext (by simp only; omega))
  unfold score
  rw [Finset.sum_congr rfl fun x _ => congrArg₂ (fun a b : EReal => a * b) (key x) (qry x), Softmax.dot_scaled _ _ _ _ hl]
  rw [show B (caseB β) c r = _ from biasV_at (caseB β) c r]
  split_ifs
  · exact add_zero _
  · exact EReal.add_bot _

/-- A sink over `log 2`. -/
theorem sink_at (sr : (⟨1, ![16]⟩ : Shape).Idx → ℝ) (hs : ∀ i, (sink i : EReal) = sr i) (h g : Fin 4) :
    sinkAt (S sink) h g = ((sr (ix1 ⟨h * 4 + g, by omega⟩) / Real.log 2 : ℝ) : EReal) := by
  unfold sinkAt S
  rw [hs, ← EReal.coe_mul, ← div_eq_mul_inv]
  exact congrArg (fun j => ((sr (ix1 j) / Real.log 2 : ℝ) : EReal)) (Fin.ext (by simp only; omega))

/-- The gated attention over a block's slots is the reference's element. -/
theorem attn_eq (hq : ∀ i, ∃ x : ℝ, (q i : EReal) = x) (hk : ∀ i, ∃ x : ℝ, (k i : EReal) = x) (hs : ∀ i, ∃ x : ℝ, (sink i : EReal) = x)
    (β : Fin 204) (h g : Fin 4) (r d : Fin 128) (hR : 128 * (β : ℕ) + r < 26112) (hC : 128 * (4 * (h : ℕ) + g) + d < 2048) :
    attnAt (A q k v z) B (S sink) β h g r d =
      (resultV q k v z sink (ix2 ⟨128 * β + r, hR⟩ ⟨128 * (4 * h + g) + d, hC⟩) : EReal) := by
  choose qr hqr using hq
  choose kr hkr using hk
  choose sr hsr using hs
  obtain ⟨a, ha⟩ := scale_real
  show _ = (attnV (weightsV (scoresV q k) (peakV (scoresV q k) (sinkV sink)))
      (totalV (weightsV (scoresV q k) (peakV (scoresV q k) (sinkV sink))) (sinkV sink) (peakV (scoresV q k) (sinkV sink))) v
      (ix2 ⟨128 * β + r, hR⟩ ⟨128 * (4 * h + g) + d, hC⟩) : EReal) * gateV z (ix2 ⟨128 * β + r, hR⟩ ⟨128 * (4 * h + g) + d, hC⟩)
  unfold attnAt
  refine congrArg₂ (fun a b : EReal => a * b) ?_ ?_
  · rw [ReferenceIdeal.Attn.attnV_at, ReferenceIdeal.Attn.totalV_at]
    simp only [ReferenceIdeal.Attn.weightsV_at, ReferenceIdeal.Attn.sinkV_at, hsr]
    refine Softmax.attend (sees_match β.2 r.2 (tells β))
      (fun R' => (∑ x : Fin 128, kr (ix2 R' ⟨h * 128 + x, by omega⟩) * qr (ix2 ⟨128 * β + r, hR⟩ ⟨h * 512 + g * 128 + x, by omega⟩)) * a)
      (sr (ix1 ⟨h * 4 + g, by omega⟩)) (fun R' => (v (ix2 R' ⟨h * 128 + d, by omega⟩) : EReal)) _
      (fun R' => (scoresV q k (ix4 h g ⟨128 * β + r, hR⟩ R') : EReal)) (score (A q k v z) B β h g r) (sinkAt (S sink) h g) _
      (peakAt (A q k v z) B (S sink) β h g r) ?_ ?_ ?_ ?_ ?_ ?_
    · intro R'
      refine (ReferenceIdeal.Attn.scoresV_at q k h g _ R').trans ?_
      rw [ha]
      simp only [hqr, hkr]
      rw [Softmax.dot_then (fun x : Fin 128 => kr (ix2 R' ⟨h * 128 + x, by omega⟩))
        (fun x => qr (ix2 ⟨128 * β + r, hR⟩ ⟨h * 512 + g * 128 + x, by omega⟩)) a]
    · exact fun c => score_at q k v z qr hqr kr hkr a ha β h g r c
    · exact sink_at sink sr hsr h g
    · refine (ReferenceIdeal.Attn.peakV_at _ _ h g _).trans ?_
      rw [ReferenceIdeal.Attn.sinkV_at, hsr]
    · rfl
    · intro c _
      unfold A
      have e := proj_value q k v z ⟨rowOf β c, rowOf_lt β.2 c.2⟩ ⟨h * 128 + d, by omega⟩ (by simp only; omega)
      refine Eq.trans ?_ e
      exact congrArg (fun j => (projV q k v z (ix2 _ j) : EReal)) (Fin.ext (by simp only; omega))
  · rw [ReferenceIdeal.Attn.gateV_at]
    unfold A
    refine Eq.trans ?_ (proj_gate q k v z ⟨128 * β + r, hR⟩ ⟨128 * (4 * h + g) + d, hC⟩ (by simp only; omega))
    exact congrArg (fun j => (projV q k v z (ix2 _ j) : EReal)) (Fin.ext (by simp only; omega))

end Elements

open Cert.KernelIdeal Cert.KernelIdeal.Gen Cert.KernelIdeal.Attn in
/-- The kernel's result array is the reference's function of the same arguments. -/
theorem outM_eq (m : (ℓ : Loc nD τ sig) → Buf (Elt Ideal) ℓ) (c : Dev nD)
    (q : FVec Ideal ⟨2, ![26112, 2048]⟩ .f32) (k v : FVec Ideal ⟨2, ![26112, 512]⟩ .f32) (z : FVec Ideal ⟨2, ![26112, 2048]⟩ .f32)
    (sink : FVec Ideal ⟨1, ![16]⟩ .f32) (hP : V m c main_v13 = projV q k v z) (hN : V m c main_arg4 = sink)
    (hq : ∀ i, ∃ x : ℝ, (q i : EReal) = x) (hk : ∀ i, ∃ x : ℝ, (k i : EReal) = x) (hs : ∀ i, ∃ x : ℝ, (sink i : EReal) = x) :
    (outM m c : S26112x2048.Idx → EReal) = resultV q k v z sink := by
  have hA : projM m c = A q k v z := funext fun R => funext fun C => congrFun hP (ix2 R C)
  have hB : biasM m c = B := funext fun k => funext fun i => funext fun j => congrFun (V_bias m c) (ix3 k i j)
  have hS : sinkM m c = S sink := funext fun i => congrFun hN (ix1 i)
  refine funext fun (y : S26112x2048.Idx) => ?_
  have lt0 : ((y 0 : Fin 26112) : ℕ) < 26112 := (y 0).isLt
  have lt1 : ((y 1 : Fin 2048) : ℕ) < 2048 := (y 1).isLt
  obtain ⟨R, hR⟩ : ∃ R : Fin 26112, R = y 0 := ⟨_, rfl⟩
  obtain ⟨C, hC⟩ : ∃ C : Fin 2048, C = y 1 := ⟨_, rfl⟩
  have ey : y = (ix2 R C : S26112x2048.Idx) := funext fun a => by
    match a with
    | 0 => exact hR.symm
    | 1 => exact hC.symm
  have r0 : 128 * ((R : ℕ) / 128) + (R : ℕ) % 128 < 26112 := by omega
  have c0 : 128 * (4 * ((C : ℕ) / 512) + (C : ℕ) / 128 % 4) + (C : ℕ) % 128 < 2048 := by omega
  have eR : R = ⟨128 * ((R : ℕ) / 128) + (R : ℕ) % 128, r0⟩ := Fin.ext (by simp only; omega)
  have eC : C = ⟨128 * (4 * ((C : ℕ) / 512) + (C : ℕ) / 128 % 4) + (C : ℕ) % 128, c0⟩ := Fin.ext (by simp only; omega)
  have key := attn_eq q k v z sink hq hk hs
    ⟨(R : ℕ) / 128, by omega⟩ ⟨(C : ℕ) / 512, by omega⟩ ⟨(C : ℕ) / 128 % 4, by omega⟩ ⟨(R : ℕ) % 128, by omega⟩ ⟨(C : ℕ) % 128, by omega⟩ r0 c0
  have mid := outM_at m c ⟨(R : ℕ) / 128, by omega⟩ ⟨(C : ℕ) / 512, by omega⟩ ⟨(C : ℕ) / 128 % 4, by omega⟩ ⟨(R : ℕ) % 128, by omega⟩
    ⟨(C : ℕ) % 128, by omega⟩ r0 c0
  rw [hA, hB, hS] at mid
  have both := mid.trans key
  have ei : y = (ix2 (⟨128 * ((R : ℕ) / 128) + (R : ℕ) % 128, r0⟩ : Fin 26112)
      (⟨128 * (4 * ((C : ℕ) / 512) + (C : ℕ) / 128 % 4) + (C : ℕ) % 128, c0⟩ : Fin 2048) : S26112x2048.Idx) :=
    ey.trans (congrArg₂ (fun a b => (ix2 a b : S26112x2048.Idx)) eR eC)
  rw [ei]
  exact both

end Cert.Equal

end
-- ==== Proof.Finite.lean ====
module

public import proofs.«01_k».proof.Proof.Gen.Pre_finite
public import Idealize.ShloMosaic.Lib.Pointwise

@[expose] public section

set_option maxRecDepth 16384

noncomputable section

/-!
# What the precondition says

A number whose size is below infinity is real, so the queries, the keys and the sinks are.
-/

namespace Cert.Finite

open Idealize.ShloMosaic Idealize.ShloMosaic.TcCoe

/-- A number whose size compares below infinity is real. -/
theorem real_of_size (x : Ideal .f32)
    (h : FloatOps.cmpf CmpFPredicate.olt (FloatOps.hostAbsf x) (Ideal.ofBits .f32 0x7F800000#32 : Ideal .f32) = 1#1) :
    ∃ r : ℝ, (x : EReal) = r := by
  have top : (Ideal.ofBits .f32 0x7F800000#32 : EReal) = ⊤ := by simp [Ideal.ofBits, Ideal.ieee]
  have lt : max (x : EReal) (-x) < ⊤ := by
    by_contra hn
    rw [top] at h
    have e : Ideal.cmp .olt (max (x : EReal) (-x)) ⊤ = 0#1 := by
      unfold Ideal.cmp
      simp only [hn, decide_false]
      rfl
    exact absurd (e.symm.trans h) (by decide)
  obtain ⟨h1, h2⟩ := max_lt_iff.1 lt
  refine ⟨EReal.toReal x, (EReal.coe_toReal h1.ne ?_).symm⟩
  intro hb
  rw [hb, EReal.neg_bot] at h2
  exact lt_irrefl _ h2

variable (q : FVec Ideal ⟨2, ![26112, 2048]⟩ .f32) (k v : FVec Ideal ⟨2, ![26112, 512]⟩ .f32) (z : FVec Ideal ⟨2, ![26112, 2048]⟩ .f32)
  (sink : FVec Ideal ⟨1, ![16]⟩ .f32)

/-- The queries are real. -/
theorem queries_real (h : (Cert.Pre_finite.fn (F := Ideal) q k v z sink).1 = fun _ => 1#1) (i : (⟨2, ![26112, 2048]⟩ : Shape).Idx) :
    ∃ r : ℝ, (q i : EReal) = r := real_of_size (q i) (congrFun h i)

/-- The keys are real. -/
theorem keys_real (h : (Cert.Pre_finite.fn (F := Ideal) q k v z sink).2.1 = fun _ => 1#1) (i : (⟨2, ![26112, 512]⟩ : Shape).Idx) :
    ∃ r : ℝ, (k i : EReal) = r := real_of_size (k i) (congrFun h i)

/-- The sinks are real. -/
theorem sinks_real (h : (Cert.Pre_finite.fn (F := Ideal) q k v z sink).2.2 = fun _ => 1#1) (i : (⟨1, ![16]⟩ : Shape).Idx) :
    ∃ r : ℝ, (sink i : EReal) = r := real_of_size (sink i) (congrFun h i)

end Cert.Finite

end
-- ==== Proof.Conv.Spec.lean ====
module

public import Idealize.ShloMosaic.PureOps.Ideal
public import Idealize.ShloMosaic.Lib.Pointwise

@[expose] public section

noncomputable section

/-!
# The gated projections before a convolution, on extended reals

What the call and the reference both compute, element by element.
-/

namespace Cert.Conv

open Idealize.ShloMosaic

/-- A row over its root mean square, times the weight of the norm. -/
def normed (x g : Fin 2048 → EReal) (k : Fin 2048) : EReal :=
  x k * Ideal.rsqrt (Ideal.div (∑ j, x j * x j) (Ideal.ofBits .f32 0x45000000#32) + Ideal.ofBits .f32 0x358637BD#32) * g k

/-- An element of the projections of a row. -/
def part (x g : Fin 2048 → EReal) (w : Fin 2048 → Fin 8192 → EReal) (C : Fin 8192) : EReal := ∑ k, normed x g k * w k C

/-- Which rows hold a token. -/
abbrev Token (R : ℕ) : Prop := R < 24576 ∨ 112 ≤ R % 128

/-- The gated input of the convolution: the product of the second and third projections, zero where there is no token. -/
def gatedIn (H : Fin 26112 → Fin 2048 → EReal) (g : Fin 2048 → EReal) (w : Fin 2048 → Fin 8192 → EReal) (R : Fin 26112)
    (C : Fin 2048) : EReal :=
  if Token R then part (H R) g w ⟨2048 + C, by omega⟩ * part (H R) g w ⟨4096 + C, by omega⟩ else 0

/-- The gate of the convolution's output: the first projection times the fourth times its logistic. -/
def gateOut (H : Fin 26112 → Fin 2048 → EReal) (g : Fin 2048 → EReal) (w : Fin 2048 → Fin 8192 → EReal) (R : Fin 26112)
    (C : Fin 2048) : EReal :=
  part (H R) g w ⟨C, by omega⟩ *
    (part (H R) g w ⟨6144 + C, by omega⟩ * Ideal.div 1 (1 + Ideal.exp (-part (H R) g w ⟨6144 + C, by omega⟩)))

end Cert.Conv

end

end
-- ==== Proof.Conv.Tile.lean ====
module

public import proofs.«01_k».proof.Proof.Conv.Spec
public import proofs.«01_k».proof.Proof.Gen.Kernel2Ideal.Value
public import Idealize.ShloMosaic.Lib.Pipeline.Value
public import Idealize.ShloMosaic.Lib.Pointwise

@[expose] public section

set_option maxRecDepth 16384

noncomputable section

/-!
# What one grid point of the projection kernel stores

A grid point stores, in each of its two results, eight tiles of 256 × 512: two blocks of rows by four blocks of columns.
-/

namespace Cert.Kernel2Ideal.Conv

open Cert.Kernel2Ideal.Gen
open Idealize.ShloMosaic Idealize.ShloMosaic.TcCoe

variable {F : FTy → Type} [FloatOps F] [Named F]

theorem inb_cols (o : ℕ) (h : o + 512 ≤ 8192) : ∀ a, (![0, 0, o] : Fin 3 → ℕ) a + S1x2048x512.size a ≤ S1x2048x8192.size a := by
  intro a
  match a with
  | ⟨0, _⟩ => show 0 + 1 ≤ 1; omega
  | ⟨1, _⟩ => show 0 + 2048 ≤ 2048; omega
  | ⟨2, _⟩ => show o + 512 ≤ 8192; omega

theorem inb_tile (b : Fin 2) (c : Fin 4) :
    ∀ a, (![256 * b.val, 512 * c.val] : Fin 2 → ℕ) a + (![256, 512] : Fin 2 → ℕ) a ≤ S512x2048.size a := by
  intro a
  match a with
  | ⟨0, _⟩ => show 256 * b.val + 256 ≤ 512; omega
  | ⟨1, _⟩ => show 512 * c.val + 512 ≤ 2048; omega

/-- 512 columns of the weights. -/
def cols (w : Vec F S1x2048x8192 .bf16) (o : ℕ) (h : o + 512 ≤ 8192) : Vec F S1x2048x512 .bf16 :=
  View.ld w (Rect.unit (s := S1x2048x8192) ![0, 0, o] S1x2048x512.size (inb_cols o h))

/-- A tile of the gated input. -/
def inTile (i : grid0.Coords) (hn : Vec F S256x2048 .bf16) (w : Vec F S1x2048x8192 .bf16) (c : Fin 4) : FVec F S256x512 .bf16 :=
  k0_pay7 (k0_pay5 (BitVec.ofNat 32 (i 0).val)) hn (cols w (2048 + 512 * c) (by omega)) hn (cols w (4096 + 512 * c) (by omega))

/-- A tile of the output's gate. -/
def gateTile (hn : Vec F S256x2048 .bf16) (w : Vec F S1x2048x8192 .bf16) (c : Fin 4) : FVec F S256x512 .bf16 :=
  k0_pay8 hn (cols w (512 * c) (by omega)) hn (cols w (6144 + 512 * c) (by omega))

/-- The store of one tile. -/
def piece (T : Fin 4 → FVec F S256x512 .bf16) (b : Fin 2) (c : Fin 4) : View.Piece (Elt F) S512x2048 .bf16 :=
  ⟨Rect.unit (s := S512x2048) ![256 * b.val, 512 * c.val] ![256, 512] (inb_tile b c), T c⟩

/-- The stores of a block of rows, the last first. -/
def pieces (T : Fin 4 → FVec F S256x512 .bf16) (b : Fin 2) : List (View.Piece (Elt F) S512x2048 .bf16) :=
  [piece T b 3, piece T b 2, piece T b 1, piece T b 0]

/-- A property of every store of a block of rows holds when it holds of every tile's. -/
theorem of_mem_pieces {Q : View.Piece (Elt F) S512x2048 .bf16 → Prop} (T : Fin 4 → FVec F S256x512 .bf16) (b : Fin 2)
    (H : ∀ c, Q (piece T b c)) : ∀ p ∈ pieces T b, Q p := by
  unfold pieces
  simp only [List.forall_mem_cons, H, true_and]
  exact fun p hp => absurd hp List.not_mem_nil

/-- A tile's store holds the elements of an array when the tile does. -/
theorem piece_holds (G : S512x2048.Idx → Elt F .bf16) (T : Fin 4 → FVec F S256x512 .bf16) (b : Fin 2) (c : Fin 4)
    (H : ∀ (r : Fin 256) (d : Fin 512), T c (ix2 r d) = G (ix2 ⟨256 * b + r, by omega⟩ ⟨512 * c + d, by omega⟩))
    (x : (piece T b c).1.shape.Idx) : (piece T b c).2 x = G ((piece T b c).1.emb x) := by
  have lt0 : ((x 0 : Fin 256) : ℕ) < 256 := (show Fin 256 from x 0).isLt
  have lt1 : ((x 1 : Fin 512) : ℕ) < 512 := (show Fin 512 from x 1).isLt
  have e : x = (ix2 (x 0 : Fin 256) (x 1 : Fin 512) : S256x512.Idx) := funext fun a => by match a with | 0 => rfl | 1 => rfl
  have k : (piece T b c).1.emb x =
      (ix2 (⟨256 * b + (x 0 : Fin 256), by omega⟩ : Fin 512) (⟨512 * c + (x 1 : Fin 512), by omega⟩ : Fin 2048) : S512x2048.Idx) := by
    funext a
    apply Fin.ext
    match a with
    | 0 => show 256 * (b : ℕ) + 1 * (x 0 : Fin 256) = 256 * b + (x 0 : Fin 256); omega
    | 1 => show 512 * (c : ℕ) + 1 * (x 1 : Fin 512) = 512 * c + (x 1 : Fin 512); omega
  exact (congrArg (T c) e).trans ((H (x 0) (x 1)).trans (congrArg G k.symm))

/-- An element of a normalised tile. -/
theorem norm_at (x : Vec Ideal S256x2048 .f32) (g : Vec Ideal S1x2048 .f32) (r : Fin 256) (k : Fin 2048) :
    (k0_pay6 x g (ix2 r k) : EReal) = Cert.Conv.normed (fun j => x (ix2 r j)) (fun j => g (ix2 0 j)) k := by
  pointwise [k0_pay6]
  rfl

/-- An element of 512 columns of the weights. -/
theorem cols_at (w : Vec Ideal S1x2048x8192 .bf16) (o : ℕ) (h : o + 512 ≤ 8192) (k : Fin 2048) (d : Fin 512) :
    cols w o h (ix3 0 k d) = w (ix3 0 k ⟨o + d, by omega⟩) := by
  refine congrArg w (funext fun a => Fin.ext ?_)
  match a with
  | 0 => rfl
  | 1 => show 0 + 1 * (k : ℕ) = k; omega
  | 2 => show o + 1 * (d : ℕ) = o + d; omega

/-- An element of a tile of the output's gate. -/
theorem pay8_at (x : Vec Ideal S256x2048 .bf16) (u v : Vec Ideal S1x2048x512 .bf16) (r : Fin 256) (d : Fin 512) :
    (k0_pay8 x u x v (ix2 r d) : EReal) = (∑ k : Fin 2048, (x (ix2 r k) : EReal) * u (ix3 0 k d)) *
      ((∑ k : Fin 2048, (x (ix2 r k) : EReal) * v (ix3 0 k d)) *
        Ideal.div 1 (1 + Ideal.exp (-(∑ k : Fin 2048, (x (ix2 r k) : EReal) * v (ix3 0 k d))))) := by
  pointwise [k0_pay8]
  rfl

/-- An element of a tile of the gated input. -/
theorem pay7_at (o : IVec S256x1 1) (x : Vec Ideal S256x2048 .bf16) (u v : Vec Ideal S1x2048x512 .bf16) (r : Fin 256) (d : Fin 512) :
    (k0_pay7 o x u x v (ix2 r d) : EReal) = if o (ix2 r 0) = 1#1 then (∑ k : Fin 2048, (x (ix2 r k) : EReal) * u (ix3 0 k d)) *
      (∑ k : Fin 2048, (x (ix2 r k) : EReal) * v (ix3 0 k d)) else 0 := by
  pointwise [k0_pay7]
  rfl

end Cert.Kernel2Ideal.Conv

end

end
-- ==== Proof.Conv.Pieces.lean ====
module

public import proofs.«01_k».proof.Proof.Conv.Tile

@[expose] public section

set_option maxRecDepth 16384

noncomputable section

/-!
# A grid point's stores are the tiles of its two blocks of rows
-/

namespace Cert.Kernel2Ideal.Conv

open Cert.Kernel2Ideal Cert.Kernel2Ideal.Gen
open Idealize.ShloMosaic Idealize.ShloMosaic.TcCoe

variable {F : FTy → Type} [FloatOps F]

theorem zeros2 : (![0, 0] : Fin 2 → ℕ) = fun _ => 0 := by decide

/-- The second block's normalised rows, as they are read back from where they were stored. -/
theorem fresh_eq (c : Dev nD) (arg1 : Memref sig .tc .vmem S256x2048 .f32) (harg1 : arg1.IsWhole) (arg3 : Memref sig .tc .vmem S1x2048 .f32) (harg3 : arg3.IsWhole) (arg8 : Memref sig .tc .vmem S256x2048 .bf16) (x0 : Vec F S256x2048 .f32) (x2 : Vec F S1x2048 .f32) :
    kernelRun0_B.sl.v178 c arg1 harg1 arg3 harg3 arg8 x0 x2 =
      k0_pay6 (arg1.view.read (Elt F) (harg1.unread x0)) (arg3.view.read (Elt F) (harg3.unread x2)) := by
  unfold kernelRun0_B.sl.v178
  refine (View.readCov_unit_zero arg8.view zeros2 _ _).trans ?_
  exact congrArg₂ k0_pay6 (View.ld_unit_zero zeros2 _ _) (View.ld_unit_zero zeros2 _ _)

/-- The first block's normalised rows, as they are read. -/
theorem carried_eq (arg7 : Memref sig .tc .vmem S256x2048 .bf16) (harg7 : arg7.IsWhole) (xs0 : Vec F S256x2048 .bf16) :
    View.readAt (Elt F) arg7.view (Rect.unit (s := S256x2048) ![0, 0] S256x2048.size inb_S256x2048_S256x2048_0_0).toLoadRect (harg7.unread xs0) = arg7.view.read (Elt F) (harg7.unread xs0) :=
  View.ld_unit_zero zeros2 _ _

set_option maxHeartbeats 4000000 in
/-- The stores in the gated input. -/
theorem in_pieces (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (hc1 : cond0_1 i) (x0 : Vec F S256x2048 .f32) (x1 : Vec F S256x2048 .f32) (x2 : Vec F S1x2048 .f32) (x3 : Vec F S1x2048x8192 .bf16) (xs0 : Vec F S256x2048 .bf16) :
    (kernelRun0_B c i arg1 harg1 arg2 harg2 arg3 harg3 arg4 harg4 arg5 harg5 arg6 harg6 arg7 harg7 arg8 harg8 hc0 hc1 x0 x1 x2 x3 xs0).1 =
      pieces (fun n => inTile i (kernelRun0_B.sl.v178 c arg1 harg1 arg3 harg3 arg8 x0 x2) (arg4.view.read (Elt F) (harg4.unread x3)) n) 1 ++
      pieces (fun n => inTile i (View.readAt (Elt F) arg7.view (Rect.unit (s := S256x2048) ![0, 0] S256x2048.size inb_S256x2048_S256x2048_0_0).toLoadRect (harg7.unread xs0)) (arg4.view.read (Elt F) (harg4.unread x3)) n) 0 := by
  unfold kernelRun0_B
  dsimp only [pieces, List.cons_append, List.nil_append]
  iterate 8 (refine congrArg₂ List.cons (by rfl) ?_)
  rfl

set_option maxHeartbeats 4000000 in
/-- The stores in the output's gate. -/
theorem gate_pieces (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (hc1 : cond0_1 i) (x0 : Vec F S256x2048 .f32) (x1 : Vec F S256x2048 .f32) (x2 : Vec F S1x2048 .f32) (x3 : Vec F S1x2048x8192 .bf16) (xs0 : Vec F S256x2048 .bf16) :
    (kernelRun0_B c i arg1 harg1 arg2 harg2 arg3 harg3 arg4 harg4 arg5 harg5 arg6 harg6 arg7 harg7 arg8 harg8 hc0 hc1 x0 x1 x2 x3 xs0).2.1 =
      pieces (fun n => gateTile (kernelRun0_B.sl.v178 c arg1 harg1 arg3 harg3 arg8 x0 x2) (arg4.view.read (Elt F) (harg4.unread x3)) n) 1 ++
      pieces (fun n => gateTile (View.readAt (Elt F) arg7.view (Rect.unit (s := S256x2048) ![0, 0] S256x2048.size inb_S256x2048_S256x2048_0_0).toLoadRect (harg7.unread xs0)) (arg4.view.read (Elt F) (harg4.unread x3)) n) 0 := by
  unfold kernelRun0_B
  dsimp only [pieces, List.cons_append, List.nil_append]
  iterate 8 (refine congrArg₂ List.cons (by rfl) ?_)
  rfl

/-- What a later grid point leaves in the rows it carries over: the next block's, normalised. -/
theorem carryB_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (hc1 : cond0_1 i) (x0 : Vec F S256x2048 .f32) (x1 : Vec F S256x2048 .f32) (x2 : Vec F S1x2048 .f32) (x3 : Vec F S1x2048x8192 .bf16) (xs0 : Vec F S256x2048 .bf16) :
    sout0_B_0 c i arg1 harg1 arg2 harg2 arg3 harg3 arg4 harg4 arg5 harg5 arg6 harg6 arg7 harg7 arg8 harg8 hc0 hc1 x0 x1 x2 x3 xs0 = k0_pay6 x1 x2 := by
  unfold sout0_B_0
  rw [View.read_writes_junk_eq_canon]
  unfold kernelRun0_B
  dsimp only
  refine (View.canon_unit_zero zeros2 _ _).trans ?_
  refine congrArg₂ k0_pay6 ((View.ld_unit_zero zeros2 _ _).trans ?_) ((View.ld_unit_zero zeros2 _ _).trans ?_)
  · exact Memref.IsWhole.read_unread _ _
  · exact Memref.IsWhole.read_unread _ _

/-- What the first grid point leaves in the rows it carries over: the next block's, normalised. -/
theorem carryA_eq (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : cond0_0 i) (hc1 : ¬cond0_1 i) (x0 : Vec F S256x2048 .f32) (x1 : Vec F S256x2048 .f32) (x2 : Vec F S1x2048 .f32) (x3 : Vec F S1x2048x8192 .bf16) :
    sout0_A_0 c i arg1 harg1 arg2 harg2 arg3 harg3 arg4 harg4 arg5 harg5 arg6 harg6 arg7 harg7 arg8 harg8 hc0 hc1 x0 x1 x2 x3 = k0_pay6 x1 x2 := by
  unfold sout0_A_0
  rw [View.read_writes_junk_eq_canon]
  unfold kernelRun0_A
  dsimp only
  refine (View.canon_unit_zero zeros2 _ _).trans ?_
  refine congrArg₂ k0_pay6 ((View.ld_unit_zero zeros2 _ _).trans ?_) ((View.ld_unit_zero zeros2 _ _).trans ?_)
  · exact Memref.IsWhole.read_unread _ _
  · exact Memref.IsWhole.read_unread _ _

end Cert.Kernel2Ideal.Conv

end

end
-- ==== Proof.Conv.Holds.lean ====
module

public import proofs.«01_k».proof.Proof.Conv.Pieces
public import proofs.«01_k».proof.Proof.Words

@[expose] public section

set_option maxRecDepth 16384

noncomputable section

/-!
# What a later grid point leaves in its blocks

Every array that holds the elements of the tiles is what the point leaves, and the tiles' elements are those of the gated
projections of the rows they are made of.
-/

namespace Cert.Kernel2Ideal.Conv

open Cert.Kernel2Ideal Cert.Kernel2Ideal.Gen
open Idealize.ShloMosaic Idealize.ShloMosaic.TcCoe

/-- A later grid point leaves in its block of the gated input an array that holds its tiles. -/
theorem in_holds (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (hc1 : cond0_1 i) (x0 : Vec Ideal S256x2048 .f32) (x1 : Vec Ideal S256x2048 .f32) (x2 : Vec Ideal S1x2048 .f32) (x3 : Vec Ideal S1x2048x8192 .bf16) (xs0 : Vec Ideal S256x2048 .bf16)
    (G : S512x2048.Idx → Elt Ideal .bf16)
    (H0 : ∀ (n : Fin 4) (r : Fin 256) (d : Fin 512), inTile i xs0 x3 n (ix2 r d) = G (ix2 ⟨256 * (0 : Fin 2) + r, by omega⟩ ⟨512 * n + d, by omega⟩))
    (H1 : ∀ (n : Fin 4) (r : Fin 256) (d : Fin 512), inTile i (k0_pay6 x0 x2) x3 n (ix2 r d) = G (ix2 ⟨256 * (1 : Fin 2) + r, by omega⟩ ⟨512 * n + d, by omega⟩))
    (y : S512x2048.Idx) : out0_B_4 c i arg1 harg1 arg2 harg2 arg3 harg3 arg4 harg4 arg5 harg5 arg6 harg6 arg7 harg7 arg8 harg8 hc0 hc1 x0 x1 x2 x3 xs0 y = G y := by
  unfold out0_B_4
  rw [View.read_writes_junk_eq_canon]
  refine View.canon_apply_of_pieces G _ ?_ y (cover0_B_4 c i arg1 harg1 arg2 harg2 arg3 harg3 arg4 harg4 arg5 harg5 arg6 harg6 arg7 harg7 arg8 harg8 hc0 hc1 x0 x1 x2 x3 xs0 y)
  rw [in_pieces, fresh_eq, carried_eq]
  simp only [Memref.IsWhole.read_unread]
  intro p hp
  rcases List.mem_append.1 hp with hp | hp
  · exact of_mem_pieces (Q := fun p => ∀ x : p.1.shape.Idx, p.2 x = G (p.1.emb x)) _ 1 (fun n => piece_holds G _ 1 n (H1 n)) p hp
  · exact of_mem_pieces (Q := fun p => ∀ x : p.1.shape.Idx, p.2 x = G (p.1.emb x)) _ 0 (fun n => piece_holds G _ 0 n (H0 n)) p hp

/-- A later grid point leaves in its block of the output's gate an array that holds its tiles. -/
theorem gate_holds (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048x8192 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (hc1 : cond0_1 i) (x0 : Vec Ideal S256x2048 .f32) (x1 : Vec Ideal S256x2048 .f32) (x2 : Vec Ideal S1x2048 .f32) (x3 : Vec Ideal S1x2048x8192 .bf16) (xs0 : Vec Ideal S256x2048 .bf16)
    (G : S512x2048.Idx → Elt Ideal .bf16)
    (H0 : ∀ (n : Fin 4) (r : Fin 256) (d : Fin 512), gateTile xs0 x3 n (ix2 r d) = G (ix2 ⟨256 * (0 : Fin 2) + r, by omega⟩ ⟨512 * n + d, by omega⟩))
    (H1 : ∀ (n : Fin 4) (r : Fin 256) (d : Fin 512), gateTile (k0_pay6 x0 x2) x3 n (ix2 r d) = G (ix2 ⟨256 * (1 : Fin 2) + r, by omega⟩ ⟨512 * n + d, by omega⟩))
    (y : S512x2048.Idx) : out0_B_5 c i arg1 harg1 arg2 harg2 arg3 harg3 arg4 harg4 arg5 harg5 arg6 harg6 arg7 harg7 arg8 harg8 hc0 hc1 x0 x1 x2 x3 xs0 y = G y := by
  unfold out0_B_5
  rw [View.read_writes_junk_eq_canon]
  refine View.canon_apply_of_pieces G _ ?_ y (cover0_B_5 c i arg1 harg1 arg2 harg2 arg3 harg3 arg4 harg4 arg5 harg5 arg6 harg6 arg7 harg7 arg8 harg8 hc0 hc1 x0 x1 x2 x3 xs0 y)
  rw [gate_pieces, fresh_eq, carried_eq]
  simp only [Memref.IsWhole.read_unread]
  intro p hp
  rcases List.mem_append.1 hp with hp | hp
  · exact of_mem_pieces (Q := fun p => ∀ x : p.1.shape.Idx, p.2 x = G (p.1.emb x)) _ 1 (fun n => piece_holds G _ 1 n (H1 n)) p hp
  · exact of_mem_pieces (Q := fun p => ∀ x : p.1.shape.Idx, p.2 x = G (p.1.emb x)) _ 0 (fun n => piece_holds G _ 0 n (H0 n)) p hp

/-- A choice by a bit. -/
theorem choose_bit {α : Type} (b : BitVec 1) (x y : α) : Scalar.select b x y = if b = 1#1 then x else y := rfl

/-- The bits of a later grid point say which of its rows hold a token. -/
theorem token_at (t : ℕ) (h1 : 1 ≤ t) (ht : t < 52) (b : Fin 2) (r : Fin 256) :
    k0_pay5 (BitVec.ofNat 32 t) (ix2 r 0) = 1#1 ↔ Cert.Conv.Token (512 * (t - 1) + 256 * b + r) := by
  have hr := r.isLt
  have hs : Words.Small ((r : ℕ) : ℤ) := ⟨by omega, by omega⟩
  have s1 : Words.Small (((r : ℕ) : ℤ) % 128) := ⟨by omega, by omega⟩
  have e : IntOp.remsi .vector (BitVec.ofNat 32 (r : ℕ)) (128#32) = Words.W (((r : ℕ) : ℤ) % 128) :=
    (congrArg (fun a => IntOp.remsi .vector a (128#32)) (Words.ofNat_eq (r : ℕ))).trans (Words.remsi_W (b := 128) hs (by omega) (by norm_num) (by decide))
  have d : Scalar.select (Scalar.cmpi .eq 128#32 0#32) 1#32 128#32 = 128#32 := rfl
  have n1 : IntOp.cmpi .slt (Words.W (((r : ℕ) : ℤ) % 128)) (0#32) = 0#1 := by
    rcases BitVec.eq_zero_or_eq_one (IntOp.cmpi .slt (Words.W (((r : ℕ) : ℤ) % 128)) (0#32)) with h | h
    · exact h
    · exact absurd ((Words.slt_W s1 (show Words.Small 0 by decide)).1 h) (by omega)
  have n2 : Scalar.cmpi .slt (128#32) (0#32) = 0#1 := by decide
  have n3 : ∀ x : BitVec 1, IntOp.andi (IntOp.xori (0#1) (0#1)) x = 0#1 := by decide
  have n4 : Scalar.cmpi .slt (Scalar.subi (BitVec.ofNat 32 t) 1#32) 48#32 = 1#1 ↔ (t : ℤ) - 1 < 48 := by
    have e : Scalar.subi (BitVec.ofNat 32 t) 1#32 = Words.W ((t : ℤ) - 1) :=
      (congrArg (fun a => IntOp.subi a (1#32)) (Words.ofNat_eq t)).trans (Words.subi_W _ 1)
    rw [e]
    exact Words.slt_W ⟨by omega, by omega⟩ (show Words.Small 48 by decide)
  pointwise [k0_pay5]
  rw [d, e, n1, n2, n3, choose_bit, if_neg (by decide), choose_bit]
  unfold Cert.Conv.Token
  by_cases h : (t : ℤ) - 1 < 48
  · rw [if_pos (n4.2 h)]
    refine (Words.sge_W s1 (show Words.Small 0 by decide)).trans ?_
    omega
  · rw [if_neg (fun h' => h (n4.1 h'))]
    refine (Words.sge_W s1 (show Words.Small 112 by decide)).trans ?_
    omega

/-- Tiles made of normalised rows and of 512 columns of the weights have the elements of the gated projections. -/
theorem inTile_at (i : grid0.Coords) (h1 : 1 ≤ (i 0).val) (ht : (i 0).val < 52) (b : Fin 2) (hn : Vec Ideal S256x2048 .bf16) (w : Vec Ideal S1x2048x8192 .bf16)
    (H : Fin 26112 → Fin 2048 → EReal) (g : Fin 2048 → EReal) (W : Fin 2048 → Fin 8192 → EReal)
    (eh : ∀ (r : Fin 256) (k : Fin 2048) (h : 512 * ((i 0).val - 1) + 256 * (b : ℕ) + r < 26112), (hn (ix2 r k) : EReal) = Cert.Conv.normed (H ⟨512 * ((i 0).val - 1) + 256 * b + r, h⟩) g k)
    (ew : ∀ (k : Fin 2048) (C : Fin 8192), (w (ix3 0 k C) : EReal) = W k C)
    (n : Fin 4) (r : Fin 256) (d : Fin 512) (h : 512 * ((i 0).val - 1) + 256 * (b : ℕ) + r < 26112) :
    (inTile i hn w n (ix2 r d) : EReal) = Cert.Conv.gatedIn H g W ⟨512 * ((i 0).val - 1) + 256 * b + r, h⟩ ⟨512 * n + d, by omega⟩ := by
  unfold inTile Cert.Conv.gatedIn
  rw [pay7_at]
  refine if_congr (token_at _ h1 ht b r) ?_ rfl
  unfold Cert.Conv.part
  refine congrArg₂ (· * ·) (Finset.sum_congr rfl fun k _ => ?_) (Finset.sum_congr rfl fun k _ => ?_)
  · rw [cols_at, eh r k h, ew]
    exact congrArg (fun C => _ * W k C) (Fin.ext (show 2048 + 512 * (n : ℕ) + d = 2048 + (512 * n + d) by omega))
  · rw [cols_at, eh r k h, ew]
    exact congrArg (fun C => _ * W k C) (Fin.ext (show 4096 + 512 * (n : ℕ) + d = 4096 + (512 * n + d) by omega))

/-- The same for the output's gate. -/
theorem gateTile_at (R : Fin 26112) (hn : Vec Ideal S256x2048 .bf16) (w : Vec Ideal S1x2048x8192 .bf16)
    (H : Fin 26112 → Fin 2048 → EReal) (g : Fin 2048 → EReal) (W : Fin 2048 → Fin 8192 → EReal) (r : Fin 256)
    (eh : ∀ k : Fin 2048, (hn (ix2 r k) : EReal) = Cert.Conv.normed (H R) g k)
    (ew : ∀ (k : Fin 2048) (C : Fin 8192), (w (ix3 0 k C) : EReal) = W k C) (n : Fin 4) (d : Fin 512) :
    (gateTile hn w n (ix2 r d) : EReal) = Cert.Conv.gateOut H g W R ⟨512 * n + d, by omega⟩ := by
  have e0 : (∑ k : Fin 2048, (hn (ix2 r k) : EReal) * cols w (512 * n) (by omega) (ix3 0 k d)) = Cert.Conv.part (H R) g W ⟨512 * n + d, by omega⟩ :=
    Finset.sum_congr rfl fun k _ => by rw [cols_at, eh k, ew]
  have e1 : (∑ k : Fin 2048, (hn (ix2 r k) : EReal) * cols w (6144 + 512 * n) (by omega) (ix3 0 k d)) = Cert.Conv.part (H R) g W ⟨6144 + (512 * n + d), by omega⟩ :=
    Finset.sum_congr rfl fun k _ => by
      rw [cols_at, eh k, ew]
      exact congrArg (fun C => _ * W k C) (Fin.ext (show 6144 + 512 * (n : ℕ) + d = 6144 + (512 * n + d) by omega))
  unfold gateTile Cert.Conv.gateOut
  rw [pay8_at, e0, e1]

end Cert.Kernel2Ideal.Conv

end

end
-- ==== Proof.Conv.Carried.lean ====
module

public import proofs.«01_k».proof.Proof.Conv.Holds

@[expose] public section

set_option maxRecDepth 16384

noncomputable section

/-!
# The rows carried from one grid point to the next
-/

namespace Cert.Kernel2Ideal.Conv

open Cert.Kernel2Ideal Cert.Kernel2Ideal.Gen
open Idealize.ShloMosaic Idealize.ShloMosaic.TcCoe
open Idealize.SL.Sem

variable (m : (ℓ : Loc nD τ sig) → Buf (Elt Ideal) ℓ) (c : Dev nD)

/-- A later point carries over what its case leaves. -/
theorem carriedB (t : Fin cfg0.N) (h0 : ¬ t.val % 52 = 0) (h1 : 1 ≤ t.val) : (outsAt0 m c t.val t.isLt).2.2 =
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2.2 := by
  rw [outsAt0_B m c t h0 h1]

/-- So does the first. -/
theorem carriedA (t : Fin cfg0.N) (h0 : t.val % 52 = 0) (h1 : ¬ 1 ≤ t.val) : (outsAt0 m c t.val t.isLt).2.2 =
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      ((hcond0_0 t).mpr h0) (fun h => h1 ((hcond0_1 t).mp h)) (iblk m c 0 t) (iblk m c 1 t) (iblk m c 2 t) (iblk m c 3 t) := by
  rw [outsAt0_A m c t h0 h1]

/-- Whatever the point, it carries over the next block's rows, normalised. -/
theorem carried (t : Fin cfg0.N) : (outsAt0 m c t.val t.isLt).2.2 = k0_pay6 (iblk m c 1 t) (iblk m c 2 t) := by
  have ht : (t : ℕ) < 52 := t.isLt
  by_cases h1 : 1 ≤ (t : ℕ)
  · have h0 : ¬ t.val % 52 = 0 := by omega
    rw [carriedB m c t h0 h1, carryB_eq]
  · have h0 : t.val % 52 = 0 := by omega
    rw [carriedA m c t h0 h1, carryA_eq]

end Cert.Kernel2Ideal.Conv

end

end
-- ==== Proof.Conv.Value.lean ====
module

public import proofs.«01_k».proof.Proof.Conv.Carried
public import Idealize.ShloMosaic.Lib.StableHlo.RunRead

@[expose] public section

set_option maxRecDepth 16384

noncomputable section

/-!
# What the projection kernel leaves in its two result arrays

Every element of the first is the gated input of the convolution at its row and column, every element of the second the gate
of the convolution's output.
-/

namespace Cert.Kernel2Ideal.Conv

open Cert.Kernel2Ideal Cert.Kernel2Ideal.Gen
open Idealize.ShloMosaic Idealize.ShloMosaic.TcCoe
open Idealize.SL.Sem
open Idealize.ShloMosaic.Pipeline (Dat)

variable (m : (ℓ : Loc nD τ sig) → Buf (Elt Ideal) ℓ) (c : Dev nD)

set_option maxHeartbeats 4000000 in
/-- The region finds the weight of the norm as one row. -/
theorem V_norm : V m c main_v0 = broadcastInDim S1x2048 ![1] bcast_S2048_S1x2048_1 (m ((c.tc : Thread nD τ).loc main_arg1)) := by
  show StableHlo.after hostOps0 _ (Proc.devRef .tc main_v0) = _
  after_reads_simp

set_option maxHeartbeats 4000000 in
/-- The region finds the weights of the projections rounded. -/
theorem V_weights : V m c main_v1 = (truncf .bf16 (m ((c.tc : Thread nD τ).loc main_arg2) : FVec Ideal S2x2048x8192 .f32) bitsLt_bf16_f32 : FVec Ideal S2x2048x8192 .bf16) := by
  show StableHlo.after hostOps0 _ (Proc.devRef .tc main_v1) = _
  after_reads_simp

/-- The rows. -/
def hM (R : Fin 26112) (k : Fin 2048) : EReal := (m ((c.tc : Thread nD τ).loc main_arg0) : FVec Ideal S26112x2048 .f32) (ix2 R k)

/-- The weight of the norm. -/
def gM (k : Fin 2048) : EReal := (m ((c.tc : Thread nD τ).loc main_arg1) : FVec Ideal S2048 .f32) (ix1 k)

/-- The first layer's weights. -/
def wM (k : Fin 2048) (C : Fin 8192) : EReal := (m ((c.tc : Thread nD τ).loc main_arg2) : FVec Ideal S2x2048x8192 .f32) (ix3 0 k C)

/-- Where the windows are. -/
theorem index_at (t : Fin grid0.N) :
    (∀ a, cc0_transform_0 (grid0.coords t) a = ![min (2 * (t : ℕ) - 1) 101, 0] a) ∧ (∀ a, cc0_transform_1 (grid0.coords t) a = ![min (2 * (t : ℕ)) 101, 0] a) ∧
    (∀ a, cc0_transform_2 (grid0.coords t) a = ![0, 0] a) ∧ (∀ a, cc0_transform_3 (grid0.coords t) a = ![0, 0, 0] a) ∧
    (∀ a, cc0_transform_4 (grid0.coords t) a = ![(t : ℕ) - 1, 0] a) ∧ (∀ a, cc0_transform_5 (grid0.coords t) a = ![(t : ℕ) - 1, 0] a) ∧
    ((grid0.coords t 0 : ℕ) = t) := by
  revert t; decide +kernel

/-- The points whose results are written back: all but the first. -/
theorem flush_at (t : Fin grid0.N) : ((cfg0.win 4).flush t = true ↔ 1 ≤ (t : ℕ)) ∧ ((cfg0.win 5).flush t = true ↔ 1 ≤ (t : ℕ)) := by
  revert t; decide +kernel

/-- An element of a window's block lies in the array at the block's place plus its own. -/
theorem emb_eq {G : Pipeline.Grid} (w : Pipeline.Window sig G) (t : Fin G.N) (hk : w.kind = .blocked) (y : (w.xblock (G.coords t)).Idx)
    (z : w.shape.Idx) (h : ∀ a, w.index t a * w.size a + y a = (z a : ℕ)) : (w.rect t).emb y = z :=
  funext fun a => Fin.ext ((Pipeline.Window.rect_emb_val w t y a hk).trans (h a))

/-- The place of an element of a block of rows. -/
theorem place_rows (n p : ℕ) (f : Fin 2 → ℕ) (hf : ∀ a, f a = ![p, 0] a) (i : Fin n) (j : Fin 2048) (R : Fin 26112) (h : n * p + i = R) (a : Fin 2) :
    f a * (![n, 2048] : Fin 2 → ℕ) a + (ix2 i j : (⟨2, ![n, 2048]⟩ : Shape).Idx) a = ((ix2 R j : S26112x2048.Idx) a : ℕ) := by
  rw [hf]
  match a with
  | 0 => show p * n + i = R; rw [Nat.mul_comm]; exact h
  | 1 => show 0 * 2048 + (j : ℕ) = j; omega

/-- An element of the block of rows that is normalised at its own point. -/
theorem ownBlk_at (t : Fin cfg0.N) (i : Fin 256) (j : Fin 2048) (R : Fin 26112) (h : 256 * min (2 * (t : ℕ) - 1) 101 + i = R) :
    (iblk m c 0 t (ix2 i j : S256x2048.Idx) : EReal) = hM m c R j :=
  (congrArg (V m c main_arg0) (emb_eq (cfg0.win 0) t rfl (ix2 i j : S256x2048.Idx) _
    (place_rows 256 _ _ (index_at t).1 i j R h))).trans (congrFun (V_main_arg0 m c) _)

/-- An element of the block of rows that is normalised a point ahead. -/
theorem nextBlk_at (t : Fin cfg0.N) (i : Fin 256) (j : Fin 2048) (R : Fin 26112) (h : 256 * min (2 * (t : ℕ)) 101 + i = R) :
    (iblk m c 1 t (ix2 i j : S256x2048.Idx) : EReal) = hM m c R j :=
  (congrArg (V m c main_arg0) (emb_eq (cfg0.win 1) t rfl (ix2 i j : S256x2048.Idx) _
    (place_rows 256 _ _ (index_at t).2.1 i j R h))).trans (congrFun (V_main_arg0 m c) _)

/-- An element of the norm's weight, as a point reads it. -/
theorem normBlk_at (t : Fin cfg0.N) (j : Fin 2048) : (iblk m c 2 t (ix2 0 j : S1x2048.Idx) : EReal) = gM m c j := by
  have hz : ∀ a : Fin 2, (cfg0.win 2).index t a * (cfg0.win 2).size a + (ix2 0 j : S1x2048.Idx) a = ((ix2 0 j : S1x2048.Idx) a : ℕ) := by
    intro a
    refine (congrArg (· * (cfg0.win 2).size a + _) ((index_at t).2.2.1 a)).trans ?_
    match a with
    | 0 => rfl
    | 1 => show 0 * 2048 + (j : ℕ) = j; omega
  refine (congrArg (V m c main_v0) (emb_eq (cfg0.win 2) t rfl (ix2 0 j : S1x2048.Idx) _ hz)).trans ?_
  rw [V_norm]
  refine congrArg (m ((c.tc : Thread nD τ).loc main_arg1) : FVec Ideal S2048 .f32) (funext fun a => ?_)
  match a with
  | 0 => rfl

/-- An element of the weights, as a point reads them. -/
theorem weightBlk_at (t : Fin cfg0.N) (k : Fin 2048) (C : Fin 8192) : (iblk m c 3 t (ix3 0 k C : S1x2048x8192.Idx) : EReal) = wM m c k C := by
  have hz : ∀ a : Fin 3, (cfg0.win 3).index t a * (cfg0.win 3).size a + (ix3 0 k C : S1x2048x8192.Idx) a = ((ix3 0 k C : S2x2048x8192.Idx) a : ℕ) := by
    intro a
    refine (congrArg (· * (cfg0.win 3).size a + _) ((index_at t).2.2.2.1 a)).trans ?_
    match a with
    | 0 => rfl
    | 1 => show 0 * 2048 + (k : ℕ) = k; omega
    | 2 => show 0 * 8192 + (C : ℕ) = C; omega
  refine (congrArg (V m c main_v1) (emb_eq (cfg0.win 3) t rfl (ix3 0 k C : S1x2048x8192.Idx) _ hz)).trans ?_
  rw [V_weights]
  rfl

/-- The normalised rows of a block made at its own point. -/
theorem own_norm (t : Fin cfg0.N) (r : Fin 256) (k : Fin 2048) (R : Fin 26112) (h : 256 * min (2 * (t : ℕ) - 1) 101 + r = R) :
    (k0_pay6 (iblk m c 0 t) (iblk m c 2 t) (ix2 r k) : EReal) = Cert.Conv.normed (hM m c R) (gM m c) k :=
  (norm_at _ _ r k).trans (congrArg₂ (fun x g => Cert.Conv.normed x g k)
    (funext fun j => ownBlk_at m c t r j R h) (funext fun j => normBlk_at m c t j))

/-- The normalised rows of a block made a point ahead. -/
theorem next_norm (t : Fin cfg0.N) (r : Fin 256) (k : Fin 2048) (R : Fin 26112) (h : 256 * min (2 * (t : ℕ)) 101 + r = R) :
    (k0_pay6 (iblk m c 1 t) (iblk m c 2 t) (ix2 r k) : EReal) = Cert.Conv.normed (hM m c R) (gM m c) k :=
  (norm_at _ _ r k).trans (congrArg₂ (fun x g => Cert.Conv.normed x g k)
    (funext fun j => nextBlk_at m c t r j R h) (funext fun j => normBlk_at m c t j))

/-- The rows a later point finds carried over are the first block of its own rows, normalised. -/
theorem carried_norm (t : Fin cfg0.N) (h1 : 1 ≤ (t : ℕ)) (r : Fin 256) (k : Fin 2048) (R : Fin 26112) (h : 512 * ((t : ℕ) - 1) + r = R) :
    ((outsAt0 m c (t.val - 1) (Nat.lt_of_le_of_lt (Nat.sub_le _ _) t.isLt)).2.2 (ix2 r k) : EReal) = Cert.Conv.normed (hM m c R) (gM m c) k := by
  have ht : (t : ℕ) < 52 := t.isLt
  have e := carried m c ⟨t.val - 1, Nat.lt_of_le_of_lt (Nat.sub_le _ _) t.isLt⟩
  rw [e]
  refine next_norm m c _ r k R ?_
  show 256 * min (2 * ((t : ℕ) - 1)) 101 + r = R
  omega

/-- The first result array. -/
def inM : Vec Ideal S26112x2048 .bf16 := fun i => Cert.Conv.gatedIn (hM m c) (gM m c) (wM m c) (i 0 : Fin 26112) (i 1 : Fin 2048)

/-- The second result array. -/
def gateM : Vec Ideal S26112x2048 .bf16 := fun i => Cert.Conv.gateOut (hM m c) (gM m c) (wM m c) (i 0 : Fin 26112) (i 1 : Fin 2048)

theorem row_lt {t : ℕ} (ht : t < 52) (h1 : 1 ≤ t) (y : Fin 512) : 512 * (t - 1) + (y : ℕ) < 26112 := by omega

/-- The rows of an array that a later grid point writes. -/
def blockOf (A : Vec Ideal S26112x2048 .bf16) (t : ℕ) (ht : t < 52) (h1 : 1 ≤ t) : S512x2048.Idx → Elt Ideal .bf16 := fun y =>
  A (ix2 ⟨512 * (t - 1) + (y 0 : Fin 512), row_lt ht h1 (y 0)⟩ (y 1 : Fin 2048))

set_option maxHeartbeats 4000000 in
/-- What a later grid point leaves in its block of the first result. -/
theorem in_at (t : Fin cfg0.N) (h0 : ¬ t.val % 52 = 0) (h1 : 1 ≤ t.val) (y : S512x2048.Idx) :
    (outsAt0 m c t.val t.isLt).1 y = blockOf (inM m c) t t.isLt h1 y := by
  have ht : (t : ℕ) < 52 := t.isLt
  have hi := (index_at t).2.2.2.2.2.2
  have main : ∀ (b : Fin 2) (hn : Vec Ideal S256x2048 .bf16)
      (eh : ∀ (r : Fin 256) (k : Fin 2048) (R : Fin 26112) (_ : 512 * ((t : ℕ) - 1) + 256 * b + r = R), (hn (ix2 r k) : EReal) = Cert.Conv.normed (hM m c R) (gM m c) k)
      (n : Fin 4) (r : Fin 256) (d : Fin 512),
      inTile (grid0.coords t) hn (iblk m c 3 t) n (ix2 r d) =
        blockOf (inM m c) t t.isLt h1 (ix2 ⟨256 * b + r, by omega⟩ ⟨512 * n + d, by omega⟩) := by
    intro b hn eh n r d
    refine (inTile_at (grid0.coords t) (by omega) (by omega) b hn (iblk m c 3 t) (hM m c) (gM m c) (wM m c)
      (fun r k h => eh r k _ (by show _ = 512 * ((grid0.coords t 0 : ℕ) - 1) + 256 * (b : ℕ) + r; rw [hi]))
      (fun k C => weightBlk_at m c t k C) n r d (by omega)).trans ?_
    refine congrArg (fun R => Cert.Conv.gatedIn (hM m c) (gM m c) (wM m c) R _) (Fin.ext ?_)
    show 512 * ((grid0.coords t 0 : ℕ) - 1) + 256 * (b : ℕ) + r = 512 * ((t : ℕ) - 1) + (256 * b + r)
    rw [hi]; omega
  refine (congrFun (congrArg (fun p => p.1) (outsAt0_B m c t h0 h1)) y).trans ?_
  refine in_holds c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.2
    (blockOf (inM m c) t t.isLt h1) (main 0 _ ?_) (main 1 _ ?_) y
  · exact fun r k R h => carried_norm m c t h1 r k R (by simpa using h)
  · exact fun r k R h => own_norm m c t r k R (by rw [← h]; show _ = 512 * ((t : ℕ) - 1) + 256 * 1 + (r : ℕ); omega)

set_option maxHeartbeats 4000000 in
/-- What a later grid point leaves in its block of the second result. -/
theorem gate_at (t : Fin cfg0.N) (h0 : ¬ t.val % 52 = 0) (h1 : 1 ≤ t.val) (y : S512x2048.Idx) :
    (outsAt0 m c t.val t.isLt).2.1 y = blockOf (gateM m c) t t.isLt h1 y := by
  have ht : (t : ℕ) < 52 := t.isLt
  have main : ∀ (b : Fin 2) (hn : Vec Ideal S256x2048 .bf16)
      (eh : ∀ (r : Fin 256) (k : Fin 2048) (R : Fin 26112) (_ : 512 * ((t : ℕ) - 1) + 256 * b + r = R), (hn (ix2 r k) : EReal) = Cert.Conv.normed (hM m c R) (gM m c) k)
      (n : Fin 4) (r : Fin 256) (d : Fin 512),
      gateTile hn (iblk m c 3 t) n (ix2 r d) =
        blockOf (gateM m c) t t.isLt h1 (ix2 ⟨256 * b + r, by omega⟩ ⟨512 * n + d, by omega⟩) := by
    intro b hn eh n r d
    exact gateTile_at ⟨512 * ((t : ℕ) - 1) + (256 * b + r), by omega⟩ hn (iblk m c 3 t) (hM m c) (gM m c) (wM m c) r
      (fun k => eh r k _ (Nat.add_assoc _ _ _)) (fun k C => weightBlk_at m c t k C) n d
  refine (congrFun (congrArg (fun p => p.2.1) (outsAt0_B m c t h0 h1)) y).trans ?_
  refine gate_holds c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.2
    (blockOf (gateM m c) t t.isLt h1) (main 0 _ ?_) (main 1 _ ?_) y
  · exact fun r k R h => carried_norm m c t h1 r k R (by simpa using h)
  · exact fun r k R h => own_norm m c t r k R (by rw [← h]; show _ = 512 * ((t : ℕ) - 1) + 256 * 1 + (r : ℕ); omega)

/-- Where an element of a later grid point's block lies in the result arrays. -/
theorem place_out (t : ℕ) (ht : t < 52) (h1 : 1 ≤ t) (f : Fin 2 → ℕ) (hf : ∀ a, f a = ![t - 1, 0] a) (y : S512x2048.Idx) (a : Fin 2) :
    f a * S512x2048.size a + y a =
      ((ix2 (⟨512 * (t - 1) + (y 0 : Fin 512), row_lt ht h1 (y 0)⟩ : Fin 26112) (y 1 : Fin 2048) : S26112x2048.Idx) a : ℕ) := by
  rw [hf]
  match a with
  | 0 => show (t - 1) * 512 + ((y 0 : Fin 512) : ℕ) = 512 * (t - 1) + (y 0 : Fin 512); omega
  | 1 => show 0 * 2048 + ((y 1 : Fin 2048) : ℕ) = (y 1 : Fin 2048); omega

set_option maxHeartbeats 4000000 in
/-- What a later point writes back in the first result is its block of the array. -/
theorem in_flushed (t : Fin cfg0.N) (h1 : 1 ≤ t.val) :
    (dats m 0 c).flushed 4 t = ((cfg0.win 4).blk t).view.read (Elt Ideal) (inM m c) := by
  have ht : (t : ℕ) < 52 := t.isLt
  rw [Cert.Kernel2Ideal.Value.flushed4]
  refine funext fun (y : S512x2048.Idx) => ?_
  refine (in_at m c t (by omega) h1 y).trans ?_
  exact congrArg (inM m c) (emb_eq (cfg0.win 4) t rfl y _ (place_out t ht h1 _ (index_at t).2.2.2.2.1 y)).symm

set_option maxHeartbeats 4000000 in
/-- The same for the second result. -/
theorem gate_flushed (t : Fin cfg0.N) (h1 : 1 ≤ t.val) :
    (dats m 0 c).flushed 5 t = ((cfg0.win 5).blk t).view.read (Elt Ideal) (gateM m c) := by
  have ht : (t : ℕ) < 52 := t.isLt
  rw [Cert.Kernel2Ideal.Value.flushed5]
  refine funext fun (y : S512x2048.Idx) => ?_
  refine (gate_at m c t (by omega) h1 y).trans ?_
  exact congrArg (gateM m c) (emb_eq (cfg0.win 5) t rfl y _ (place_out t ht h1 _ (index_at t).2.2.2.2.2.1 y)).symm

/-- The block element that holds an element of a result array. -/
def inBlock (i : S26112x2048.Idx) : S512x2048.Idx := ix2 (⟨((i 0 : Fin 26112) : ℕ) % 512, by omega⟩ : Fin 512) (i 1 : Fin 2048)

theorem point_lt (i : S26112x2048.Idx) : ((i 0 : Fin 26112) : ℕ) / 512 + 1 < 52 := by
  have lt0 : ((i 0 : Fin 26112) : ℕ) < 26112 := (i 0).isLt
  omega

/-- The point that writes an element of a result array. -/
def pointOf (i : S26112x2048.Idx) : Fin cfg0.N := ⟨((i 0 : Fin 26112) : ℕ) / 512 + 1, point_lt i⟩

/-- The element of the point's block is the array's. -/
theorem place_inBlock (i : S26112x2048.Idx) (f : Fin 2 → ℕ) (hf : ∀ a, f a = ![(pointOf i : ℕ) - 1, 0] a) (a : Fin 2) :
    f a * S512x2048.size a + inBlock i a = (i a : ℕ) := by
  rw [hf]
  match a with
  | 0 => show (((i 0 : Fin 26112) : ℕ) / 512 + 1 - 1) * 512 + ((i 0 : Fin 26112) : ℕ) % 512 = (i 0 : Fin 26112); omega
  | 1 => show 0 * 2048 + ((i 1 : Fin 2048) : ℕ) = (i 1 : Fin 2048); omega

set_option maxHeartbeats 4000000 in
/-- The later points' blocks cover the first result array. -/
theorem in_cover (i : S26112x2048.Idx) :
    ∃ t : Fin cfg0.N, (cfg0.win 4).flush t = true ∧ i ∈ ((cfg0.win 4).blk t).view.set := by
  have e : ((cfg0.win 4).rect (pointOf i)).emb (inBlock i) = i :=
    emb_eq (cfg0.win 4) (pointOf i) rfl (inBlock i) i (place_inBlock i _ (index_at (pointOf i)).2.2.2.2.1)
  refine ⟨pointOf i, (flush_at _).1.2 (Nat.le_add_left _ _), ?_⟩
  have hm : i ∈ ((cfg0.win 4).rect (pointOf i)).set :=
    Eq.subst (motive := fun j => j ∈ ((cfg0.win 4).rect (pointOf i)).set) e (((cfg0.win 4).rect (pointOf i)).idx_mem (inBlock i))
  exact (Finset.ext_iff.1 (View.set_slice_whole main_v2_0 ((cfg0.win 4).rect (pointOf i))) i).2 hm

set_option maxHeartbeats 4000000 in
/-- The later points' blocks cover the second result array. -/
theorem gate_cover (i : S26112x2048.Idx) :
    ∃ t : Fin cfg0.N, (cfg0.win 5).flush t = true ∧ i ∈ ((cfg0.win 5).blk t).view.set := by
  have e : ((cfg0.win 5).rect (pointOf i)).emb (inBlock i) = i :=
    emb_eq (cfg0.win 5) (pointOf i) rfl (inBlock i) i (place_inBlock i _ (index_at (pointOf i)).2.2.2.2.2.1)
  refine ⟨pointOf i, (flush_at _).2.2 (Nat.le_add_left _ _), ?_⟩
  have hm : i ∈ ((cfg0.win 5).rect (pointOf i)).set :=
    Eq.subst (motive := fun j => j ∈ ((cfg0.win 5).rect (pointOf i)).set) e (((cfg0.win 5).rect (pointOf i)).idx_mem (inBlock i))
  exact (Finset.ext_iff.1 (View.set_slice_whole main_v2_1 ((cfg0.win 5).rect (pointOf i))) i).2 hm

set_option maxHeartbeats 4000000 in
/-- The first result array after the run. -/
theorem in_final : (dats m 0 c).arrAt 4 cfg0.N = inM m c :=
  (dats m 0 c).arrAt_eq_of_cover 4 (inM m c) (fun t ht => in_flushed m c t ((flush_at t).1.1 ht)) in_cover

set_option maxHeartbeats 4000000 in
/-- The second result array after the run. -/
theorem gate_final : (dats m 0 c).arrAt 5 cfg0.N = gateM m c :=
  (dats m 0 c).arrAt_eq_of_cover 5 (gateM m c) (fun t ht => gate_flushed m c t ((flush_at t).2.1 ht)) gate_cover

set_option maxHeartbeats 4000000 in
/-- Every run ends with the gated input and the output's gate in the result arrays. -/
theorem run_value (ρ : Dev nD → PrngReg) : θ_run defs (onTc (τ := τ) (main (F := Ideal))) ⟨m, fun _ => 0, ρ⟩ fun r => ∀ c : Dev nD,
    r.2.mem ((c.tc : Thread nD τ).loc main_v2_0) = inM m c ∧ r.2.mem ((c.tc : Thread nD τ).loc main_v2_1) = gateM m c :=
  (θ_run defs _ _).mono (fun _ h c => ⟨(h c).1.trans (in_final m c), (h c).2.1.trans (gate_final m c)⟩)
    (Cert.Kernel2Ideal.Value.run_blocks m ρ)

end Cert.Kernel2Ideal.Conv

end

end
-- ==== Proof.Ref2.At.lean ====
module

public import proofs.«01_k».proof.Proof.Conv.Spec
public import proofs.«01_k».proof.Proof.Gen.Reference2Ideal.Run
public import proofs.«01_k».proof.Proof.Words
public import Idealize.ShloMosaic.Lib.Pointwise

@[expose] public section

set_option maxRecDepth 16384

noncomputable section

/-!
# The reference of the gated projections, element by element

Its two results as compositions of named stages, and an element of each.
-/

namespace Cert.Reference2Ideal.Conv

open Cert.Reference2Ideal Cert.Reference2Ideal.Gen
open Idealize.ShloMosaic Idealize.ShloMosaic.TcCoe
open Idealize.SL.Sem

variable {F : FTy → Type} [FloatOps F]

/-- An integer constant, one copy for each row. -/
abbrev rowsC (w : BitVec 32) : IVec S26112 32 := broadcastInDim S26112 ![] bcast_S_S26112 (constantI S_ 32 w)

/-- The divisor of the remainder, as it is spelt. -/
abbrev divisor : IVec S_ 32 := select (cmpi .eq (id (constantI S_ 32 128#32)) (constantI S_ 32 0#32)) (constantI S_ 32 1#32) (id (constantI S_ 32 128#32))

/-- The remainder of each row, before its sign is put right. -/
abbrev remV : IVec S26112 32 := Host.remsi (iotaInDim S26112 32 0) (broadcastInDim S26112 ![] bcast_S_S26112 divisor)

/-- Which rows hold a token. -/
def tokenV : IVec S26112 1 :=
  ori (cmpi .slt (iotaInDim S26112 32 0) (rowsC 24576#32))
    (cmpi .sge
      (select
        (andi (cmpi .ne (cmpi .slt remV (rowsC 0#32)) (broadcastInDim S26112 ![] bcast_S_S26112 (cmpi .slt divisor (constantI S_ 32 0#32))))
          (cmpi .ne remV (rowsC 0#32)))
        (addi remV (broadcastInDim S26112 ![] bcast_S_S26112 divisor)) remV)
      (rowsC 112#32))

/-- The normalised rows. -/
def normV (h : FVec F S26112x2048 .f32) (g : FVec F S2048 .f32) : FVec F S26112x2048 .f32 :=
  mulf
    (mulf h (broadcastInDim S26112x2048 ![0, 1] bcast_S26112x1_S26112x2048_0_1 (Host.rsqrt (addf
      (Host.divf
        (broadcastInDim S26112x1 ![0] bcast_S26112_S26112x1_0
          (Host.reduceAdd (mulf h h) (constant S_ .f32 0x00000000#32) reducesTo_S26112x2048_S26112_d1 h_S_))
        (broadcastInDim S26112x1 ![] bcast_S_S26112x1 (constant S_ .f32 0x45000000#32)))
      (broadcastInDim S26112x1 ![] bcast_S_S26112x1 (constant S_ .f32 0x358637BD#32))))))
    (broadcastInDim S26112x2048 ![0, 1] bcast_S1x2048_S26112x2048_0_1 (broadcastInDim S1x2048 ![1] bcast_S2048_S1x2048_1 g))

/-- The first layer's weights. -/
def layerV (w : FVec F S2x2048x8192 .f32) : FVec F S2048x8192 .f32 :=
  shapeCast _ (extractStridedSlice S1x2048x8192 ![0, 0, 0] w slices_S2x2048x8192_S1x2048x8192_0_0_0) shapeCasts_S1x2048x8192_S2048x8192

/-- The projections. -/
def partV (x : FVec F S26112x2048 .f32) (w : FVec F S2048x8192 .f32) : FVec F S26112x8192 .f32 :=
  Host.dotGeneral dot_S26112x2048_S2048x8192_S26112x8192_1_0_0_1_n_n none x w

/-- The gated input. -/
def inV (p : FVec F S26112x8192 .f32) : FVec F S26112x2048 .bf16 :=
  truncf .bf16
    (select (broadcastInDim S26112x2048 ![0, 1] bcast_S26112x1_S26112x2048_0_1 (broadcastInDim S26112x1 ![0] bcast_S26112_S26112x1_0 tokenV))
      (mulf (extractStridedSlice S26112x2048 ![0, 2048] p slices_S26112x8192_S26112x2048_0_2048)
        (extractStridedSlice S26112x2048 ![0, 4096] p slices_S26112x8192_S26112x2048_0_4096))
      (broadcastInDim S26112x2048 ![] bcast_S_S26112x2048 (id (constant S_ .f32 0x00000000#32))))
    bitsLt_bf16_f32

/-- The output's gate. -/
def gateV (p : FVec F S26112x8192 .f32) : FVec F S26112x2048 .bf16 :=
  truncf .bf16
    (mulf (extractStridedSlice S26112x2048 ![0, 0] p slices_S26112x8192_S26112x2048_0_0)
      (mulf (extractStridedSlice S26112x2048 ![0, 6144] p slices_S26112x8192_S26112x2048_0_6144)
        (Host.divf (broadcastInDim S26112x2048 ![] bcast_S_S26112x2048 (constant S_ .f32 0x3F800000#32))
          (addf (broadcastInDim S26112x2048 ![] bcast_S_S26112x2048 (constant S_ .f32 0x3F800000#32))
            (Host.exp (Host.negf (extractStridedSlice S26112x2048 ![0, 6144] p slices_S26112x8192_S26112x2048_0_6144)))))))
    bitsLt_bf16_f32

/-- Every run of the reference ends with the results at these stages of the arguments, and the arguments as they were. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) =
        inV (partV (normV (m ((c.tc : Thread nD τ).loc main_arg0)) (m ((c.tc : Thread nD τ).loc main_arg1))) (layerV (m ((c.tc : Thread nD τ).loc main_arg2))))
      ∧ r.2.mem ((c.tc : Thread nD τ).loc main_v33) =
        gateV (partV (normV (m ((c.tc : Thread nD τ).loc main_arg0)) (m ((c.tc : Thread nD τ).loc main_arg1))) (layerV (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference2Ideal.Value.run m ρ

/-- A choice by a bit. -/
theorem choose_bit {α : Type} (b : BitVec 1) (x y : α) : Scalar.select b x y = if b = 1#1 then x else y := rfl

/-- The zero. -/
theorem zero_bits : Idealize.ShloMosaic.Ideal.ofBits .f32 0#32 = (0 : EReal) := by
  simp [Ideal.ofBits, Ideal.ieee]

/-- The bits say which rows hold a token. -/
theorem token_at (R : Fin 26112) : tokenV (ix1 R) = 1#1 ↔ Cert.Conv.Token R := by
  have hR := R.isLt
  have hs : Words.Small ((R : ℕ) : ℤ) := ⟨by omega, by omega⟩
  have e : IntOp.remsi .host (BitVec.ofNat 32 (R : ℕ)) (Scalar.select (IntOp.cmpi .eq (id (constantI S_ 32 128#32) ix0) 0#32) (1#32)
      (id (constantI S_ 32 128#32) ix0)) = Words.W (((R : ℕ) : ℤ) % 128) :=
    (congrArg (fun a => IntOp.remsi .host a (128#32)) (Words.ofNat_eq (R : ℕ))).trans (Words.remsi_W (b := 128) hs (by omega) (by norm_num) (by decide))
  have d : Scalar.select (IntOp.cmpi .eq (id (constantI S_ 32 128#32) ix0) 0#32) (1#32) (id (constantI S_ 32 128#32) ix0) = Words.W 128 := rfl
  pointwise [tokenV]
  rw [e, d, Words.ofNat_eq (R : ℕ), show (24576#32) = Words.W 24576 from rfl, show (112#32) = Words.W 112 from rfl,
    show (0#32) = Words.W 0 from rfl]
  have s1 : Words.Small (((R : ℕ) : ℤ) % 128) := ⟨by omega, by omega⟩
  have n1 : IntOp.cmpi .slt (Words.W (((R : ℕ) : ℤ) % 128)) (Words.W 0) = 0#1 := by
    rcases BitVec.eq_zero_or_eq_one (IntOp.cmpi .slt (Words.W (((R : ℕ) : ℤ) % 128)) (Words.W 0)) with h | h
    · exact h
    · exact absurd ((Words.slt_W s1 (by decide)).1 h) (by omega)
  have n2 : IntOp.cmpi .slt (Words.W 128) (Words.W 0) = 0#1 := by decide
  have n3 : ∀ x : BitVec 1, IntOp.andi (IntOp.cmpi .ne (0#1) (0#1)) x = 0#1 := by decide
  rw [n1, n2, n3, choose_bit, if_neg (by decide), Words.ori_one, Words.slt_W hs (by decide), Words.sge_W s1 (by decide)]
  unfold Cert.Conv.Token
  omega

/-- The sum of a row. -/
theorem total (n0 n1 : ℕ) (s : FVec Ideal ⟨2, ![n0, n1]⟩ .f32) (h : (⟨2, ![n0, n1]⟩ : Shape).ReducesTo [1] ⟨1, ![n0]⟩)
    (i : FVec Ideal ⟨0, ![]⟩ .f32) (hu : 0 < (⟨0, ![]⟩ : Shape).numel) (a : Fin n0) :
    (Host.reduceAdd s i h hu (ix1 a) : EReal) = i (Shape.Idx.first hu) + ∑ x : Fin n1, s (ix2 a x) := by
  pointwise

/-- An element of the projections. -/
theorem partV_at (x : FVec Ideal S26112x2048 .f32) (w : FVec Ideal S2048x8192 .f32) (R : Fin 26112) (C : Fin 8192) :
    (partV x w (ix2 R C) : EReal) = ∑ k : Fin 2048, (x (ix2 R k) : EReal) * w (ix2 k C) := by
  pointwise [partV]

/-- An element of the first layer's weights. -/
theorem layerV_at (w : FVec Ideal S2x2048x8192 .f32) (k : Fin 2048) (C : Fin 8192) :
    (layerV w (ix2 k C) : EReal) = w (ix3 0 k C) := by
  pointwise [layerV]

/-- The sum of a row's squares. -/
theorem squares_at (h : FVec Ideal S26112x2048 .f32) (R : Fin 26112) :
    (Host.reduceAdd (mulf h h) (constant S_ .f32 0x00000000#32) reducesTo_S26112x2048_S26112_d1 h_S_ (ix1 R) : EReal) =
      ∑ j : Fin 2048, (h (ix2 R j) : EReal) * h (ix2 R j) := by
  refine (total 26112 2048 (mulf h h) reducesTo_S26112x2048_S26112_d1 (constant S_ .f32 0x00000000#32) h_S_ R).trans ?_
  refine (congrArg (· + _) (?_ : _ = (0 : EReal))).trans (zero_add _)
  exact zero_bits

/-- A normalised element. -/
theorem normV_at (h : FVec Ideal S26112x2048 .f32) (g : FVec Ideal S2048 .f32) (R : Fin 26112) (k : Fin 2048) :
    (normV h g (ix2 R k) : EReal) = Cert.Conv.normed (fun j => h (ix2 R j)) (fun j => g (ix1 j)) k := by
  unfold normV
  generalize hs : Host.reduceAdd (mulf h h) (constant S_ .f32 0x00000000#32) reducesTo_S26112x2048_S26112_d1 h_S_ = s
  have e : (s (ix1 R) : EReal) = ∑ j : Fin 2048, (h (ix2 R j) : EReal) * h (ix2 R j) := by rw [← hs]; exact squares_at h R
  pointwise
  rw [e]
  rfl

/-- An element of the gated input. -/
theorem inV_at (p : FVec Ideal S26112x8192 .f32) (R : Fin 26112) (C : Fin 2048) :
    (inV p (ix2 R C) : EReal) = if Cert.Conv.Token R then (p (ix2 R ⟨2048 + C, by omega⟩) : EReal) * p (ix2 R ⟨4096 + C, by omega⟩) else 0 := by
  pointwise [inV]
  rw [choose_bit]
  exact if_congr (token_at R) rfl zero_bits

/-- An element of the output's gate. -/
theorem gateV_at (p : FVec Ideal S26112x8192 .f32) (R : Fin 26112) (C : Fin 2048) :
    (gateV p (ix2 R C) : EReal) = (p (ix2 R ⟨C, by omega⟩) : EReal) *
      ((p (ix2 R ⟨6144 + C, by omega⟩) : EReal) * Ideal.div 1 (1 + Ideal.exp (-(p (ix2 R ⟨6144 + C, by omega⟩) : EReal)))) := by
  pointwise [gateV]

end Cert.Reference2Ideal.Conv

end

end
-- ==== Proof.Conv.Equal.lean ====
module

public import proofs.«01_k».proof.Proof.Conv.Value
public import proofs.«01_k».proof.Proof.Ref2.At

@[expose] public section

set_option maxRecDepth 16384

noncomputable section

/-!
# The projection kernel's results are the reference's
-/

namespace Cert.Conv

open Idealize.ShloMosaic Idealize.ShloMosaic.TcCoe

/-- The reference's projections of a row. -/
theorem part_eq (h : FVec Ideal Cert.Reference2Ideal.S26112x2048 .f32) (g : FVec Ideal Cert.Reference2Ideal.S2048 .f32)
    (w : FVec Ideal Cert.Reference2Ideal.S2x2048x8192 .f32) (R : Fin 26112) (C : Fin 8192) :
    (Cert.Reference2Ideal.Conv.partV (Cert.Reference2Ideal.Conv.normV h g) (Cert.Reference2Ideal.Conv.layerV w) (ix2 R C) : EReal) =
      part (fun k => h (ix2 R k)) (fun k => g (ix1 k)) (fun k C => w (ix3 0 k C)) C := by
  rw [Cert.Reference2Ideal.Conv.partV_at]
  exact Finset.sum_congr rfl fun k _ => by
    rw [Cert.Reference2Ideal.Conv.normV_at, Cert.Reference2Ideal.Conv.layerV_at]

/-- An index of two axes. -/
theorem ix2_eta (i : Cert.Reference2Ideal.S26112x2048.Idx) : i = (ix2 (i 0 : Fin 26112) (i 1 : Fin 2048) : Cert.Reference2Ideal.S26112x2048.Idx) :=
  funext fun a => by match a with | 0 => rfl | 1 => rfl

/-- The first results are equal. -/
theorem in_eq (h : FVec Ideal Cert.Reference2Ideal.S26112x2048 .f32) (g : FVec Ideal Cert.Reference2Ideal.S2048 .f32)
    (w : FVec Ideal Cert.Reference2Ideal.S2x2048x8192 .f32) (i : Cert.Reference2Ideal.S26112x2048.Idx) :
    (Cert.Reference2Ideal.Conv.inV (Cert.Reference2Ideal.Conv.partV (Cert.Reference2Ideal.Conv.normV h g) (Cert.Reference2Ideal.Conv.layerV w)) i : EReal) =
      gatedIn (fun R k => h (ix2 R k)) (fun k => g (ix1 k)) (fun k C => w (ix3 0 k C)) (i 0 : Fin 26112) (i 1 : Fin 2048) := by
  refine (congrArg _ (ix2_eta i)).trans ((Cert.Reference2Ideal.Conv.inV_at _ (i 0 : Fin 26112) (i 1 : Fin 2048)).trans ?_)
  exact if_congr Iff.rfl (congrArg₂ (· * ·) (part_eq h g w _ _) (part_eq h g w _ _)) rfl

/-- The second results are equal. -/
theorem gate_eq (h : FVec Ideal Cert.Reference2Ideal.S26112x2048 .f32) (g : FVec Ideal Cert.Reference2Ideal.S2048 .f32)
    (w : FVec Ideal Cert.Reference2Ideal.S2x2048x8192 .f32) (i : Cert.Reference2Ideal.S26112x2048.Idx) :
    (Cert.Reference2Ideal.Conv.gateV (Cert.Reference2Ideal.Conv.partV (Cert.Reference2Ideal.Conv.normV h g) (Cert.Reference2Ideal.Conv.layerV w)) i : EReal) =
      gateOut (fun R k => h (ix2 R k)) (fun k => g (ix1 k)) (fun k C => w (ix3 0 k C)) (i 0 : Fin 26112) (i 1 : Fin 2048) := by
  have e : ∀ (R : Fin 26112) (C : Fin 2048), (Cert.Reference2Ideal.Conv.gateV (Cert.Reference2Ideal.Conv.partV
      (Cert.Reference2Ideal.Conv.normV h g) (Cert.Reference2Ideal.Conv.layerV w)) (ix2 R C) : EReal) =
      gateOut (fun R k => h (ix2 R k)) (fun k => g (ix1 k)) (fun k C => w (ix3 0 k C)) R C := by
    intro R C
    unfold gateOut
    rw [Cert.Reference2Ideal.Conv.gateV_at, part_eq, part_eq]
  exact (congrArg _ (ix2_eta i)).trans (e (i 0 : Fin 26112) (i 1 : Fin 2048))

end Cert.Conv

end

end
-- ==== Proof.Out.Value.lean ====
module

public import proofs.«01_k».proof.Proof.Gen.Kernel3Ideal.Value
public import Idealize.ShloMosaic.Lib.Pipeline.Value
public import Idealize.ShloMosaic.Lib.Pointwise
public import Idealize.ShloMosaic.Lib.StableHlo.RunRead
public import proofs.«01_k».proof.Proof.Gen.Reference3Ideal.Run

@[expose] public section

set_option maxRecDepth 16384

noncomputable section

/-!
# What the kernel after the attention leaves in its result array

Every element is the element of the rows plus the product of the attention's row with a column of the weights.
-/

namespace Cert.Out

open Idealize.ShloMosaic

/-- An element of the rows plus their projections. -/
def added (A H : Fin 26112 → Fin 2048 → EReal) (w : Fin 2048 → Fin 2048 → EReal) (R : Fin 26112) (C : Fin 2048) : EReal :=
  H R C + ∑ k, A R k * w k C

end Cert.Out

namespace Cert.Kernel3Ideal.Out

open Cert.Kernel3Ideal Cert.Kernel3Ideal.Gen
open Idealize.ShloMosaic Idealize.ShloMosaic.TcCoe
open Idealize.SL.Sem
open Idealize.ShloMosaic.Pipeline (Dat)

/-- An element of what a grid point stores. -/
theorem stored_at (x2 : Vec Ideal S512x2048 .f32) (x0 : Vec Ideal S512x2048 .bf16) (x1 : Vec Ideal S1x2048x2048 .bf16) (r : Fin 512) (C : Fin 2048) :
    (k0_pay1 x2 x0 x1 (ix2 r C) : EReal) = (x2 (ix2 r C) : EReal) + ∑ k : Fin 2048, (x0 (ix2 r k) : EReal) * x1 (ix3 0 k C) := by
  pointwise [k0_pay1]

theorem zeros2 : (![0, 0] : Fin 2 → ℕ) = fun _ => 0 := by decide

theorem zeros3 : (![0, 0, 0] : Fin 3 → ℕ) = fun _ => 0 := by decide

/-- A grid point's block after its store. -/
theorem block_eq (x0 : Vec Ideal S512x2048 .bf16) (x1 : Vec Ideal S1x2048x2048 .bf16) (x2 : Vec Ideal S512x2048 .f32) :
    out0_3 x0 x1 x2 = k0_pay1 x2 x0 x1 := by
  unfold out0_3
  refine (View.canon_unit_zero zeros2 _ _).trans ?_
  rw [View.ld_unit_zero zeros2, View.ld_unit_zero zeros2, View.ld_unit_zero zeros3]

variable (m : (ℓ : Loc nD τ sig) → Buf (Elt Ideal) ℓ) (c : Dev nD)

set_option maxHeartbeats 4000000 in
/-- The region finds the attention rounded. -/
theorem V_attention : V m c main_v0 = (truncf .bf16 (m ((c.tc : Thread nD τ).loc main_arg0) : FVec Ideal S26112x2048 .f32) bitsLt_bf16_f32 : FVec Ideal S26112x2048 .bf16) := by
  show StableHlo.after hostOps0 _ (Proc.devRef .tc main_v0) = _
  after_reads_simp

set_option maxHeartbeats 4000000 in
/-- The region finds the weights rounded. -/
theorem V_weights : V m c main_v1 = (truncf .bf16 (m ((c.tc : Thread nD τ).loc main_arg1) : FVec Ideal S2x2048x2048 .f32) bitsLt_bf16_f32 : FVec Ideal S2x2048x2048 .bf16) := by
  show StableHlo.after hostOps0 _ (Proc.devRef .tc main_v1) = _
  after_reads_simp

/-- The attention. -/
def aM (R : Fin 26112) (k : Fin 2048) : EReal := (m ((c.tc : Thread nD τ).loc main_arg0) : FVec Ideal S26112x2048 .f32) (ix2 R k)

/-- The first layer's weights. -/
def wM (k C : Fin 2048) : EReal := (m ((c.tc : Thread nD τ).loc main_arg1) : FVec Ideal S2x2048x2048 .f32) (ix3 0 k C)

/-- The rows. -/
def hM (R : Fin 26112) (k : Fin 2048) : EReal := (m ((c.tc : Thread nD τ).loc main_arg2) : FVec Ideal S26112x2048 .f32) (ix2 R k)

/-- Where the windows are. -/
theorem index_at (t : Fin grid0.N) :
    (∀ a, cc0_transform_0 (grid0.coords t) a = ![(t : ℕ), 0] a) ∧ (∀ a, cc0_transform_1 (grid0.coords t) a = ![0, 0, 0] a) ∧
    (∀ a, cc0_transform_2 (grid0.coords t) a = ![(t : ℕ), 0] a) ∧ (∀ a, cc0_transform_3 (grid0.coords t) a = ![(t : ℕ), 0] a) := by
  revert t; decide +kernel

/-- An element of a window's block lies in the array at the block's place plus its own. -/
theorem emb_eq {G : Pipeline.Grid} (w : Pipeline.Window sig G) (t : Fin G.N) (hk : w.kind = .blocked) (y : (w.xblock (G.coords t)).Idx)
    (z : w.shape.Idx) (h : ∀ a, w.index t a * w.size a + y a = (z a : ℕ)) : (w.rect t).emb y = z :=
  funext fun a => Fin.ext ((Pipeline.Window.rect_emb_val w t y a hk).trans (h a))

/-- The place of an element of a block of rows. -/
theorem place (p : ℕ) (f : Fin 2 → ℕ) (hf : ∀ a, f a = ![p, 0] a) (i : Fin 512) (j : Fin 2048) (R : Fin 26112) (h : 512 * p + i = R) (a : Fin 2) :
    f a * (![512, 2048] : Fin 2 → ℕ) a + (ix2 i j : S512x2048.Idx) a = ((ix2 R j : S26112x2048.Idx) a : ℕ) := by
  rw [hf]
  match a with
  | 0 => show p * 512 + i = R; rw [Nat.mul_comm]; exact h
  | 1 => show 0 * 2048 + (j : ℕ) = j; omega

/-- An element of the attention, as a point reads it. -/
theorem attentionBlk_at (t : Fin cfg0.N) (i : Fin 512) (j : Fin 2048) (R : Fin 26112) (h : 512 * (t : ℕ) + i = R) :
    (iblk m c 0 t (ix2 i j : S512x2048.Idx) : EReal) = aM m c R j := by
  refine (congrArg (V m c main_v0) (emb_eq (cfg0.win 0) t rfl (ix2 i j : S512x2048.Idx) _ (place _ _ (index_at t).1 i j R h))).trans ?_
  rw [V_attention]
  rfl

/-- An element of the rows, as a point reads it. -/
theorem rowBlk_at (t : Fin cfg0.N) (i : Fin 512) (j : Fin 2048) (R : Fin 26112) (h : 512 * (t : ℕ) + i = R) :
    (iblk m c 2 t (ix2 i j : S512x2048.Idx) : EReal) = hM m c R j :=
  (congrArg (V m c main_arg2) (emb_eq (cfg0.win 2) t rfl (ix2 i j : S512x2048.Idx) _
    (place _ _ (index_at t).2.2.1 i j R h))).trans (congrFun (V_main_arg2 m c) _)

/-- An element of the weights, as a point reads them. -/
theorem weightBlk_at (t : Fin cfg0.N) (k C : Fin 2048) : (iblk m c 1 t (ix3 0 k C : S1x2048x2048.Idx) : EReal) = wM m c k C := by
  have hz : ∀ a : Fin 3, (cfg0.win 1).index t a * (cfg0.win 1).size a + (ix3 0 k C : S1x2048x2048.Idx) a = ((ix3 0 k C : S2x2048x2048.Idx) a : ℕ) := by
    intro a
    refine (congrArg (· * (cfg0.win 1).size a + _) ((index_at t).2.1 a)).trans ?_
    match a with
    | 0 => rfl
    | 1 => show 0 * 2048 + (k : ℕ) = k; omega
    | 2 => show 0 * 2048 + (C : ℕ) = C; omega
  refine (congrArg (V m c main_v1) (emb_eq (cfg0.win 1) t rfl (ix3 0 k C : S1x2048x2048.Idx) _ hz)).trans ?_
  rw [V_weights]
  rfl

/-- The result array. -/
def outM : Vec Ideal S26112x2048 .f32 := fun i => Cert.Out.added (aM m c) (hM m c) (wM m c) (i 0 : Fin 26112) (i 1 : Fin 2048)

/-- An element of what a grid point leaves in its block. -/
theorem left_at (t : Fin cfg0.N) (i : Fin 512) (j : Fin 2048) (R : Fin 26112) (h : 512 * (t : ℕ) + i = R) :
    (out0_3 (iblk m c 0 t) (iblk m c 1 t) (iblk m c 2 t) (ix2 i j) : EReal) = outM m c (ix2 R j) := by
  rw [block_eq]
  refine (stored_at _ _ _ i j).trans ?_
  exact congrArg₂ (· + ·) (rowBlk_at m c t i j R h)
    (Finset.sum_congr rfl fun k _ => congrArg₂ (· * ·) (attentionBlk_at m c t i k R h) (weightBlk_at m c t k j))

theorem row_lt {t : ℕ} (ht : t < 51) (y : Fin 512) : 512 * t + (y : ℕ) < 26112 := by omega

set_option maxHeartbeats 4000000 in
/-- What a point writes back is its block of the array. -/
theorem out_flushed (t : Fin cfg0.N) : (dats m 0 c).flushed 3 t = ((cfg0.win 3).blk t).view.read (Elt Ideal) (outM m c) := by
  have ht : (t : ℕ) < 51 := t.isLt
  rw [Cert.Kernel3Ideal.Value.flushed3]
  refine funext fun (y : S512x2048.Idx) => ?_
  have ey : y = (ix2 (y 0 : Fin 512) (y 1 : Fin 2048) : S512x2048.Idx) := funext fun a => by match a with | 0 => rfl | 1 => rfl
  have e := left_at m c t (y 0 : Fin 512) (y 1 : Fin 2048) ⟨512 * t + (y 0 : Fin 512), row_lt ht (y 0)⟩ rfl
  refine (congrArg (out0_3 (iblk m c 0 t) (iblk m c 1 t) (iblk m c 2 t)) ey).trans (e.trans ?_)
  refine congrArg (outM m c) (Eq.symm ?_)
  refine (congrArg ((cfg0.win 3).rect t).emb ey).trans ?_
  exact emb_eq (cfg0.win 3) t rfl (ix2 (y 0 : Fin 512) (y 1 : Fin 2048) : S512x2048.Idx) _ (place _ _ (index_at t).2.2.2 _ _ _ rfl)

theorem point_lt (i : S26112x2048.Idx) : ((i 0 : Fin 26112) : ℕ) / 512 < 51 := by
  have lt0 : ((i 0 : Fin 26112) : ℕ) < 26112 := (i 0).isLt
  omega

/-- The point that writes an element of the result array. -/
def pointOf (i : S26112x2048.Idx) : Fin cfg0.N := ⟨((i 0 : Fin 26112) : ℕ) / 512, point_lt i⟩

/-- The block element that holds an element of the result array. -/
def inBlock (i : S26112x2048.Idx) : S512x2048.Idx := ix2 (⟨((i 0 : Fin 26112) : ℕ) % 512, by omega⟩ : Fin 512) (i 1 : Fin 2048)

/-- The element of the point's block is the array's. -/
theorem place_inBlock (i : S26112x2048.Idx) (f : Fin 2 → ℕ) (hf : ∀ a, f a = ![(pointOf i : ℕ), 0] a) (a : Fin 2) :
    f a * S512x2048.size a + inBlock i a = (i a : ℕ) := by
  rw [hf]
  match a with
  | 0 => show ((i 0 : Fin 26112) : ℕ) / 512 * 512 + ((i 0 : Fin 26112) : ℕ) % 512 = (i 0 : Fin 26112); omega
  | 1 => show 0 * 2048 + ((i 1 : Fin 2048) : ℕ) = (i 1 : Fin 2048); omega

set_option maxHeartbeats 4000000 in
/-- The points' blocks cover the result array. -/
theorem out_cover (i : S26112x2048.Idx) :
    ∃ t : Fin cfg0.N, (cfg0.win 3).flush t = true ∧ i ∈ ((cfg0.win 3).blk t).view.set := by
  have e : ((cfg0.win 3).rect (pointOf i)).emb (inBlock i) = i :=
    emb_eq (cfg0.win 3) (pointOf i) rfl (inBlock i) i (place_inBlock i _ (index_at (pointOf i)).2.2.2)
  refine ⟨pointOf i, flush0_3 _, ?_⟩
  have hm : i ∈ ((cfg0.win 3).rect (pointOf i)).set :=
    Eq.subst (motive := fun j => j ∈ ((cfg0.win 3).rect (pointOf i)).set) e (((cfg0.win 3).rect (pointOf i)).idx_mem (inBlock i))
  exact (Finset.ext_iff.1 (View.set_slice_whole main_v2 ((cfg0.win 3).rect (pointOf i))) i).2 hm

set_option maxHeartbeats 4000000 in
/-- The result array after the run. -/
theorem out_final : (dats m 0 c).arrAt 3 cfg0.N = outM m c :=
  (dats m 0 c).arrAt_eq_of_cover 3 (outM m c) (fun t _ => out_flushed m c t) out_cover

end Cert.Kernel3Ideal.Out

namespace Cert.Reference3Ideal.Out

open Cert.Reference3Ideal Cert.Reference3Ideal.Gen
open Idealize.ShloMosaic

/-- The reference's result. -/
def refV (a : FVec Ideal S26112x2048 .f32) (w : FVec Ideal S2x2048x2048 .f32) (h : FVec Ideal S26112x2048 .f32) : FVec Ideal S26112x2048 .f32 :=
  addf h (Host.dotGeneral dot_S26112x2048_S2048x2048_S26112x2048_1_0_0_1_n_n none a
    (shapeCast _ (extractStridedSlice S1x2048x2048 ![0, 0, 0] w slices_S2x2048x2048_S1x2048x2048_0_0_0) shapeCasts_S1x2048x2048_S2048x2048))

/-- An element of the reference's result. -/
theorem refV_at (a : FVec Ideal S26112x2048 .f32) (w : FVec Ideal S2x2048x2048 .f32) (h : FVec Ideal S26112x2048 .f32) (R : Fin 26112) (C : Fin 2048) :
    (refV a w h (ix2 R C) : EReal) = Cert.Out.added (fun R k => a (ix2 R k)) (fun R k => h (ix2 R k)) (fun k C => w (ix3 0 k C)) R C := by
  unfold Cert.Out.added
  pointwise [refV]

/-- The reference's result, element by element. -/
theorem refV_eq (a : FVec Ideal S26112x2048 .f32) (w : FVec Ideal S2x2048x2048 .f32) (h : FVec Ideal S26112x2048 .f32) (i : S26112x2048.Idx) :
    (refV a w h i : EReal) = Cert.Out.added (fun R k => a (ix2 R k)) (fun R k => h (ix2 R k)) (fun k C => w (ix3 0 k C)) (i 0 : Fin 26112) (i 1 : Fin 2048) := by
  have ei : i = (ix2 (i 0 : Fin 26112) (i 1 : Fin 2048) : S26112x2048.Idx) := funext fun a => by match a with | 0 => rfl | 1 => rfl
  exact (congrArg (refV a w h) ei).trans (refV_at a w h (i 0 : Fin 26112) (i 1 : Fin 2048))

end Cert.Reference3Ideal.Out

end

end
-- ==== Proof.In.FrameIdeal.lean ====
module

public import proofs.«01_k».proof.Proof.Gen.Kernel4Ideal.Frame.RunB
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S512x5120`, checked by the kernel's evaluation: Lib/Ring.lean `Piece.tiledL`, linear in the pieces, through a loop's `@[irreducible]` trip theorem too), so they cover it. -/
theorem cover0_A_6 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : cond0_0 i) (hc1 : ¬cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (y : S512x5120.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 xt0).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 xt0).1 S512x5120.size (by sl_kernel_rfl) y

/-- What case A leaves in output 6's staging buffer: its pieces read back over junk. -/
def out0_A_6 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : cond0_0 i) (hc1 : ¬cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) : Vec F S512x5120 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5 xt0).1)

/-- Case A's pieces for scratch `arg9`, which the kernel carries between points, cover it: 1 piece of `S256x2048` tiling it (Lib/Ring.lean `Piece.tiledL`). -/
theorem scover0_A_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : cond0_0 i) (hc1 : ¬cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (y : S256x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 xt0).2.1 S256x2048.size (by sl_kernel_rfl) y

/-- What case A leaves in scratch `arg9`: its pieces read back over junk. -/
def sout0_A_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : cond0_0 i) (hc1 : ¬cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) : Vec F S256x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 xt0).2.1)

/-- Case B's pieces for output 6 tile its block (20 stores of `S256x512`, checked by the kernel's evaluation: Lib/Ring.lean `Piece.tiledL`, linear in the pieces, through a loop's `@[irreducible]` trip theorem too), so they cover it. -/
theorem cover0_B_6 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) (y : S512x5120.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xt0 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xt0 xs0).1 S256x512.size (by sl_kernel_rfl) y

/-- What case B leaves in output 6's staging buffer: its pieces read back over junk. -/
def out0_B_6 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) : Vec F S512x5120 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xt0 xs0).1)

/-- Case B's pieces for scratch `arg9`, which the kernel carries between points, cover it: 1 piece of `S256x2048` tiling it (Lib/Ring.lean `Piece.tiledL`). -/
theorem scover0_B_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) (y : S256x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xt0 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xt0 xs0).2.1 S256x2048.size (by sl_kernel_rfl) y

/-- What case B leaves in scratch `arg9`: its pieces read back over junk. -/
def sout0_B_0 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i)
    (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) : Vec F S256x2048 .bf16 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xt0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x5120 .bf16 × Vec F S256x2048 .bf16
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 52 = 0 then
      if h1 : 1 ≤ (n + 1) then
        False.elim (by have hN : n + 1 < 52 := lt_of_lt_of_eq hn (show (cfgM m hO).N = 52 from N_0); omega)
      else
        (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      if h1 : 1 ≤ (n + 1) then
        (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2)
      else
        False.elim (by have hN : n + 1 < 52 := lt_of_lt_of_eq hn (show (cfgM m hO).N = 52 from N_0); omega)

set_option maxHeartbeats 6400000 in
/-- `outsAt0` at a point of case A: that case's contents. -/
theorem outsAt0_A (hO : Ok m) (c : Dev nD) (t : Fin (cfgM m hO).N) (h0 : t.val % 52 = 0) (h1 : ¬1 ≤ t.val) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans ((dif_neg h1).trans rfl)

set_option maxHeartbeats 6400000 in
/-- `outsAt0` at a point of case B: that case's contents, over what the point before left. -/
theorem outsAt0_B (hO : Ok m) (c : Dev nD) (t : Fin (cfgM m hO).N) (h0 : ¬t.val % 52 = 0) (h1 : 1 ≤ t.val) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 52 := lt_of_lt_of_eq t.isLt (show (cfgM m hO).N = 52 from N_0)
  by_cases h0 : t.val % 52 = 0
  · by_cases h1 : 1 ≤ t.val
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_A m hO t ((hcond0_0 t).mpr h0) (fun h => h1 ((hcond0_1 t).mp h))]; try rfl, after0_6]
      by_cases hz : t.val = 0
      · rw [PhiS_castSucc m hO c t, PhiS_zero m hO c _ _ hz, PhiT0_eq, PhiA0_eq]
        rw [outsAt0_A m hO c t h0 h1]
        unfold out0_A_6 sout0_A_0; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HT0]; · iexact HT0
        iintro ⟨H0, H1, H2, H3, H4, H5, ⟨%e6, H6⟩, ⟨%es0, HS0⟩, HS1, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      · exfalso; have hN : t.val < 52 := lt_of_lt_of_eq t.isLt (show (cfgM m hO).N = 52 from N_0); omega
  · by_cases h1 : 1 ≤ t.val
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_B m hO t (fun h => h0 ((hcond0_0 t).mp h)) ((hcond0_1 t).mpr h1)]; try rfl, after0_6]
      by_cases hz : t.val = 0
      · exfalso; have hN : t.val < 52 := lt_of_lt_of_eq t.isLt (show (cfgM m hO).N = 52 from N_0); omega
      · rw [PhiS_castSucc m hO c t, PhiS_pos m hO c _ _ hz, PhiT0_eq]
        rw [outsAt0_B m hO c t h0 h1]
        unfold out0_B_6 sout0_B_0; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HT0]; · iexact HT0
        iintro ⟨H0, H1, H2, H3, H4, H5, ⟨%e6, H6⟩, ⟨%es0, HS0⟩, ⟨%fT1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _)
              iexists _; unfold owns; iexists _; isplitr
              swap; · iexact HS1
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 52 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`; here for every contents of the PREFETCHED TABLES, UNDER `Gen.Ok m` (the pipeline's side condition of
    them), which Proof.lean proves from the precondition: `⟨…, fun m ρ h => Cert.Kernel4Ideal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.Kernel4Ideal.Gen

end
-- ==== Proof.In.Tables.lean ====
module

public import proofs.«01_k».proof.Proof.In.FrameIdeal
public import Idealize.ShloMosaic.Lib.StableHlo.RunRead
public import Idealize.ShloMosaic.PureOps.Ideal

@[expose] public section

set_option maxRecDepth 16384

noncomputable section

/-!
# The table of block rows
-/

namespace Cert.Kernel4Ideal.In

open Cert.Kernel4Ideal Cert.Kernel4Ideal.Gen
open Idealize.ShloMosaic Idealize.ShloMosaic.TcCoe
open Idealize.SL.Sem

/-- The table's words: the literals of the host constant. -/
def words {F : FTy → Type} [FloatOps F] : pre0.Contents (Elt F)
  | ⟨0, _⟩ => fun i => lit0 (S51.rowMajor i)

variable {F : FTy → Type} [FloatOps F] (m : (ℓ : Loc nD τ sig) → Buf (Elt F) ℓ)

set_option maxHeartbeats 4000000 in
/-- The region finds the literals in the table's buffer. -/
theorem tbl_eq : tbl m = words := by
  funext j
  match j with
  | ⟨0, _⟩ =>
    show StableHlo.after (hostOps0 ++ (hostOps0_1 ++ hostOps0_2)) _ (Proc.devRef .tc main_c) = _
    after_reads_simp
    rfl

set_option maxHeartbeats 4000000 in
/-- At the literals every block the table names lies inside its array. -/
theorem ok_words : ok0 (F := Ideal) words := by
  unfold ok0
  refine ⟨?_, ?_⟩ <;> decide +kernel

/-- So the pipeline's side condition holds of every launch memory. -/
theorem ok (m : (ℓ : Loc nD τ sig) → Buf (Elt Ideal) ℓ) : Ok m := by
  unfold Ok; rw [tbl_eq m]; exact ok_words

end Cert.Kernel4Ideal.In

end

end
-- ==== Proof.In.TablesBits.lean ====
module

public import proofs.«01_k».proof.Proof.In.FrameBits
public import Idealize.ShloMosaic.Lib.StableHlo.RunRead
public import Idealize.ShloMosaic.PureOps.BitExact

@[expose] public section

set_option maxRecDepth 16384

noncomputable section

/-!
# The table of block rows
-/

namespace Cert.Kernel4.In

open Cert.Kernel4 Cert.Kernel4.Gen
open Idealize.ShloMosaic Idealize.ShloMosaic.TcCoe
open Idealize.SL.Sem

/-- The table's words: the literals of the host constant. -/
def words {F : FTy → Type} [FloatOps F] : pre0.Contents (Elt F)
  | ⟨0, _⟩ => fun i => lit0 (S51.rowMajor i)

variable {F : FTy → Type} [FloatOps F] (m : (ℓ : Loc nD τ sig) → Buf (Elt F) ℓ)

set_option maxHeartbeats 4000000 in
/-- The region finds the literals in the table's buffer. -/
theorem tbl_eq : tbl m = words := by
  funext j
  match j with
  | ⟨0, _⟩ =>
    show StableHlo.after (hostOps0 ++ (hostOps0_1 ++ hostOps0_2)) _ (Proc.devRef .tc main_c) = _
    after_reads_simp
    rfl

set_option maxHeartbeats 4000000 in
/-- At the literals every block the table names lies inside its array. -/
theorem ok_words : ok0 (F := Bits) words := by
  unfold ok0
  refine ⟨?_, ?_⟩ <;> decide +kernel

/-- So the pipeline's side condition holds of every launch memory. -/
theorem ok (m : (ℓ : Loc nD τ sig) → Buf (Elt Bits) ℓ) : Ok m := by
  unfold Ok; rw [tbl_eq m]; exact ok_words

end Cert.Kernel4.In

end

end
-- ==== Proof.In.Spec.lean ====
module

public import proofs.«01_k».proof.Proof.Conv.Spec
public import proofs.«01_k».proof.Proof.Words

@[expose] public section

set_option maxRecDepth 16384

noncomputable section

/-!
# The attention's input projection of the packed rows

What the call and the reference both compute, element by element.
-/

namespace Cert.In

open Idealize.ShloMosaic

/-- An element of the projections of a row. -/
def part (x g : Fin 2048 → EReal) (w : Fin 2048 → Fin 5120 → EReal) (C : Fin 5120) : EReal := ∑ k, Cert.Conv.normed x g k * w k C

/-- The position of a packed row in its sequence, counted from the meta tokens. -/
def pos (R : ℕ) : ℤ :=
  if R < 8192 then (R : ℤ) + 16 else if R < 24576 then (((R : ℤ) - 8192) % 2048) + 16 else ((R : ℤ) % 128) - 112

/-- The position of a row of the tables of angles. -/
def tablePos (r : ℕ) : ℤ := if r < 8192 then (r : ℤ) + 16 else ((r : ℤ) % 128) - 112

/-- The angle of a position in one of the 64 planes of rotation. -/
def angle (p : ℤ) (j : ℕ) : EReal :=
  (FloatOps.sitofp (F := Ideal) .f32 (Words.W p) : EReal) *
    Ideal.pow (Ideal.ofBits .f32 0x461C4000#32) (-(FloatOps.sitofp (F := Ideal) .f32 (BitVec.ofNat 32 (j % 64)) : EReal) * Ideal.ofBits .f32 0x3C800000#32)

/-- The element that a rotation of a head joins to an element: the other half's, with its sign. -/
def partner (p : Fin 5120 → EReal) (C : Fin 5120) : EReal :=
  if h : (C : ℕ) % 128 < 64 then -p ⟨C + 64, by omega⟩ else p ⟨C - 64, by omega⟩

/-- An element of the projections of a row, its head rotated by the row's position. -/
def rotated (p : Fin 5120 → EReal) (P : ℤ) (C : Fin 5120) : EReal :=
  p C * Ideal.cos (angle P (C % 128)) + partner p C * Ideal.sin (angle P (C % 128))

/-- An element of the result: queries rotated and scaled, the gate, keys rotated, values. -/
def projected (H : Fin 26112 → Fin 2048 → EReal) (g : Fin 2048 → EReal) (w : Fin 2048 → Fin 5120 → EReal) (R : Fin 26112)
    (C : Fin 5120) : EReal :=
  if h : (C : ℕ) < 2048 then rotated (part (H R) g w) (pos R) C * Ideal.ofBits .f32 0x3E0293EE#32
  else if h' : (C : ℕ) < 4096 then part (H R) g w ⟨C + 1024, by omega⟩ * Ideal.div 1 (1 + Ideal.exp (-part (H R) g w ⟨C + 1024, by omega⟩))
  else if (C : ℕ) < 4608 then rotated (part (H R) g w) (pos R) ⟨C - 2048, by omega⟩
  else part (H R) g w ⟨C - 2048, by omega⟩

end Cert.In

end

end
-- ==== Proof.In.Tile.lean ====
module

public import proofs.«01_k».proof.Proof.In.FrameIdeal
public import proofs.«01_k».proof.Proof.Conv.Spec
public import Idealize.ShloMosaic.Lib.Pipeline.Value
public import Idealize.ShloMosaic.Lib.Pointwise

@[expose] public section

set_option maxRecDepth 16384

noncomputable section

/-!
# What one grid point of the attention's input projection stores

A grid point stores twenty tiles of 256 × 512: two blocks of rows by ten blocks of columns, of which four hold rotated and
scaled queries, four the gate, one the rotated keys and one the values.
-/

namespace Cert.Kernel4Ideal.In

open Cert.Kernel4Ideal.Gen
open Idealize.ShloMosaic Idealize.ShloMosaic.TcCoe

variable {F : FTy → Type} [FloatOps F]

theorem inb_cols (o : ℕ) (h : o + 512 ≤ 5120) : ∀ a, (![0, 0, o] : Fin 3 → ℕ) a + S1x2048x512.size a ≤ S1x2048x5120.size a := by
  intro a
  match a with
  | ⟨0, _⟩ => show 0 + 1 ≤ 1; omega
  | ⟨1, _⟩ => show 0 + 2048 ≤ 2048; omega
  | ⟨2, _⟩ => show o + 512 ≤ 5120; omega

theorem inb_tile (b : Fin 2) (c : Fin 10) :
    ∀ a, (![256 * b.val, 512 * c.val] : Fin 2 → ℕ) a + (![256, 512] : Fin 2 → ℕ) a ≤ S512x5120.size a := by
  intro a
  match a with
  | ⟨0, _⟩ => show 256 * b.val + 256 ≤ 512; omega
  | ⟨1, _⟩ => show 512 * c.val + 512 ≤ 5120; omega

theorem inb_half (b : Fin 2) : ∀ a, (![256 * b.val, 0] : Fin 2 → ℕ) a + S256x128.size a ≤ S512x128.size a := by
  intro a
  match a with
  | ⟨0, _⟩ => show 256 * b.val + 256 ≤ 512; omega
  | ⟨1, _⟩ => show 0 + 128 ≤ 128; omega

/-- 512 columns of the weights. -/
def cols (w : Vec F S1x2048x5120 .bf16) (c : Fin 10) : Vec F S1x2048x512 .bf16 :=
  View.ld w (Rect.unit (s := S1x2048x5120) ![0, 0, 512 * c.val] S1x2048x512.size (inb_cols _ (by omega)))

/-- Half the rows of a table of angles. -/
def half (x : Vec F S512x128 .f32) (b : Fin 2) : Vec F S256x128 .f32 :=
  View.ld x (Rect.unit (s := S512x128) ![256 * b.val, 0] S256x128.size (inb_half b))

/-- A tile of the queries. -/
def qTile (cs sn : Vec F S512x128 .f32) (b : Fin 2) (hn : Vec F S256x2048 .bf16) (w : Vec F S1x2048x5120 .bf16) (c : Fin 10) : FVec F S256x512 .bf16 :=
  k0_pay12 (k0_pay6 (half cs b)) (k0_pay7 (half sn b)) hn (cols w c)

/-- A tile of the keys. -/
def kTile (cs sn : Vec F S512x128 .f32) (b : Fin 2) (hn : Vec F S256x2048 .bf16) (w : Vec F S1x2048x5120 .bf16) (c : Fin 10) : FVec F S256x512 .bf16 :=
  k0_pay12 (k0_pay4 (half cs b)) (k0_pay5 (half sn b)) hn (cols w c)

/-- A tile of the gate. -/
def zTile (hn : Vec F S256x2048 .bf16) (w : Vec F S1x2048x5120 .bf16) (c : Fin 10) : FVec F S256x512 .bf16 :=
  k0_pay18 hn (cols w c)

/-- A tile of the values. -/
def vTile (hn : Vec F S256x2048 .bf16) (w : Vec F S1x2048x5120 .bf16) (c : Fin 10) : FVec F S256x512 .bf16 :=
  k0_pay28 hn (cols w c)

/-- The store of one tile. -/
def piece (b : Fin 2) (c : Fin 10) (T : FVec F S256x512 .bf16) : View.Piece (Elt F) S512x5120 .bf16 :=
  ⟨Rect.unit (s := S512x5120) ![256 * b.val, 512 * c.val] ![256, 512] (inb_tile b c), T⟩

/-- The stores of a block of rows, the last first. -/
def pieces (cs sn : Vec F S512x128 .f32) (b : Fin 2) (hn : Vec F S256x2048 .bf16) (w : Vec F S1x2048x5120 .bf16) : List (View.Piece (Elt F) S512x5120 .bf16) :=
  [piece b 9 (vTile hn w 9), piece b 8 (kTile cs sn b hn w 8), piece b 7 (zTile hn w 7), piece b 6 (zTile hn w 6), piece b 5 (zTile hn w 5),
   piece b 4 (zTile hn w 4), piece b 3 (qTile cs sn b hn w 3), piece b 2 (qTile cs sn b hn w 2), piece b 1 (qTile cs sn b hn w 1), piece b 0 (qTile cs sn b hn w 0)]

/-- A property of every store of a block of rows holds when it holds of every tile's. -/
theorem of_mem_pieces {Q : View.Piece (Elt F) S512x5120 .bf16 → Prop} (cs sn : Vec F S512x128 .f32) (b : Fin 2) (hn : Vec F S256x2048 .bf16) (w : Vec F S1x2048x5120 .bf16)
    (Hq : ∀ c : Fin 10, (c : ℕ) < 4 → Q (piece b c (qTile cs sn b hn w c)))
    (Hz : ∀ c : Fin 10, 4 ≤ (c : ℕ) → (c : ℕ) < 8 → Q (piece b c (zTile hn w c)))
    (Hk : Q (piece b 8 (kTile cs sn b hn w 8))) (Hv : Q (piece b 9 (vTile hn w 9))) : ∀ p ∈ pieces cs sn b hn w, Q p := by
  unfold pieces
  have q0 := Hq 0 (by decide)
  have q1 := Hq 1 (by decide)
  have q2 := Hq 2 (by decide)
  have q3 := Hq 3 (by decide)
  have z4 := Hz 4 (by decide) (by decide)
  have z5 := Hz 5 (by decide) (by decide)
  have z6 := Hz 6 (by decide) (by decide)
  have z7 := Hz 7 (by decide) (by decide)
  simp only [List.forall_mem_cons, q0, q1, q2, q3, z4, z5, z6, z7, Hk, Hv, true_and]
  exact fun p hp => absurd hp List.not_mem_nil

/-- A tile's store holds the elements of an array when the tile does. -/
theorem piece_holds (G : S512x5120.Idx → Elt F .bf16) (T : FVec F S256x512 .bf16) (b : Fin 2) (c : Fin 10)
    (H : ∀ (r : Fin 256) (d : Fin 512), T (ix2 r d) = G (ix2 ⟨256 * b + r, by omega⟩ ⟨512 * c + d, by omega⟩))
    (x : (piece b c T).1.shape.Idx) : (piece b c T).2 x = G ((piece b c T).1.emb x) := by
  have lt0 : ((x 0 : Fin 256) : ℕ) < 256 := (show Fin 256 from x 0).isLt
  have lt1 : ((x 1 : Fin 512) : ℕ) < 512 := (show Fin 512 from x 1).isLt
  have e : x = (ix2 (x 0 : Fin 256) (x 1 : Fin 512) : S256x512.Idx) := funext fun a => by match a with | 0 => rfl | 1 => rfl
  have k : (piece b c T).1.emb x =
      (ix2 (⟨256 * b + (x 0 : Fin 256), by omega⟩ : Fin 512) (⟨512 * c + (x 1 : Fin 512), by omega⟩ : Fin 5120) : S512x5120.Idx) := by
    funext a
    apply Fin.ext
    match a with
    | 0 => show 256 * (b : ℕ) + 1 * (x 0 : Fin 256) = 256 * b + (x 0 : Fin 256); omega
    | 1 => show 512 * (c : ℕ) + 1 * (x 1 : Fin 512) = 512 * c + (x 1 : Fin 512); omega
  exact (congrArg T e).trans ((H (x 0) (x 1)).trans (congrArg G k.symm))

/-- An element of a normalised tile. -/
theorem norm_at (x : Vec Ideal S256x2048 .f32) (g : Vec Ideal S1x2048 .f32) (r : Fin 256) (k : Fin 2048) :
    (k0_pay1 x g (ix2 r k) : EReal) = Cert.Conv.normed (fun j => x (ix2 r j)) (fun j => g (ix2 0 j)) k := by
  pointwise [k0_pay1]
  rfl

/-- An element of 512 columns of the weights. -/
theorem cols_at (w : Vec Ideal S1x2048x5120 .bf16) (c : Fin 10) (k : Fin 2048) (d : Fin 512) :
    cols w c (ix3 0 k d) = w (ix3 0 k ⟨512 * c + d, by omega⟩) := by
  refine congrArg w (funext fun a => Fin.ext ?_)
  match a with
  | 0 => rfl
  | 1 => show 0 + 1 * (k : ℕ) = k; omega
  | 2 => show 512 * (c : ℕ) + 1 * (d : ℕ) = 512 * c + d; omega

/-- An element of half a table. -/
theorem half_at (x : Vec Ideal S512x128 .f32) (b : Fin 2) (r : Fin 256) (d : Fin 128) :
    half x b (ix2 r d) = x (ix2 ⟨256 * b + r, by omega⟩ d) := by
  refine congrArg x (funext fun a => Fin.ext ?_)
  match a with
  | 0 => show 256 * (b : ℕ) + 1 * (r : ℕ) = 256 * b + r; omega
  | 1 => show 0 + 1 * (d : ℕ) = d; omega

/-- An element of a tile of the gate. -/
theorem pay18_at (x : Vec Ideal S256x2048 .bf16) (u : Vec Ideal S1x2048x512 .bf16) (r : Fin 256) (d : Fin 512) :
    (k0_pay18 x u (ix2 r d) : EReal) = (∑ k : Fin 2048, (x (ix2 r k) : EReal) * u (ix3 0 k d)) *
      Ideal.div 1 (1 + Ideal.exp (-(∑ k : Fin 2048, (x (ix2 r k) : EReal) * u (ix3 0 k d)))) := by
  pointwise [k0_pay18]
  rfl

/-- An element of a tile of the values. -/
theorem pay28_at (x : Vec Ideal S256x2048 .bf16) (u : Vec Ideal S1x2048x512 .bf16) (r : Fin 256) (d : Fin 512) :
    (k0_pay28 x u (ix2 r d) : EReal) = ∑ k : Fin 2048, (x (ix2 r k) : EReal) * u (ix3 0 k d) := by
  pointwise [k0_pay28]

end Cert.Kernel4Ideal.In

end

end
-- ==== Proof.In.Host.lean ====
module

public import proofs.«01_k».proof.Proof.In.Tables
public import proofs.«01_k».proof.Proof.In.Spec
public import proofs.«01_k».proof.Proof.In.Tile

@[expose] public section

set_option maxRecDepth 16384

noncomputable section

/-!
# What the host hands to the input projection

The weight of the norm as one row, the weights with their columns moved, and the tables of cosines and sines.
-/

namespace Cert.Kernel4Ideal.In

open Cert.Kernel4Ideal Cert.Kernel4Ideal.Gen
open Idealize.ShloMosaic Idealize.ShloMosaic.TcCoe
open Idealize.SL.Sem

variable {F : FTy → Type} [FloatOps F]

/-- The position of each row of the tables. -/
def posV : IVec S8704 32 :=
  select (cmpi .slt (iotaInDim S8704 32 0) (broadcastInDim S8704 ![] bcast_S_S8704 (constantI S_ 32 8192#32)))
    (addi (iotaInDim S8704 32 0) (broadcastInDim S8704 ![] bcast_S_S8704 (constantI S_ 32 16#32)))
    (subi (andi (iotaInDim S8704 32 0) (broadcastInDim S8704 ![] bcast_S_S8704 (constantI S_ 32 127#32)))
      (broadcastInDim S8704 ![] bcast_S_S8704 (constantI S_ 32 112#32)))

/-- The angles of each row. -/
def angleV (p : IVec S8704 32) : FVec F S8704x64 .f32 :=
  mulf
    (broadcastInDim S8704x64 ![0, 1] bcast_S8704x1_S8704x64_0_1 (broadcastInDim S8704x1 ![0] bcast_S8704_S8704x1_0 (sitofp .f32 p)))
    (broadcastInDim S8704x64 ![0, 1] bcast_S1x64_S8704x64_0_1 (broadcastInDim S1x64 ![1] bcast_S64_S1x64_1
      (Host.powf (broadcastInDim S64 ![] bcast_S_S64 (constant S_ .f32 0x461C4000#32))
        (mulf (Host.negf (sitofp .f32 (iotaInDim S64 32 0))) (broadcastInDim S64 ![] bcast_S_S64 (constant S_ .f32 0x3C800000#32))))))

/-- Two tables side by side. -/
def besideV (a b : FVec F S8704x64 .f32) : FVec F S8704x128 .f32 :=
  concatenate S8704x128 1 [⟨S8704x64, a⟩, ⟨S8704x64, b⟩] concatenates_S8704x64_S8704x64_S8704x128_d1

/-- The weights with the gate's columns before the keys' and the values'. -/
def movedV (w : FVec F S2x2048x5120 .f32) : FVec F S2x2048x5120 .bf16 :=
  truncf .bf16 (concatenate S2x2048x5120 2
    [⟨S2x2048x2048, extractStridedSlice S2x2048x2048 ![0, 0, 0] w slices_S2x2048x5120_S2x2048x2048_0_0_0⟩,
     ⟨S2x2048x2048, extractStridedSlice S2x2048x2048 ![0, 0, 3072] w slices_S2x2048x5120_S2x2048x2048_0_0_3072⟩,
     ⟨S2x2048x1024, extractStridedSlice S2x2048x1024 ![0, 0, 2048] w slices_S2x2048x5120_S2x2048x1024_0_0_2048⟩]
    concatenates_S2x2048x2048_S2x2048x2048_S2x2048x1024_S2x2048x5120_d2) bitsLt_bf16_f32

variable (m : (ℓ : Loc nD τ sig) → Buf (Elt F) ℓ) (c : Dev nD)

set_option maxHeartbeats 4000000 in
/-- The region finds the weight of the norm as one row. -/
theorem V_norm : V m c main_v0 = broadcastInDim S1x2048 ![1] bcast_S2048_S1x2048_1 (m ((c.tc : Thread nD τ).loc main_arg1)) := by
  show StableHlo.after (hostOps0 ++ (hostOps0_1 ++ hostOps0_2)) (fun b => m (c, b)) (Proc.devRef .tc main_v0) = _
  after_reads_simp
  try rfl

set_option maxHeartbeats 4000000 in
/-- The region finds the weights with their columns moved, rounded. -/
theorem V_weights : V m c main_v5 = movedV (m ((c.tc : Thread nD τ).loc main_arg2)) := by
  show StableHlo.after (hostOps0 ++ (hostOps0_1 ++ hostOps0_2)) (fun b => m (c, b)) (Proc.devRef .tc main_v5) = _
  after_reads_simp
  try rfl

set_option maxHeartbeats 4000000 in
/-- The region finds the cosines. -/
theorem V_cos : V m c main_v30 = besideV (Host.cos (angleV posV)) (Host.cos (angleV posV)) := by
  show StableHlo.after (hostOps0 ++ (hostOps0_1 ++ hostOps0_2)) (fun b => m (c, b)) (Proc.devRef .tc main_v30) = _
  after_reads_simp
  try rfl

set_option maxHeartbeats 4000000 in
/-- The region finds the sines, the first half's with the sign turned. -/
theorem V_sin : V m c main_v34 = besideV (Host.negf (Host.sin (angleV posV))) (Host.sin (angleV posV)) := by
  show StableHlo.after (hostOps0 ++ (hostOps0_1 ++ hostOps0_2)) (fun b => m (c, b)) (Proc.devRef .tc main_v34) = _
  after_reads_simp
  try rfl

/-- A choice by a bit. -/
theorem choose_bit {α : Type} (b : BitVec 1) (x y : α) : Scalar.select b x y = if b = 1#1 then x else y := rfl

/-- The last seven bits of a word. -/
theorem andi_127 (r : ℕ) (h : r < 8704) : IntOp.andi (BitVec.ofNat 32 r) (127#32) = Words.W ((r : ℤ) % 128) := by
  have e : IntOp.andi (BitVec.ofNat 32 r) (127#32) = BitVec.ofNat 32 (r % 128) := by
    show BitVec.ofNat 32 r &&& 127#32 = BitVec.ofNat 32 (r % 128)
    apply BitVec.eq_of_toNat_eq
    rw [BitVec.toNat_and, BitVec.toNat_ofNat, BitVec.toNat_ofNat, BitVec.toNat_ofNat, Nat.mod_eq_of_lt (show r < 2 ^ 32 by omega),
      Nat.mod_eq_of_lt (show r % 128 < 2 ^ 32 by omega), show (127 % 2 ^ 32 : ℕ) = 2 ^ 7 - 1 from rfl, Nat.and_two_pow_sub_one_eq_mod]
  rw [e, Words.ofNat_eq]
  rfl

/-- The position of a row of the tables. -/
theorem posV_at (r : Fin 8704) : posV (ix1 r) = Words.W (Cert.In.tablePos r) := by
  have hr := r.isLt
  pointwise [posV]
  rw [andi_127 _ hr, Words.ofNat_eq, show (8192#32) = Words.W 8192 from rfl, show (16#32) = Words.W 16 from rfl, show (112#32) = Words.W 112 from rfl,
    Words.addi_W, Words.subi_W, choose_bit]
  unfold Cert.In.tablePos
  rw [apply_ite Words.W]
  refine if_congr ((Words.slt_W ⟨by omega, by omega⟩ (by decide)).trans ?_) rfl rfl
  omega

/-- An angle of a row. -/
theorem angleV_at (p : IVec S8704 32) (r : Fin 8704) (P : ℤ) (h : p (ix1 r) = Words.W P) (j : Fin 64) :
    (angleV (F := Ideal) p (ix2 r j) : EReal) = Cert.In.angle P j := by
  pointwise [angleV]
  rw [h]
  unfold Cert.In.angle
  rw [Nat.mod_eq_of_lt j.isLt]

theorem angle_mod (P : ℤ) (j : ℕ) : Cert.In.angle P (j % 64) = Cert.In.angle P j := by
  unfold Cert.In.angle; rw [Nat.mod_mod]

/-- An element of two tables side by side. -/
theorem besideV_at (a b : FVec Ideal S8704x64 .f32) (r : Fin 8704) (j : Fin 128) :
    (besideV a b (ix2 r j) : EReal) = if h : (j : ℕ) < 64 then a (ix2 r ⟨j, h⟩) else b (ix2 r ⟨j - 64, by omega⟩) := by
  pointwise [besideV]

/-- An angle of the tables, by the place of its column. -/
theorem angle_at (r : Fin 8704) (k : Fin 64) (j : ℕ) (h : (k : ℕ) = j % 64) :
    (angleV (F := Ideal) posV (ix2 r k) : EReal) = Cert.In.angle (Cert.In.tablePos r) j := by
  rw [angleV_at posV r _ (posV_at r) k, h, angle_mod]

theorem cos_read (x : FVec Ideal S8704x64 .f32) (i : S8704x64.Idx) : (Host.cos x i : EReal) = Ideal.cos (x i) := rfl
theorem sin_read (x : FVec Ideal S8704x64 .f32) (i : S8704x64.Idx) : (Host.sin x i : EReal) = Ideal.sin (x i) := rfl
theorem neg_read (x : FVec Ideal S8704x64 .f32) (i : S8704x64.Idx) : (Host.negf x i : EReal) = -(x i : EReal) := rfl

/-- A cosine of the table. -/
theorem cosT_at (r : Fin 8704) (j : Fin 128) :
    (besideV (F := Ideal) (Host.cos (angleV posV)) (Host.cos (angleV posV)) (ix2 r j) : EReal) = Ideal.cos (Cert.In.angle (Cert.In.tablePos r) j) := by
  have hj := j.isLt
  rw [besideV_at]
  split
  · rw [cos_read, angle_at r _ (j : ℕ) (by show (j : ℕ) = j % 64; omega)]
  · rw [cos_read, angle_at r _ (j : ℕ) (by show (j : ℕ) - 64 = j % 64; omega)]

/-- A sine of the table. -/
theorem sinT_at (r : Fin 8704) (j : Fin 128) :
    (besideV (F := Ideal) (Host.negf (Host.sin (angleV posV))) (Host.sin (angleV posV)) (ix2 r j) : EReal) =
      if (j : ℕ) < 64 then -Ideal.sin (Cert.In.angle (Cert.In.tablePos r) j) else Ideal.sin (Cert.In.angle (Cert.In.tablePos r) j) := by
  have hj := j.isLt
  rw [besideV_at]
  split
  · rw [neg_read, sin_read, angle_at r _ (j : ℕ) (by show (j : ℕ) = j % 64; omega)]
  · rw [sin_read, angle_at r _ (j : ℕ) (by show (j : ℕ) - 64 = j % 64; omega)]

/-- Where a column of the moved weights comes from. -/
def col (C : Fin 5120) : Fin 5120 :=
  if h : (C : ℕ) < 2048 then C else if h' : (C : ℕ) < 4096 then ⟨C + 1024, by omega⟩ else ⟨C - 2048, by omega⟩

/-- An element of the moved weights. -/
theorem movedV_at (w : FVec Ideal S2x2048x5120 .f32) (l : Fin 2) (k : Fin 2048) (C : Fin 5120) :
    (movedV w (ix3 l k C) : EReal) = w (ix3 l k (col C)) := by
  have hC := C.isLt
  pointwise [movedV]
  unfold col
  split
  · rfl
  · split
    · rename_i h h'
      rw [dif_pos (by omega)]
      exact congrArg (fun n => w (ix3 l k n)) (Fin.ext (show 3072 + ((C : ℕ) - 2048) = C + 1024 by omega))
    · rename_i h h'
      rw [dif_neg (by omega)]
      exact congrArg (fun n => w (ix3 l k n)) (Fin.ext (show 2048 + ((C : ℕ) - 2048 - 2048) = C - 2048 by omega))

end Cert.Kernel4Ideal.In

end

end
-- ==== Proof.In.At.lean ====
module

public import proofs.«01_k».proof.Proof.In.Spec
public import proofs.«01_k».proof.Proof.In.Host

@[expose] public section

set_option maxRecDepth 16384

noncomputable section

/-!
# The elements of the tiles

A tile's elements are those of the projected rows, when what it is made of are the normalised rows, the moved weights and
the tables' cosines and sines of the rows' positions.
-/

namespace Cert.Kernel4Ideal.In

open Cert.Kernel4Ideal Cert.Kernel4Ideal.Gen
open Idealize.ShloMosaic Idealize.ShloMosaic.TcCoe

/-- A sum over a product of a row and a column of a tile of weights. -/
abbrev dotS (x : Vec Ideal S256x2048 .bf16) (u : Vec Ideal S1x2048x512 .bf16) (r : Fin 256) (d : Fin 512) : EReal :=
  ∑ k : Fin 2048, (x (ix2 r k) : EReal) * u (ix3 0 k d)

/-- An element of a rotated tile. -/
theorem pay12_at (cs sn : Vec Ideal S256x128 .f32) (x : Vec Ideal S256x2048 .bf16) (u : Vec Ideal S1x2048x512 .bf16) (r : Fin 256)
    (d e : Fin 512) (j : Fin 128) (hj : (j : ℕ) = d % 128) (he : (e : ℕ) = 128 * (d / 128) + (d % 128 + 64) % 128) :
    (k0_pay12 cs sn x u (ix2 r d) : EReal) = dotS x u r d * cs (ix2 r j) + dotS x u r e * sn (ix2 r j) := by
  have hd := d.isLt
  have key : ∀ (d1 d2 : Fin 512) (j1 j2 : Fin 128), d1 = d → d2 = e → j1 = j → j2 = j →
      dotS x u r d1 * cs (ix2 r j1) + dotS x u r d2 * sn (ix2 r j2) = dotS x u r d * cs (ix2 r j) + dotS x u r e * sn (ix2 r j) := by
    rintro _ _ _ _ rfl rfl rfl rfl; rfl
  pointwise [k0_pay12]
  split
  · exact key _ _ _ _ (Fin.ext (by dsimp only; try omega)) (Fin.ext (by dsimp only; omega)) (Fin.ext (by dsimp only; omega)) (Fin.ext (by dsimp only; omega))
  · split
    · exact key _ _ _ _ (Fin.ext (by dsimp only; omega)) (Fin.ext (by dsimp only; omega)) (Fin.ext (by dsimp only; omega)) (Fin.ext (by dsimp only; omega))
    · split
      · exact key _ _ _ _ (Fin.ext (by dsimp only; omega)) (Fin.ext (by dsimp only; omega)) (Fin.ext (by dsimp only; omega)) (Fin.ext (by dsimp only; omega))
      · exact key _ _ _ _ (Fin.ext (by dsimp only; omega)) (Fin.ext (by dsimp only; omega)) (Fin.ext (by dsimp only; omega)) (Fin.ext (by dsimp only; omega))

theorem pay6_at (x : Vec Ideal S256x128 .f32) (r : Fin 256) (j : Fin 128) : (k0_pay6 x (ix2 r j) : EReal) = x (ix2 r j) * Ideal.ofBits .f32 0x3E0293EE#32 := by
  pointwise [k0_pay6, k0_pay4]
theorem pay7_at (x : Vec Ideal S256x128 .f32) (r : Fin 256) (j : Fin 128) : (k0_pay7 x (ix2 r j) : EReal) = x (ix2 r j) * Ideal.ofBits .f32 0x3E0293EE#32 := by
  pointwise [k0_pay7, k0_pay5]
theorem pay4_at (x : Vec Ideal S256x128 .f32) (r : Fin 256) (j : Fin 128) : (k0_pay4 x (ix2 r j) : EReal) = x (ix2 r j) := by
  pointwise [k0_pay4]
theorem pay5_at (x : Vec Ideal S256x128 .f32) (r : Fin 256) (j : Fin 128) : (k0_pay5 x (ix2 r j) : EReal) = x (ix2 r j) := by
  pointwise [k0_pay5]

/-- The scale is a real number that is not negative. -/
theorem scale_real : ∃ s : ℝ, 0 ≤ s ∧ Idealize.ShloMosaic.Ideal.ofBits .f32 0x3E0293EE#32 = (s : EReal) := by
  refine ⟨_, ?_, by simp [Ideal.ofBits, Ideal.ieee]; rfl⟩
  positivity

/-- Scaling the cosine and the sine scales the rotated element. -/
theorem scale_out (x y a b : EReal) : x * (a * Idealize.ShloMosaic.Ideal.ofBits .f32 0x3E0293EE#32) + y * (b * Idealize.ShloMosaic.Ideal.ofBits .f32 0x3E0293EE#32) =
    (x * a + y * b) * Idealize.ShloMosaic.Ideal.ofBits .f32 0x3E0293EE#32 := by
  obtain ⟨s, h0, hs⟩ := scale_real
  rw [hs, ← mul_assoc, ← mul_assoc]
  exact (EReal.right_distrib_of_nonneg_of_ne_top (EReal.coe_nonneg.2 h0) (EReal.coe_ne_top _) _ _).symm

/-- What a point's blocks hold of the table at a row's position `P`, and of the row's normalised elements. -/
structure Row (x : Vec Ideal S256x2048 .bf16) (w : Vec Ideal S1x2048x5120 .bf16) (cs sn : Vec Ideal S512x128 .f32) (b : Fin 2) (r : Fin 256)
    (X g : Fin 2048 → EReal) (W : Fin 2048 → Fin 5120 → EReal) (P : ℤ) : Prop where
  hx : ∀ k : Fin 2048, (x (ix2 r k) : EReal) = Cert.Conv.normed X g k
  hw : ∀ (k : Fin 2048) (C : Fin 5120), (w (ix3 0 k C) : EReal) = W k (col C)
  hc : ∀ j : Fin 128, (half cs b (ix2 r j) : EReal) = Ideal.cos (Cert.In.angle P j)
  hs : ∀ j : Fin 128, (half sn b (ix2 r j) : EReal) = if (j : ℕ) < 64 then -Ideal.sin (Cert.In.angle P j) else Ideal.sin (Cert.In.angle P j)

variable {x : Vec Ideal S256x2048 .bf16} {w : Vec Ideal S1x2048x5120 .bf16} {cs sn : Vec Ideal S512x128 .f32} {b : Fin 2} {r : Fin 256}
    {X g : Fin 2048 → EReal} {W : Fin 2048 → Fin 5120 → EReal} {P : ℤ}

/-- The products of a row and a tile of the moved weights are an element of the projections. -/
theorem Row.dot (h : Row x w cs sn b r X g W P) (c : Fin 10) (d : Fin 512) (C : Fin 5120) (e : col ⟨512 * c + d, by omega⟩ = C) :
    dotS x (cols w c) r d = Cert.In.part X g W C := by
  refine Finset.sum_congr rfl fun k _ => ?_
  rw [h.hx, cols_at, h.hw, e]

/-- An element's rotation, as the tile adds it up. -/
theorem Row.turn (h : Row x w cs sn b r X g W P) (p : Fin 5120 → EReal) (C C' : Fin 5120) (j : Fin 128) (hj : (j : ℕ) = C % 128)
    (hC : (C' : ℕ) = 128 * (C / 128) + (C % 128 + 64) % 128) :
    p C * half cs b (ix2 r j) + p C' * half sn b (ix2 r j) = Cert.In.rotated p P C := by
  rw [h.hc, h.hs]
  unfold Cert.In.rotated Cert.In.partner
  rw [hj]
  refine congrArg (fun y : EReal => p C * Ideal.cos (Cert.In.angle P ((C : ℕ) % 128)) + y) ?_
  by_cases hl : (C : ℕ) % 128 < 64
  · rw [if_pos hl, dif_pos hl, mul_neg, neg_mul]
    exact congrArg (fun n => -(p n * _)) (Fin.ext (show (C' : ℕ) = C + 64 by omega))
  · rw [if_neg hl, dif_neg hl]
    exact congrArg (fun n => p n * _) (Fin.ext (show (C' : ℕ) = C - 64 by omega))

variable {H : Fin 26112 → Fin 2048 → EReal} {R : Fin 26112}

/-- An element of a tile of queries. -/
theorem Row.q (h : Row x w cs sn b r (H R) g W (Cert.In.pos R)) (c : Fin 10) (hc : (c : ℕ) < 4) (d : Fin 512) :
    (qTile cs sn b x w c (ix2 r d) : EReal) = Cert.In.projected H g W R ⟨512 * c + d, by omega⟩ := by
  have hd := d.isLt
  have hl : 512 * (c : ℕ) + d < 2048 := by omega
  unfold qTile Cert.In.projected
  rw [dif_pos hl, pay12_at _ _ x _ r d ⟨128 * (d / 128) + (d % 128 + 64) % 128, by omega⟩ ⟨d % 128, by omega⟩ rfl rfl, pay6_at, pay7_at, scale_out,
    h.dot c d ⟨512 * c + d, by omega⟩ (by unfold col; rw [dif_pos hl]),
    h.dot c _ ⟨512 * c + (128 * (d / 128) + (d % 128 + 64) % 128), by omega⟩ (by unfold col; rw [dif_pos (by dsimp only; omega)])]
  refine congrArg (· * _) (h.turn (Cert.In.part (H R) g W) _ _ _ ?_ ?_)
  · show (d : ℕ) % 128 = (512 * c + d) % 128; omega
  · show 512 * (c : ℕ) + (128 * (d / 128) + (d % 128 + 64) % 128) = 128 * ((512 * c + d) / 128) + ((512 * c + d) % 128 + 64) % 128; omega

/-- An element of the tile of keys. -/
theorem Row.k (h : Row x w cs sn b r (H R) g W (Cert.In.pos R)) (c : Fin 10) (hc : (c : ℕ) = 8) (d : Fin 512) :
    (kTile cs sn b x w c (ix2 r d) : EReal) = Cert.In.projected H g W R ⟨512 * c + d, by omega⟩ := by
  have hd := d.isLt
  have n1 : ¬ 512 * (c : ℕ) + d < 2048 := by omega
  have n2 : ¬ 512 * (c : ℕ) + d < 4096 := by omega
  have n3 : 512 * (c : ℕ) + d < 4608 := by omega
  have m1 : ¬ 512 * (c : ℕ) + (128 * ((d : ℕ) / 128) + (d % 128 + 64) % 128) < 2048 := by omega
  have m2 : ¬ 512 * (c : ℕ) + (128 * ((d : ℕ) / 128) + (d % 128 + 64) % 128) < 4096 := by omega
  unfold kTile Cert.In.projected
  rw [dif_neg n1, dif_neg n2, if_pos n3,
    pay12_at _ _ x _ r d ⟨128 * (d / 128) + (d % 128 + 64) % 128, by omega⟩ ⟨d % 128, by omega⟩ rfl rfl, pay4_at, pay5_at,
    h.dot c d ⟨512 * c + d - 2048, by omega⟩ (by unfold col; rw [dif_neg n1, dif_neg n2]),
    h.dot c _ ⟨512 * c + (128 * (d / 128) + (d % 128 + 64) % 128) - 2048, by omega⟩ (by unfold col; rw [dif_neg m1, dif_neg m2])]
  refine h.turn (Cert.In.part (H R) g W) _ _ _ ?_ ?_
  · show (d : ℕ) % 128 = (512 * c + d - 2048) % 128; omega
  · show 512 * (c : ℕ) + (128 * ((d : ℕ) / 128) + (d % 128 + 64) % 128) - 2048 = 128 * ((512 * c + d - 2048) / 128) + ((512 * c + d - 2048) % 128 + 64) % 128; omega

/-- An element of a tile of the gate. -/
theorem Row.z (h : Row x w cs sn b r (H R) g W P) (c : Fin 10) (h4 : 4 ≤ (c : ℕ)) (h8 : (c : ℕ) < 8) (d : Fin 512) :
    (zTile x w c (ix2 r d) : EReal) = Cert.In.projected H g W R ⟨512 * c + d, by omega⟩ := by
  have hd := d.isLt
  have n1 : ¬ 512 * (c : ℕ) + d < 2048 := by omega
  have n2 : 512 * (c : ℕ) + d < 4096 := by omega
  have e : (∑ k : Fin 2048, (x (ix2 r k) : EReal) * cols w c (ix3 0 k d)) = Cert.In.part (H R) g W ⟨512 * c + d + 1024, by omega⟩ :=
    h.dot c d _ (by unfold col; rw [dif_neg n1, dif_pos n2])
  unfold zTile Cert.In.projected
  rw [dif_neg n1, dif_pos n2, pay18_at, e]

/-- An element of the tile of values. -/
theorem Row.v (h : Row x w cs sn b r (H R) g W P) (c : Fin 10) (hc : (c : ℕ) = 9) (d : Fin 512) :
    (vTile x w c (ix2 r d) : EReal) = Cert.In.projected H g W R ⟨512 * c + d, by omega⟩ := by
  have hd := d.isLt
  have n1 : ¬ 512 * (c : ℕ) + d < 2048 := by omega
  have n2 : ¬ 512 * (c : ℕ) + d < 4096 := by omega
  have n3 : ¬ 512 * (c : ℕ) + d < 4608 := by omega
  unfold vTile Cert.In.projected
  rw [dif_neg n1, dif_neg n2, if_neg n3, pay28_at]
  exact h.dot c d ⟨512 * c + d - 2048, by omega⟩ (by unfold col; rw [dif_neg n1, dif_neg n2])

end Cert.Kernel4Ideal.In

end

end
-- ==== Proof.In.Pieces.lean ====
module

public import proofs.«01_k».proof.Proof.In.Tile

@[expose] public section

set_option maxRecDepth 16384

noncomputable section

/-!
# A grid point's stores are the tiles of its two blocks of rows
-/

namespace Cert.Kernel4Ideal.In

open Cert.Kernel4Ideal Cert.Kernel4Ideal.Gen
open Idealize.ShloMosaic Idealize.ShloMosaic.TcCoe

variable {F : FTy → Type} [FloatOps F]

theorem zeros2 : (![0, 0] : Fin 2 → ℕ) = fun _ => 0 := by decide

/-- The second block's normalised rows, as they are read back from where they were stored. -/
theorem fresh_eq (c : Dev nD) (arg2 : Memref sig .tc .vmem S256x2048 .f32) (harg2 : arg2.IsWhole) (arg4 : Memref sig .tc .vmem S1x2048 .f32) (harg4 : arg4.IsWhole) (arg10 : Memref sig .tc .vmem S256x2048 .bf16) (x0 : Vec F S256x2048 .f32) (x2 : Vec F S1x2048 .f32) :
    kernelRun0_B.sl.v233 c arg2 harg2 arg4 harg4 arg10 x0 x2 =
      k0_pay1 (arg2.view.read (Elt F) (harg2.unread x0)) (arg4.view.read (Elt F) (harg4.unread x2)) := by
  unfold kernelRun0_B.sl.v233
  refine (View.readCov_unit_zero arg10.view zeros2 _ _).trans ?_
  exact congrArg₂ k0_pay1 (View.ld_unit_zero zeros2 _ _) (View.ld_unit_zero zeros2 _ _)

/-- The first block's normalised rows, as they are read. -/
theorem carried_eq (arg9 : Memref sig .tc .vmem S256x2048 .bf16) (harg9 : arg9.IsWhole) (xs0 : Vec F S256x2048 .bf16) :
    View.readAt (Elt F) arg9.view (Rect.unit (s := S256x2048) ![0, 0] S256x2048.size inb_S256x2048_S256x2048_0_0).toLoadRect (harg9.unread xs0) = arg9.view.read (Elt F) (harg9.unread xs0) :=
  View.ld_unit_zero zeros2 _ _

set_option maxHeartbeats 8000000 in
/-- The stores in the result. -/
theorem out_pieces (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i) (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) :
    (kernelRun0_B c i arg2 harg2 arg3 harg3 arg4 harg4 arg5 harg5 arg6 harg6 arg7 harg7 arg8 harg8 arg9 harg9 arg10 harg10 hc0 hc1 x0 x1 x2 x3 x4 x5 xt0 xs0).1 =
      pieces (arg6.view.read (Elt F) (harg6.unread x4)) (arg7.view.read (Elt F) (harg7.unread x5)) 1 (kernelRun0_B.sl.v233 c arg2 harg2 arg4 harg4 arg10 x0 x2) (arg5.view.read (Elt F) (harg5.unread x3)) ++
      pieces (arg6.view.read (Elt F) (harg6.unread x4)) (arg7.view.read (Elt F) (harg7.unread x5)) 0 (View.readAt (Elt F) arg9.view (Rect.unit (s := S256x2048) ![0, 0] S256x2048.size inb_S256x2048_S256x2048_0_0).toLoadRect (harg9.unread xs0)) (arg5.view.read (Elt F) (harg5.unread x3)) := by
  unfold kernelRun0_B
  dsimp only [pieces, List.cons_append, List.nil_append]
  iterate 20 (refine congrArg₂ List.cons (by rfl) ?_)
  rfl

/-- What a later grid point leaves in the rows it carries over: the next block's, normalised. -/
theorem carryB_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i) (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) (xs0 : Vec F S256x2048 .bf16) :
    sout0_B_0 c i arg2 harg2 arg3 harg3 arg4 harg4 arg5 harg5 arg6 harg6 arg7 harg7 arg8 harg8 arg9 harg9 arg10 harg10 hc0 hc1 x0 x1 x2 x3 x4 x5 xt0 xs0 = k0_pay1 x1 x2 := by
  unfold sout0_B_0
  rw [View.read_writes_junk_eq_canon]
  unfold kernelRun0_B
  dsimp only
  refine (View.canon_unit_zero zeros2 _ _).trans ?_
  refine congrArg₂ k0_pay1 ((View.ld_unit_zero zeros2 _ _).trans ?_) ((View.ld_unit_zero zeros2 _ _).trans ?_)
  · exact Memref.IsWhole.read_unread _ _
  · exact Memref.IsWhole.read_unread _ _

/-- What the first grid point leaves in the rows it carries over: the next block's, normalised. -/
theorem carryA_eq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : cond0_0 i) (hc1 : ¬cond0_1 i) (x0 : Vec F S256x2048 .f32) (x1 : Vec F S256x2048 .f32) (x2 : Vec F S1x2048 .f32) (x3 : Vec F S1x2048x5120 .bf16) (x4 : Vec F S512x128 .f32) (x5 : Vec F S512x128 .f32) (xt0 : TbBuf0 (F := F) c tbM0_0) :
    sout0_A_0 c i arg2 harg2 arg3 harg3 arg4 harg4 arg5 harg5 arg6 harg6 arg7 harg7 arg8 harg8 arg9 harg9 arg10 harg10 hc0 hc1 x0 x1 x2 x3 x4 x5 xt0 = k0_pay1 x1 x2 := by
  unfold sout0_A_0
  rw [View.read_writes_junk_eq_canon]
  unfold kernelRun0_A
  dsimp only
  refine (View.canon_unit_zero zeros2 _ _).trans ?_
  refine congrArg₂ k0_pay1 ((View.ld_unit_zero zeros2 _ _).trans ?_) ((View.ld_unit_zero zeros2 _ _).trans ?_)
  · exact Memref.IsWhole.read_unread _ _
  · exact Memref.IsWhole.read_unread _ _

end Cert.Kernel4Ideal.In

end

end
-- ==== Proof.In.Holds.lean ====
module

public import proofs.«01_k».proof.Proof.In.Pieces

@[expose] public section

set_option maxRecDepth 16384

noncomputable section

/-!
# What a later grid point leaves in its block

Every array that holds the elements of the tiles is what the point leaves.
-/

namespace Cert.Kernel4Ideal.In

open Cert.Kernel4Ideal Cert.Kernel4Ideal.Gen
open Idealize.ShloMosaic Idealize.ShloMosaic.TcCoe

/-- A later grid point leaves in its block of the result an array that holds its tiles. -/
theorem out_holds (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048x5120 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x5120 .bf16) (harg8 : arg8.IsWhole) (arg9 : Memref sig .tc .vmem S256x2048 .bf16) (harg9 : arg9.IsWhole) (arg10 : Memref sig .tc .vmem S256x2048 .bf16) (harg10 : arg10.IsWhole) (hc0 : ¬cond0_0 i) (hc1 : cond0_1 i) (x0 : Vec Ideal S256x2048 .f32) (x1 : Vec Ideal S256x2048 .f32) (x2 : Vec Ideal S1x2048 .f32) (x3 : Vec Ideal S1x2048x5120 .bf16) (x4 : Vec Ideal S512x128 .f32) (x5 : Vec Ideal S512x128 .f32) (xt0 : TbBuf0 (F := Ideal) c tbM0_0) (xs0 : Vec Ideal S256x2048 .bf16)
    (G : S512x5120.Idx → Elt Ideal .bf16)
    (Hq0 : ∀ (n : Fin 10), (n : ℕ) < 4 → ∀ (r : Fin 256) (d : Fin 512), qTile x4 x5 0 xs0 x3 n (ix2 r d) = G (ix2 ⟨256 * (0 : Fin 2) + r, by omega⟩ ⟨512 * n + d, by omega⟩))
    (Hz0 : ∀ (n : Fin 10), 4 ≤ (n : ℕ) → (n : ℕ) < 8 → ∀ (r : Fin 256) (d : Fin 512), zTile xs0 x3 n (ix2 r d) = G (ix2 ⟨256 * (0 : Fin 2) + r, by omega⟩ ⟨512 * n + d, by omega⟩))
    (Hk0 : ∀ (r : Fin 256) (d : Fin 512), kTile x4 x5 0 xs0 x3 8 (ix2 r d) = G (ix2 ⟨256 * (0 : Fin 2) + r, by omega⟩ ⟨512 * (8 : Fin 10) + d, by omega⟩))
    (Hv0 : ∀ (r : Fin 256) (d : Fin 512), vTile xs0 x3 9 (ix2 r d) = G (ix2 ⟨256 * (0 : Fin 2) + r, by omega⟩ ⟨512 * (9 : Fin 10) + d, by omega⟩))
    (Hq1 : ∀ (n : Fin 10), (n : ℕ) < 4 → ∀ (r : Fin 256) (d : Fin 512), qTile x4 x5 1 (k0_pay1 x0 x2) x3 n (ix2 r d) = G (ix2 ⟨256 * (1 : Fin 2) + r, by omega⟩ ⟨512 * n + d, by omega⟩))
    (Hz1 : ∀ (n : Fin 10), 4 ≤ (n : ℕ) → (n : ℕ) < 8 → ∀ (r : Fin 256) (d : Fin 512), zTile (k0_pay1 x0 x2) x3 n (ix2 r d) = G (ix2 ⟨256 * (1 : Fin 2) + r, by omega⟩ ⟨512 * n + d, by omega⟩))
    (Hk1 : ∀ (r : Fin 256) (d : Fin 512), kTile x4 x5 1 (k0_pay1 x0 x2) x3 8 (ix2 r d) = G (ix2 ⟨256 * (1 : Fin 2) + r, by omega⟩ ⟨512 * (8 : Fin 10) + d, by omega⟩))
    (Hv1 : ∀ (r : Fin 256) (d : Fin 512), vTile (k0_pay1 x0 x2) x3 9 (ix2 r d) = G (ix2 ⟨256 * (1 : Fin 2) + r, by omega⟩ ⟨512 * (9 : Fin 10) + d, by omega⟩))
    (y : S512x5120.Idx) : out0_B_6 c i arg2 harg2 arg3 harg3 arg4 harg4 arg5 harg5 arg6 harg6 arg7 harg7 arg8 harg8 arg9 harg9 arg10 harg10 hc0 hc1 x0 x1 x2 x3 x4 x5 xt0 xs0 y = G y := by
  unfold out0_B_6
  rw [View.read_writes_junk_eq_canon]
  refine View.canon_apply_of_pieces G _ ?_ y (cover0_B_6 c i arg2 harg2 arg3 harg3 arg4 harg4 arg5 harg5 arg6 harg6 arg7 harg7 arg8 harg8 arg9 harg9 arg10 harg10 hc0 hc1 x0 x1 x2 x3 x4 x5 xt0 xs0 y)
  rw [out_pieces, fresh_eq, carried_eq]
  simp only [Memref.IsWhole.read_unread]
  intro p hp
  rcases List.mem_append.1 hp with hp | hp
  · exact of_mem_pieces (Q := fun p => ∀ x : p.1.shape.Idx, p.2 x = G (p.1.emb x)) _ _ 1 _ _
      (fun n h => piece_holds G _ 1 n (Hq1 n h)) (fun n h h' => piece_holds G _ 1 n (Hz1 n h h')) (piece_holds G _ 1 8 Hk1) (piece_holds G _ 1 9 Hv1) p hp
  · exact of_mem_pieces (Q := fun p => ∀ x : p.1.shape.Idx, p.2 x = G (p.1.emb x)) _ _ 0 _ _
      (fun n h => piece_holds G _ 0 n (Hq0 n h)) (fun n h h' => piece_holds G _ 0 n (Hz0 n h h')) (piece_holds G _ 0 8 Hk0) (piece_holds G _ 0 9 Hv0) p hp

end Cert.Kernel4Ideal.In

end

end
-- ==== Proof.In.Carried.lean ====
module

public import proofs.«01_k».proof.Proof.In.Holds

@[expose] public section

set_option maxRecDepth 16384

noncomputable section

/-!
# The rows carried from one grid point to the next
-/

namespace Cert.Kernel4Ideal.In

open Cert.Kernel4Ideal Cert.Kernel4Ideal.Gen
open Idealize.ShloMosaic Idealize.ShloMosaic.TcCoe
open Idealize.SL.Sem

variable (m : (ℓ : Loc nD τ sig) → Buf (Elt Ideal) ℓ) (hO : Ok m) (c : Dev nD)

/-- A later point carries over what its case leaves. -/
theorem carriedB (t : Fin (cfgM m hO).N) (h0 : ¬ t.val % 52 = 0) (h1 : 1 ≤ t.val) : (outsAt0 m hO c t.val t.isLt).2 =
    sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)
      (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0)
      (outsAt0 m hO c (t.val - 1) (Nat.lt_of_le_of_lt (Nat.sub_le _ _) t.isLt)).2 := by
  rw [outsAt0_B m hO c t h0 h1]

/-- So does the first. -/
theorem carriedA (t : Fin (cfgM m hO).N) (h0 : t.val % 52 = 0) (h1 : ¬ 1 ≤ t.val) : (outsAt0 m hO c t.val t.isLt).2 =
    sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)
      ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0) := by
  rw [outsAt0_A m hO c t h0 h1]

/-- Whatever the point, it carries over the next block's rows, normalised. -/
theorem carried (t : Fin (cfgM m hO).N) : (outsAt0 m hO c t.val t.isLt).2 = k0_pay1 (iblk m hO c 1 t) (iblk m hO c 2 t) := by
  have ht : (t : ℕ) < 52 := t.isLt
  by_cases h1 : 1 ≤ (t : ℕ)
  · have h0 : ¬ t.val % 52 = 0 := by omega
    exact (carriedB m hO c t h0 h1).trans (carryB_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)
      (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2)
  · have h0 : t.val % 52 = 0 := by omega
    exact (carriedA m hO c t h0 h1).trans (carryA_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)
      ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0))

end Cert.Kernel4Ideal.In

end

end
-- ==== Proof.In.Value.lean ====
module

public import proofs.«01_k».proof.Proof.In.At
public import proofs.«01_k».proof.Proof.In.Carried

@[expose] public section

set_option maxRecDepth 16384

noncomputable section

/-!
# The result array of the input projection
-/

namespace Cert.Kernel4Ideal.In

open Cert.Kernel4Ideal Cert.Kernel4Ideal.Gen
open Idealize.ShloMosaic Idealize.ShloMosaic.TcCoe
open Idealize.SL.Sem
open Idealize.ShloMosaic.Pipeline (Dat)

variable (m : (ℓ : Loc nD τ sig) → Buf (Elt Ideal) ℓ) (hO : Ok m) (c : Dev nD)

/-- The rows. -/
def hM (R : Fin 26112) (k : Fin 2048) : EReal := (m ((c.tc : Thread nD τ).loc main_arg0) : FVec Ideal S26112x2048 .f32) (ix2 R k)

/-- The weight of the norm. -/
def gM (k : Fin 2048) : EReal := (m ((c.tc : Thread nD τ).loc main_arg1) : FVec Ideal S2048 .f32) (ix1 k)

/-- The first layer's weights. -/
def wM (k : Fin 2048) (C : Fin 5120) : EReal := (m ((c.tc : Thread nD τ).loc main_arg2) : FVec Ideal S2x2048x5120 .f32) (ix3 0 k C)

/-- Where the windows that read no table are. -/
theorem index_at (t : Fin grid0.N) :
    (∀ a, cc0_transform_0 (grid0.coords t) a = ![min (2 * (t : ℕ) - 1) 101, 0] a) ∧ (∀ a, cc0_transform_1 (grid0.coords t) a = ![min (2 * (t : ℕ)) 101, 0] a) ∧
    (∀ a, cc0_transform_2 (grid0.coords t) a = ![0, 0] a) ∧ (∀ a, cc0_transform_3 (grid0.coords t) a = ![0, 0, 0] a) ∧
    (∀ a, cc0_transform_6 (grid0.coords t) a = ![(t : ℕ) - 1, 0] a) := by
  revert t; decide +kernel

/-- The block of the tables that a grid point reads. -/
def tableBlock (t : ℕ) : ℕ := if t ≤ 16 then t - 1 else if t ≤ 48 then (t - 17) % 4 else 16

/-- Where the windows of the tables are. -/
theorem index_tables (t : Fin grid0.N) :
    (∀ a, cc0_transform_4 (F := Ideal) k0_off1_inb numel1_S1 words (grid0.coords t) a = ![tableBlock t, 0] a) ∧
    (∀ a, cc0_transform_5 (F := Ideal) k0_off1_inb numel1_S1 words (grid0.coords t) a = ![tableBlock t, 0] a) := by
  revert t; decide +kernel

/-- The points whose results are written back: all but the first. -/
theorem flush_iff (t : Fin grid0.N) : Pipeline.Window.flushOf grid0 true cc0_transform_6 t = true ↔ 1 ≤ (t : ℕ) := by
  revert t; decide +kernel

theorem flush_at (t : Fin (cfgM m hO).N) : ((cfgM m hO).win 6).flush t = true ↔ 1 ≤ (t : ℕ) := flush_iff t

/-- An element of a window's block lies in the array at the block's place plus its own. -/
theorem emb_eq {G : Pipeline.Grid} (w : Pipeline.Window sig G) (t : Fin G.N) (hk : w.kind = .blocked) (y : (w.xblock (G.coords t)).Idx)
    (z : w.shape.Idx) (h : ∀ a, w.index t a * w.size a + y a = (z a : ℕ)) : (w.rect t).emb y = z :=
  funext fun a => Fin.ext ((Pipeline.Window.rect_emb_val w t y a hk).trans (h a))

/-- The place of an element of a block of rows. -/
theorem place_rows (n p N w : ℕ) (f : Fin 2 → ℕ) (hf : ∀ a, f a = ![p, 0] a) (i : Fin n) (j : Fin w) (R : Fin N) (h : n * p + i = R) (a : Fin 2) :
    f a * (![n, w] : Fin 2 → ℕ) a + (ix2 i j : (⟨2, ![n, w]⟩ : Shape).Idx) a = ((ix2 R j : (⟨2, ![N, w]⟩ : Shape).Idx) a : ℕ) := by
  rw [hf]
  match a with
  | 0 => show p * n + i = R; rw [Nat.mul_comm]; exact h
  | 1 => show 0 * w + (j : ℕ) = j; omega

/-- An element of the block of rows that is normalised at its own point. -/
theorem ownBlk_at (t : Fin (cfgM m hO).N) (i : Fin 256) (j : Fin 2048) (R : Fin 26112) (h : 256 * min (2 * (t : ℕ) - 1) 101 + i = R) :
    (iblk m hO c 0 t (ix2 i j : S256x2048.Idx) : EReal) = hM m c R j :=
  (congrArg (V m c main_arg0) (emb_eq ((cfgM m hO).win 0) t rfl (ix2 i j : S256x2048.Idx) _
    (place_rows 256 _ _ _ _ (index_at t).1 i j R h))).trans (congrFun (V_main_arg0 m c) _)

/-- An element of the block of rows that is normalised a point ahead. -/
theorem nextBlk_at (t : Fin (cfgM m hO).N) (i : Fin 256) (j : Fin 2048) (R : Fin 26112) (h : 256 * min (2 * (t : ℕ)) 101 + i = R) :
    (iblk m hO c 1 t (ix2 i j : S256x2048.Idx) : EReal) = hM m c R j :=
  (congrArg (V m c main_arg0) (emb_eq ((cfgM m hO).win 1) t rfl (ix2 i j : S256x2048.Idx) _
    (place_rows 256 _ _ _ _ (index_at t).2.1 i j R h))).trans (congrFun (V_main_arg0 m c) _)

/-- An element of the norm's weight, as a point reads it. -/
theorem normBlk_at (t : Fin (cfgM m hO).N) (j : Fin 2048) : (iblk m hO c 2 t (ix2 0 j : S1x2048.Idx) : EReal) = gM m c j := by
  refine (congrArg (V m c main_v0) (emb_eq ((cfgM m hO).win 2) t rfl (ix2 0 j : S1x2048.Idx) _
    (place_rows 1 _ 1 2048 _ (index_at t).2.2.1 0 j 0 rfl))).trans ?_
  refine (congrFun (V_norm m c) _).trans ?_
  refine congrArg (m ((c.tc : Thread nD τ).loc main_arg1) : FVec Ideal S2048 .f32) (funext fun a => ?_)
  match a with
  | 0 => rfl

/-- An element of the weights, as a point reads them. -/
theorem weightBlk_at (t : Fin (cfgM m hO).N) (k : Fin 2048) (C : Fin 5120) : (iblk m hO c 3 t (ix3 0 k C : S1x2048x5120.Idx) : EReal) = wM m c k (col C) := by
  have hz : ∀ a : Fin 3, ((cfgM m hO).win 3).index t a * ((cfgM m hO).win 3).size a + (ix3 0 k C : S1x2048x5120.Idx) a = ((ix3 0 k C : S2x2048x5120.Idx) a : ℕ) := by
    intro a
    refine (congrArg (· * ((cfgM m hO).win 3).size a + _) ((index_at t).2.2.2.1 a)).trans ?_
    match a with
    | 0 => rfl
    | 1 => show 0 * 2048 + (k : ℕ) = k; omega
    | 2 => show 0 * 5120 + (C : ℕ) = C; omega
  refine (congrArg (V m c main_v5) (emb_eq ((cfgM m hO).win 3) t rfl (ix3 0 k C : S1x2048x5120.Idx) _ hz)).trans ?_
  exact (congrFun (V_weights m c) _).trans (movedV_at _ 0 k C)

/-- The table's row of an element of a point's block has the position of the packed row. -/
theorem pos_eq (t : ℕ) (h1 : 1 ≤ t) (ht : t < 52) (i : ℕ) (hi : i < 512) : Cert.In.tablePos (512 * tableBlock t + i) = Cert.In.pos (512 * (t - 1) + i) := by
  unfold Cert.In.tablePos Cert.In.pos tableBlock
  split_ifs <;> omega

/-- A block of the tables lies inside them. -/
theorem table_lt (t : ℕ) (ht : t < 52) (i : Fin 512) : 512 * tableBlock t + (i : ℕ) < 8704 := by
  unfold tableBlock
  split_ifs <;> omega

/-- A cosine, as a point reads it. -/
theorem cosBlk_at (t : Fin (cfgM m hO).N) (h1 : 1 ≤ (t : ℕ)) (i : Fin 512) (j : Fin 128) :
    (iblk m hO c 4 t (ix2 i j : S512x128.Idx) : EReal) = Ideal.cos (Cert.In.angle (Cert.In.pos (512 * ((t : ℕ) - 1) + i)) j) := by
  have ht : (t : ℕ) < 52 := t.isLt
  have hi : ∀ a, cc0_transform_4 k0_off1_inb numel1_S1 (tbl m) (grid0.coords t) a = ![tableBlock t, 0] a := fun a =>
    (congrFun (congrArg (fun T => cc0_transform_4 k0_off1_inb numel1_S1 T (grid0.coords t)) (tbl_eq m)) a).trans ((index_tables t).1 a)
  refine (congrArg (V m c main_v30) (emb_eq ((cfgM m hO).win 4) t rfl (ix2 i j : S512x128.Idx) _
    (place_rows 512 _ 8704 128 _ hi i j ⟨_, table_lt t ht i⟩ rfl))).trans ?_
  refine (congrFun (V_cos m c) _).trans ((cosT_at _ j).trans ?_)
  exact congrArg (fun P => Ideal.cos (Cert.In.angle P j)) (pos_eq t h1 ht i i.isLt)

/-- A sine, as a point reads it. -/
theorem sinBlk_at (t : Fin (cfgM m hO).N) (h1 : 1 ≤ (t : ℕ)) (i : Fin 512) (j : Fin 128) :
    (iblk m hO c 5 t (ix2 i j : S512x128.Idx) : EReal) = if (j : ℕ) < 64 then -Ideal.sin (Cert.In.angle (Cert.In.pos (512 * ((t : ℕ) - 1) + i)) j)
      else Ideal.sin (Cert.In.angle (Cert.In.pos (512 * ((t : ℕ) - 1) + i)) j) := by
  have ht : (t : ℕ) < 52 := t.isLt
  have hi : ∀ a, cc0_transform_5 k0_off1_inb numel1_S1 (tbl m) (grid0.coords t) a = ![tableBlock t, 0] a := fun a =>
    (congrFun (congrArg (fun T => cc0_transform_5 k0_off1_inb numel1_S1 T (grid0.coords t)) (tbl_eq m)) a).trans ((index_tables t).2 a)
  refine (congrArg (V m c main_v34) (emb_eq ((cfgM m hO).win 5) t rfl (ix2 i j : S512x128.Idx) _
    (place_rows 512 _ 8704 128 _ hi i j ⟨_, table_lt t ht i⟩ rfl))).trans ?_
  refine (congrFun (V_sin m c) _).trans ((sinT_at _ j).trans ?_)
  exact congrArg (fun P => if (j : ℕ) < 64 then -Ideal.sin (Cert.In.angle P j) else Ideal.sin (Cert.In.angle P j)) (pos_eq t h1 ht i i.isLt)

/-- The normalised rows of a block made at its own point. -/
theorem own_norm (t : Fin (cfgM m hO).N) (r : Fin 256) (k : Fin 2048) (R : Fin 26112) (h : 256 * min (2 * (t : ℕ) - 1) 101 + r = R) :
    (k0_pay1 (iblk m hO c 0 t) (iblk m hO c 2 t) (ix2 r k) : EReal) = Cert.Conv.normed (hM m c R) (gM m c) k :=
  (norm_at _ _ r k).trans (congrArg₂ (fun x g => Cert.Conv.normed x g k)
    (funext fun j => ownBlk_at m hO c t r j R h) (funext fun j => normBlk_at m hO c t j))

/-- The normalised rows of a block made a point ahead. -/
theorem next_norm (t : Fin (cfgM m hO).N) (r : Fin 256) (k : Fin 2048) (R : Fin 26112) (h : 256 * min (2 * (t : ℕ)) 101 + r = R) :
    (k0_pay1 (iblk m hO c 1 t) (iblk m hO c 2 t) (ix2 r k) : EReal) = Cert.Conv.normed (hM m c R) (gM m c) k :=
  (norm_at _ _ r k).trans (congrArg₂ (fun x g => Cert.Conv.normed x g k)
    (funext fun j => nextBlk_at m hO c t r j R h) (funext fun j => normBlk_at m hO c t j))

/-- The rows a later point finds carried over are the first block of its own rows, normalised. -/
theorem carried_norm (t : Fin (cfgM m hO).N) (h1 : 1 ≤ (t : ℕ)) (r : Fin 256) (k : Fin 2048) (R : Fin 26112) (h : 512 * ((t : ℕ) - 1) + r = R) :
    ((outsAt0 m hO c (t.val - 1) (Nat.lt_of_le_of_lt (Nat.sub_le _ _) t.isLt)).2 (ix2 r k) : EReal) = Cert.Conv.normed (hM m c R) (gM m c) k := by
  have ht : (t : ℕ) < 52 := t.isLt
  refine (congrFun (carried m hO c ⟨t.val - 1, Nat.lt_of_le_of_lt (Nat.sub_le _ _) t.isLt⟩) _).trans ?_
  refine next_norm m hO c _ r k R ?_
  show 256 * min (2 * ((t : ℕ) - 1)) 101 + r = R
  omega

/-- The result array. -/
def outM : Vec Ideal S26112x5120 .bf16 := fun i => Cert.In.projected (hM m c) (gM m c) (wM m c) (i 0 : Fin 26112) (i 1 : Fin 5120)

theorem row_lt {t : ℕ} (ht : t < 52) (h1 : 1 ≤ t) (y : Fin 512) : 512 * (t - 1) + (y : ℕ) < 26112 := by omega

/-- The rows of an array that a later grid point writes. -/
def blockOf (A : Vec Ideal S26112x5120 .bf16) (t : ℕ) (ht : t < 52) (h1 : 1 ≤ t) : S512x5120.Idx → Elt Ideal .bf16 := fun y =>
  A (ix2 ⟨512 * (t - 1) + (y 0 : Fin 512), row_lt ht h1 (y 0)⟩ (y 1 : Fin 5120))

/-- What a later point's tiles are made of, for each of its rows. -/
theorem row_at (t : Fin (cfgM m hO).N) (h1 : 1 ≤ (t : ℕ)) (b : Fin 2) (hn : Vec Ideal S256x2048 .bf16) (r : Fin 256) (R : Fin 26112)
    (hR : 512 * ((t : ℕ) - 1) + (256 * b + r) = R) (eh : ∀ k : Fin 2048, (hn (ix2 r k) : EReal) = Cert.Conv.normed (hM m c R) (gM m c) k) :
    Row hn (iblk m hO c 3 t) (iblk m hO c 4 t) (iblk m hO c 5 t) b r (hM m c R) (gM m c) (wM m c) (Cert.In.pos R) where
  hx := eh
  hw k C := weightBlk_at m hO c t k C
  hc j := by
    refine (half_at _ b r j).trans ((cosBlk_at m hO c t h1 _ j).trans ?_)
    rw [← hR]
  hs j := by
    refine (half_at _ b r j).trans ((sinBlk_at m hO c t h1 _ j).trans ?_)
    rw [← hR]

set_option maxHeartbeats 4000000 in
/-- What a later grid point leaves in its block of the result. -/
theorem out_at (t : Fin (cfgM m hO).N) (h0 : ¬ t.val % 52 = 0) (h1 : 1 ≤ t.val) (y : S512x5120.Idx) :
    (outsAt0 m hO c t.val t.isLt).1 y = blockOf (outM m c) t t.isLt h1 y := by
  have ht : (t : ℕ) < 52 := t.isLt
  have r0 := fun r : Fin 256 => row_at m hO c t h1 0 (outsAt0 m hO c (t.val - 1) (Nat.lt_of_le_of_lt (Nat.sub_le _ _) t.isLt)).2 r
    ⟨512 * ((t : ℕ) - 1) + (256 * (0 : Fin 2) + r), by show 512 * ((t : ℕ) - 1) + (256 * 0 + (r : ℕ)) < 26112; omega⟩ rfl
    (fun k => carried_norm m hO c t h1 r k _ (by show 512 * ((t : ℕ) - 1) + (r : ℕ) = 512 * ((t : ℕ) - 1) + (256 * 0 + r); omega))
  have r1 := fun r : Fin 256 => row_at m hO c t h1 1 (k0_pay1 (iblk m hO c 0 t) (iblk m hO c 2 t)) r
    ⟨512 * ((t : ℕ) - 1) + (256 * (1 : Fin 2) + r), by show 512 * ((t : ℕ) - 1) + (256 * 1 + (r : ℕ)) < 26112; omega⟩ rfl
    (fun k => own_norm m hO c t r k _ (by show 256 * min (2 * (t : ℕ) - 1) 101 + (r : ℕ) = 512 * ((t : ℕ) - 1) + (256 * 1 + r); omega))
  refine (congrFun (congrArg (fun p => p.1) (outsAt0_B m hO c t h0 h1)) y).trans ?_
  exact out_holds c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0)
    (outsAt0 m hO c (t.val - 1) (Nat.lt_of_le_of_lt (Nat.sub_le _ _) t.isLt)).2
    (blockOf (outM m c) t t.isLt h1)
    (fun n hn r d => (r0 r).q n hn d) (fun n hn hn' r d => (r0 r).z n hn hn' d) (fun r d => (r0 r).k 8 rfl d) (fun r d => (r0 r).v 9 rfl d)
    (fun n hn r d => (r1 r).q n hn d) (fun n hn hn' r d => (r1 r).z n hn hn' d) (fun r d => (r1 r).k 8 rfl d) (fun r d => (r1 r).v 9 rfl d) y

/-- Where an element of a later grid point's block lies in the result array. -/
theorem place_out (t : ℕ) (ht : t < 52) (h1 : 1 ≤ t) (f : Fin 2 → ℕ) (hf : ∀ a, f a = ![t - 1, 0] a) (y : S512x5120.Idx) (a : Fin 2) :
    f a * S512x5120.size a + y a =
      ((ix2 (⟨512 * (t - 1) + (y 0 : Fin 512), row_lt ht h1 (y 0)⟩ : Fin 26112) (y 1 : Fin 5120) : S26112x5120.Idx) a : ℕ) := by
  rw [hf]
  match a with
  | 0 => show (t - 1) * 512 + ((y 0 : Fin 512) : ℕ) = 512 * (t - 1) + (y 0 : Fin 512); omega
  | 1 => show 0 * 5120 + ((y 1 : Fin 5120) : ℕ) = (y 1 : Fin 5120); omega

set_option maxHeartbeats 4000000 in
/-- What a later point writes back is its block of the array. -/
theorem out_flushed (t : Fin (cfgM m hO).N) (h1 : 1 ≤ t.val) :
    (dats m hO 0 c).flushed 6 t = (((cfgM m hO).win 6).blk t).view.read (Elt Ideal) (outM m c) := by
  have ht : (t : ℕ) < 52 := t.isLt
  show ((cfgM m hO).win 6).cut (grid0.coords t) ((dats m hO 0 c).after 6 t) = _
  rw [after0_6]
  refine funext fun (y : S512x5120.Idx) => ?_
  refine (out_at m hO c t (by omega) h1 y).trans ?_
  exact congrArg (outM m c) (emb_eq ((cfgM m hO).win 6) t rfl y _ (place_out t ht h1 _ (index_at t).2.2.2.2 y)).symm

/-- The block element that holds an element of the result array. -/
def inBlock (i : S26112x5120.Idx) : S512x5120.Idx := ix2 (⟨((i 0 : Fin 26112) : ℕ) % 512, by omega⟩ : Fin 512) (i 1 : Fin 5120)

theorem point_lt (i : S26112x5120.Idx) : ((i 0 : Fin 26112) : ℕ) / 512 + 1 < 52 := by
  have lt0 : ((i 0 : Fin 26112) : ℕ) < 26112 := (i 0).isLt
  omega

/-- The point that writes an element of the result array. -/
def pointOf (i : S26112x5120.Idx) : Fin (cfgM m hO).N := ⟨((i 0 : Fin 26112) : ℕ) / 512 + 1, point_lt i⟩

/-- The element of the point's block is the array's. -/
theorem place_inBlock (i : S26112x5120.Idx) (f : Fin 2 → ℕ) (hf : ∀ a, f a = ![((i 0 : Fin 26112) : ℕ) / 512 + 1 - 1, 0] a) (a : Fin 2) :
    f a * S512x5120.size a + inBlock i a = (i a : ℕ) := by
  rw [hf]
  match a with
  | 0 => show (((i 0 : Fin 26112) : ℕ) / 512 + 1 - 1) * 512 + ((i 0 : Fin 26112) : ℕ) % 512 = (i 0 : Fin 26112); omega
  | 1 => show 0 * 5120 + ((i 1 : Fin 5120) : ℕ) = (i 1 : Fin 5120); omega

set_option maxHeartbeats 4000000 in
/-- The later points' blocks cover the result array. -/
theorem out_cover (i : S26112x5120.Idx) :
    ∃ t : Fin (cfgM m hO).N, ((cfgM m hO).win 6).flush t = true ∧ i ∈ (((cfgM m hO).win 6).blk t).view.set := by
  have e : (((cfgM m hO).win 6).rect (pointOf m hO i)).emb (inBlock i) = i :=
    emb_eq ((cfgM m hO).win 6) (pointOf m hO i) rfl (inBlock i) i (place_inBlock i _ (index_at (pointOf m hO i)).2.2.2.2)
  refine ⟨pointOf m hO i, (flush_at m hO _).2 (Nat.le_add_left _ _), ?_⟩
  have hm : i ∈ (((cfgM m hO).win 6).rect (pointOf m hO i)).set :=
    Eq.subst (motive := fun j => j ∈ (((cfgM m hO).win 6).rect (pointOf m hO i)).set) e ((((cfgM m hO).win 6).rect (pointOf m hO i)).idx_mem (inBlock i))
  exact (Finset.ext_iff.1 (View.set_slice_whole main_v35 (((cfgM m hO).win 6).rect (pointOf m hO i))) i).2 hm

set_option maxHeartbeats 4000000 in
/-- The result array after the run. -/
theorem out_final : (dats m hO 0 c).arrAt 6 (cfgM m hO).N = outM m c :=
  (dats m hO 0 c).arrAt_eq_of_cover 6 (outM m c) (fun t ht => out_flushed m hO c t ((flush_at m hO t).1 ht)) (out_cover m hO)

include hO in
set_option maxHeartbeats 4000000 in
/-- Every run ends with the result array at the projected rows. -/
theorem run_value (ρ : Dev nD → PrngReg) : θ_run defs (onTc (τ := τ) (main (F := Ideal))) ⟨m, fun _ => 0, ρ⟩ fun r => ∀ c : Dev nD,
    r.2.mem ((c.tc : Thread nD τ).loc main_v35) = outM m c :=
  (θ_run defs _ _).mono (fun _ h c => ((h c).1 6).trans (out_final m hO c)) (run_main m ρ hO)

end Cert.Kernel4Ideal.In

end

end
-- ==== Proof.Ref4.At.lean ====
module

public import proofs.«01_k».proof.Proof.In.Spec
public import proofs.«01_k».proof.Proof.Gen.Reference4Ideal.Run
public import Idealize.ShloMosaic.Lib.Pointwise

@[expose] public section

set_option maxRecDepth 16384

noncomputable section

/-!
# The reference of the attention's input projection, element by element

Its result as a composition of named stages, and an element of each.
-/

namespace Cert.Reference4Ideal.In

open Cert.Reference4Ideal Cert.Reference4Ideal.Gen
open Idealize.ShloMosaic Idealize.ShloMosaic.TcCoe
open Idealize.SL.Sem

variable {F : FTy → Type} [FloatOps F]

/-- An integer constant, one copy for each row. -/
abbrev rowsC (w : BitVec 32) : IVec S26112 32 := broadcastInDim S26112 ![] bcast_S_S26112 (constantI S_ 32 w)

/-- Zero, one copy for each row, as it is spelt. -/
abbrev noneC : IVec S26112 32 := broadcastInDim S26112 ![] bcast_S_S26112 (id (constantI S_ 32 0#32))

/-- The number of each row. -/
abbrev rowV : IVec S26112 32 := iotaInDim S26112 32 0

/-- The number of each row's sequence. -/
def seqV : IVec S26112 32 :=
  select (cmpi .sge rowV (rowsC 24576#32)) (Host.shrsi (subi rowV (rowsC 24576#32)) (rowsC 7#32))
    (select (cmpi .slt rowV (rowsC 8192#32)) noneC (addi (Host.shrsi (subi rowV (rowsC 8192#32)) (rowsC 11#32)) (rowsC 1#32)))

/-- The first row of each row's prompt. -/
def firstV : IVec S26112 32 := select (cmpi .eq seqV (rowsC 0#32)) noneC (addi (rowsC 6144#32) (muli (rowsC 2048#32) seqV))

/-- The position of each row. -/
def posV : IVec S26112 32 :=
  select (cmpi .sge rowV (rowsC 24576#32)) (subi (subi (subi rowV (rowsC 24576#32)) (muli (rowsC 128#32) seqV)) (rowsC 112#32))
    (addi (subi rowV firstV) (rowsC 16#32))

/-- The angles of each row. -/
def angleV (p : IVec S26112 32) : FVec F S26112x64 .f32 :=
  mulf (broadcastInDim S26112x64 ![0, 1] bcast_S26112x1_S26112x64_0_1 (broadcastInDim S26112x1 ![0] bcast_S26112_S26112x1_0 (sitofp .f32 p)))
    (broadcastInDim S26112x64 ![0, 1] bcast_S1x64_S26112x64_0_1 (Host.powf (broadcastInDim S1x64 ![] bcast_S_S1x64 (constant S_ .f32 0x461C4000#32))
      (broadcastInDim S1x64 ![1] bcast_S64_S1x64_1 (mulf (Host.negf (sitofp .f32 (iotaInDim S64 32 0))) (broadcastInDim S64 ![] bcast_S_S64 (constant S_ .f32 0x3C800000#32))))))

/-- A table beside itself. -/
def twiceV (a : FVec F S26112x64 .f32) : FVec F S26112x128 .f32 :=
  concatenate S26112x128 1 [⟨S26112x64, a⟩, ⟨S26112x64, a⟩] concatenates_S26112x64_S26112x64_S26112x128_d1

/-- The normalised rows. -/
def normV (h : FVec F S26112x2048 .f32) (g : FVec F S2048 .f32) : FVec F S26112x2048 .f32 :=
  mulf
    (mulf h (broadcastInDim S26112x2048 ![0, 1] bcast_S26112x1_S26112x2048_0_1 (Host.rsqrt (addf
      (Host.divf
        (broadcastInDim S26112x1 ![0] bcast_S26112_S26112x1_0
          (Host.reduceAdd (mulf h h) (constant S_ .f32 0x00000000#32) reducesTo_S26112x2048_S26112_d1 h_S_))
        (broadcastInDim S26112x1 ![] bcast_S_S26112x1 (constant S_ .f32 0x45000000#32)))
      (broadcastInDim S26112x1 ![] bcast_S_S26112x1 (constant S_ .f32 0x358637BD#32))))))
    (broadcastInDim S26112x2048 ![0, 1] bcast_S1x2048_S26112x2048_0_1 (broadcastInDim S1x2048 ![1] bcast_S2048_S1x2048_1 g))

/-- The first layer's weights. -/
def layerV (w : FVec F S2x2048x5120 .f32) : FVec F S2048x5120 .f32 :=
  shapeCast _ (extractStridedSlice S1x2048x5120 ![0, 0, 0] w slices_S2x2048x5120_S1x2048x5120_0_0_0) shapeCasts_S1x2048x5120_S2048x5120

/-- The projections. -/
def partV (x : FVec F S26112x2048 .f32) (w : FVec F S2048x5120 .f32) : FVec F S26112x5120 .f32 :=
  Host.dotGeneral dot_S26112x2048_S2048x5120_S26112x5120_1_0_0_1_n_n none x w

/-- The queries' heads, rotated by the tables. -/
def turnquery (x : FVec F S26112x16x128 .f32) (cs sn : FVec F S26112x128 .f32) : FVec F S26112x16x128 .f32 :=
  addf (mulf x (broadcastInDim S26112x16x128 ![0, 1, 2] bcast_S26112x1x128_S26112x16x128_0_1_2 (broadcastInDim S26112x1x128 ![0, 2] bcast_S26112x128_S26112x1x128_0_2 cs)))
    (mulf (concatenate S26112x16x128 2
        [⟨S26112x16x64, Host.negf (extractStridedSlice S26112x16x64 ![0, 0, 64] x slices_S26112x16x128_S26112x16x64_0_0_64)⟩,
         ⟨S26112x16x64, extractStridedSlice S26112x16x64 ![0, 0, 0] x slices_S26112x16x128_S26112x16x64_0_0_0⟩]
        concatenates_S26112x16x64_S26112x16x64_S26112x16x128_d2)
      (broadcastInDim S26112x16x128 ![0, 1, 2] bcast_S26112x1x128_S26112x16x128_0_1_2 (broadcastInDim S26112x1x128 ![0, 2] bcast_S26112x128_S26112x1x128_0_2 sn)))

/-- The queries, as heads, rotated, and as one row again. -/
def queryV (x : FVec F S26112x2048 .f32) (cs sn : FVec F S26112x128 .f32) : FVec F S26112x2048 .f32 :=
  shapeCast _ (turnquery (shapeCast _ x shapeCasts_S26112x2048_S26112x16x128) cs sn) shapeCasts_S26112x16x128_S26112x2048

/-- The keys' heads, rotated by the tables. -/
def turnkey (x : FVec F S26112x4x128 .f32) (cs sn : FVec F S26112x128 .f32) : FVec F S26112x4x128 .f32 :=
  addf (mulf x (broadcastInDim S26112x4x128 ![0, 1, 2] bcast_S26112x1x128_S26112x4x128_0_1_2 (broadcastInDim S26112x1x128 ![0, 2] bcast_S26112x128_S26112x1x128_0_2 cs)))
    (mulf (concatenate S26112x4x128 2
        [⟨S26112x4x64, Host.negf (extractStridedSlice S26112x4x64 ![0, 0, 64] x slices_S26112x4x128_S26112x4x64_0_0_64)⟩,
         ⟨S26112x4x64, extractStridedSlice S26112x4x64 ![0, 0, 0] x slices_S26112x4x128_S26112x4x64_0_0_0⟩]
        concatenates_S26112x4x64_S26112x4x64_S26112x4x128_d2)
      (broadcastInDim S26112x4x128 ![0, 1, 2] bcast_S26112x1x128_S26112x4x128_0_1_2 (broadcastInDim S26112x1x128 ![0, 2] bcast_S26112x128_S26112x1x128_0_2 sn)))

/-- The keys, as heads, rotated, and as one row again. -/
def keyV (x : FVec F S26112x512 .f32) (cs sn : FVec F S26112x128 .f32) : FVec F S26112x512 .f32 :=
  shapeCast _ (turnkey (shapeCast _ x shapeCasts_S26112x512_S26112x4x128) cs sn) shapeCasts_S26112x4x128_S26112x512

/-- The gate. -/
def gateV (z : FVec F S26112x2048 .f32) : FVec F S26112x2048 .f32 :=
  mulf z (Host.divf (broadcastInDim S26112x2048 ![] bcast_S_S26112x2048 (constant S_ .f32 0x3F800000#32))
    (addf (broadcastInDim S26112x2048 ![] bcast_S_S26112x2048 (constant S_ .f32 0x3F800000#32)) (Host.exp (Host.negf z))))

/-- The four pieces of the result side by side. -/
def joinV (q z : FVec F S26112x2048 .f32) (k v : FVec F S26112x512 .f32) : FVec F S26112x5120 .bf16 :=
  truncf .bf16 (concatenate S26112x5120 1 [⟨S26112x2048, q⟩, ⟨S26112x2048, z⟩, ⟨S26112x512, k⟩, ⟨S26112x512, v⟩]
    concatenates_S26112x2048_S26112x2048_S26112x512_S26112x512_S26112x5120_d1) bitsLt_bf16_f32

/-- The scaled queries. -/
def scaleV (q : FVec F S26112x2048 .f32) : FVec F S26112x2048 .f32 := mulf q (broadcastInDim S26112x2048 ![] bcast_S_S26112x2048 (constant S_ .f32 0x3E0293EE#32))

/-- The result, of the projections and the tables. -/
def resultV (p : FVec F S26112x5120 .f32) (cs sn : FVec F S26112x128 .f32) : FVec F S26112x5120 .bf16 :=
  joinV (scaleV (queryV (extractStridedSlice S26112x2048 ![0, 0] p slices_S26112x5120_S26112x2048_0_0) cs sn))
    (gateV (extractStridedSlice S26112x2048 ![0, 3072] p slices_S26112x5120_S26112x2048_0_3072))
    (keyV (extractStridedSlice S26112x512 ![0, 2048] p slices_S26112x5120_S26112x512_0_2048) cs sn)
    (extractStridedSlice S26112x512 ![0, 2560] p slices_S26112x5120_S26112x512_0_2560)

set_option maxHeartbeats 4000000 in
/-- Every run of the reference ends with the result at these stages of the arguments, and the arguments as they were. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) =
        resultV (partV (normV (m ((c.tc : Thread nD τ).loc main_arg0)) (m ((c.tc : Thread nD τ).loc main_arg1))) (layerV (m ((c.tc : Thread nD τ).loc main_arg2))))
          (twiceV (Host.cos (angleV posV))) (twiceV (Host.sin (angleV posV)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run m ρ

/-- A choice by a bit. -/
theorem choose_bit {α : Type} (b : BitVec 1) (x y : α) : Scalar.select b x y = if b = 1#1 then x else y := rfl

/-- The zero. -/
theorem zero_bits : Idealize.ShloMosaic.Ideal.ofBits .f32 0#32 = (0 : EReal) := by
  simp [Ideal.ofBits, Ideal.ieee]

/-- The sum of a row. -/
theorem total (n0 n1 : ℕ) (s : FVec Ideal ⟨2, ![n0, n1]⟩ .f32) (h : (⟨2, ![n0, n1]⟩ : Shape).ReducesTo [1] ⟨1, ![n0]⟩)
    (i : FVec Ideal ⟨0, ![]⟩ .f32) (hu : 0 < (⟨0, ![]⟩ : Shape).numel) (a : Fin n0) :
    (Host.reduceAdd s i h hu (ix1 a) : EReal) = i (Shape.Idx.first hu) + ∑ x : Fin n1, s (ix2 a x) := by
  pointwise

/-- An element of the projections. -/
theorem partV_at (x : FVec Ideal S26112x2048 .f32) (w : FVec Ideal S2048x5120 .f32) (R : Fin 26112) (C : Fin 5120) :
    (partV x w (ix2 R C) : EReal) = ∑ k : Fin 2048, (x (ix2 R k) : EReal) * w (ix2 k C) := by
  pointwise [partV]

/-- An element of the first layer's weights. -/
theorem layerV_at (w : FVec Ideal S2x2048x5120 .f32) (k : Fin 2048) (C : Fin 5120) :
    (layerV w (ix2 k C) : EReal) = w (ix3 0 k C) := by
  pointwise [layerV]

/-- The sum of a row's squares. -/
theorem squares_at (h : FVec Ideal S26112x2048 .f32) (R : Fin 26112) :
    (Host.reduceAdd (mulf h h) (constant S_ .f32 0x00000000#32) reducesTo_S26112x2048_S26112_d1 h_S_ (ix1 R) : EReal) =
      ∑ j : Fin 2048, (h (ix2 R j) : EReal) * h (ix2 R j) := by
  refine (total 26112 2048 (mulf h h) reducesTo_S26112x2048_S26112_d1 (constant S_ .f32 0x00000000#32) h_S_ R).trans ?_
  refine (congrArg (· + _) (?_ : _ = (0 : EReal))).trans (zero_add _)
  exact zero_bits

/-- A normalised element. -/
theorem normV_at (h : FVec Ideal S26112x2048 .f32) (g : FVec Ideal S2048 .f32) (R : Fin 26112) (k : Fin 2048) :
    (normV h g (ix2 R k) : EReal) = Cert.Conv.normed (fun j => h (ix2 R j)) (fun j => g (ix1 j)) k := by
  unfold normV
  generalize hs : Host.reduceAdd (mulf h h) (constant S_ .f32 0x00000000#32) reducesTo_S26112x2048_S26112_d1 h_S_ = s
  have e : (s (ix1 R) : EReal) = ∑ j : Fin 2048, (h (ix2 R j) : EReal) * h (ix2 R j) := by rw [← hs]; exact squares_at h R
  pointwise
  rw [e]
  rfl

/-- The number of a row's sequence: its decoded sequence's, 0 for the first prompt, and from 1 for the rest. -/
def seqOf (R : ℕ) : ℤ := if 24576 ≤ R then ((R : ℤ) - 24576) / 128 else if R < 8192 then 0 else ((R : ℤ) - 8192) / 2048 + 1

/-- The bits of a row's sequence. -/
theorem seqV_at (R : Fin 26112) : seqV (ix1 R) = Words.W (seqOf R) := by
  have hR := R.isLt
  have hs : Words.Small ((R : ℕ) : ℤ) := ⟨by omega, by omega⟩
  pointwise [seqV]
  rw [Words.ofNat_eq, show (24576#32) = Words.W 24576 from rfl, show (8192#32) = Words.W 8192 from rfl, show (0#32) = Words.W 0 from rfl,
    show (1#32) = Words.W 1 from rfl, Words.subi_W, Words.subi_W]
  have e7 : IntOp.shrsi .host (Words.W ((R : ℤ) - 24576)) (7#32) = Words.W (((R : ℤ) - 24576) / 128) :=
    Words.shrsi_W (a := (R : ℤ) - 24576) ⟨by omega, by omega⟩ 7 (by decide)
  have e11 : IntOp.shrsi .host (Words.W ((R : ℤ) - 8192)) (11#32) = Words.W (((R : ℤ) - 8192) / 2048) :=
    Words.shrsi_W (a := (R : ℤ) - 8192) ⟨by omega, by omega⟩ 11 (by decide)
  rw [e7, e11, Words.addi_W, choose_bit, choose_bit]
  unfold seqOf
  rw [apply_ite Words.W, apply_ite Words.W]
  exact if_congr ((Words.sge_W hs (by decide)).trans (by omega)) rfl (if_congr ((Words.slt_W hs (by decide)).trans (by omega)) rfl rfl)

/-- The first row of a row's prompt, by the number of its sequence. -/
theorem firstV_at (R : Fin 26112) : firstV (ix1 R) = Words.W (if seqOf R = 0 then 0 else 6144 + 2048 * seqOf R) := by
  have hR := R.isLt
  have hs : Words.Small (seqOf R) := by unfold seqOf; split_ifs <;> exact ⟨by omega, by omega⟩
  pointwise [firstV]
  rw [seqV_at, show (6144#32) = Words.W 6144 from rfl, show (2048#32) = Words.W 2048 from rfl, show (0#32) = Words.W 0 from rfl, Words.muli_W, Words.addi_W,
    choose_bit, apply_ite Words.W]
  exact if_congr (Words.eq_W hs (by decide)) rfl rfl

/-- The position of a row. -/
theorem posV_at (R : Fin 26112) : posV (ix1 R) = Words.W (Cert.In.pos R) := by
  have hR := R.isLt
  have hs : Words.Small ((R : ℕ) : ℤ) := ⟨by omega, by omega⟩
  pointwise [posV]
  rw [seqV_at, firstV_at, Words.ofNat_eq, show (24576#32) = Words.W 24576 from rfl, show (128#32) = Words.W 128 from rfl, show (112#32) = Words.W 112 from rfl,
    show (16#32) = Words.W 16 from rfl, Words.muli_W, Words.subi_W, Words.subi_W, Words.subi_W, Words.subi_W, Words.addi_W, choose_bit]
  rw [← apply_ite Words.W]
  refine congrArg Words.W ?_
  have h1 := Words.sge_W hs (b := 24576) (by decide)
  rw [if_congr h1 rfl rfl]
  unfold Cert.In.pos seqOf
  split_ifs <;> omega

/-- An angle of a row. -/
theorem angleV_at (R : Fin 26112) (j : Fin 64) : (angleV (F := Ideal) posV (ix2 R j) : EReal) = Cert.In.angle (Cert.In.pos R) j := by
  pointwise [angleV]
  rw [posV_at]
  unfold Cert.In.angle
  rw [Nat.mod_eq_of_lt j.isLt]

theorem angle_mod (P : ℤ) (j : ℕ) : Cert.In.angle P (j % 64) = Cert.In.angle P j := by
  unfold Cert.In.angle; rw [Nat.mod_mod]

/-- An angle of a row, by the place of its column. -/
theorem angle_at (R : Fin 26112) (k : Fin 64) (j : ℕ) (h : (k : ℕ) = j % 64) :
    (angleV (F := Ideal) posV (ix2 R k) : EReal) = Cert.In.angle (Cert.In.pos R) j := by
  rw [angleV_at, h, angle_mod]

/-- An element of a table beside itself. -/
theorem twiceV_at (a : FVec Ideal S26112x64 .f32) (R : Fin 26112) (j : Fin 128) :
    (twiceV a (ix2 R j) : EReal) = if h : (j : ℕ) < 64 then a (ix2 R ⟨j, h⟩) else a (ix2 R ⟨j - 64, by omega⟩) := by
  pointwise [twiceV]

theorem cos_read (x : FVec Ideal S26112x64 .f32) (i : S26112x64.Idx) : (Host.cos x i : EReal) = Ideal.cos (x i) := rfl
theorem sin_read (x : FVec Ideal S26112x64 .f32) (i : S26112x64.Idx) : (Host.sin x i : EReal) = Ideal.sin (x i) := rfl

/-- A cosine. -/
theorem cosV_at (R : Fin 26112) (j : Fin 128) : (twiceV (F := Ideal) (Host.cos (angleV posV)) (ix2 R j) : EReal) = Ideal.cos (Cert.In.angle (Cert.In.pos R) j) := by
  have hj := j.isLt
  rw [twiceV_at]
  split
  · rw [cos_read, angle_at R _ (j : ℕ) (by show (j : ℕ) = j % 64; omega)]
  · rw [cos_read, angle_at R _ (j : ℕ) (by show (j : ℕ) - 64 = j % 64; omega)]

/-- A sine. -/
theorem sinV_at (R : Fin 26112) (j : Fin 128) : (twiceV (F := Ideal) (Host.sin (angleV posV)) (ix2 R j) : EReal) = Ideal.sin (Cert.In.angle (Cert.In.pos R) j) := by
  have hj := j.isLt
  rw [twiceV_at]
  split
  · rw [sin_read, angle_at R _ (j : ℕ) (by show (j : ℕ) = j % 64; omega)]
  · rw [sin_read, angle_at R _ (j : ℕ) (by show (j : ℕ) - 64 = j % 64; omega)]

/-- An element of the queries' rotated heads. -/
theorem turnquery_at (x : FVec Ideal S26112x16x128 .f32) (cs sn : FVec Ideal S26112x128 .f32) (R : Fin 26112) (n : Fin 16) (d : Fin 128) :
    (turnquery x cs sn (ix3 R n d) : EReal) = x (ix3 R n d) * cs (ix2 R d) +
      (if h : (d : ℕ) < 64 then -(x (ix3 R n ⟨d + 64, by omega⟩) : EReal) else x (ix3 R n ⟨d - 64, by omega⟩)) * sn (ix2 R d) := by
  have hd := d.isLt
  pointwise [turnquery]
  split <;> simp only [Nat.add_comm, Nat.zero_add]

/-- The queries of a row as heads. -/
theorem headsquery_at (x : FVec Ideal S26112x2048 .f32) (R : Fin 26112) (n : Fin 16) (d : Fin 128) :
    (shapeCast S26112x16x128 x shapeCasts_S26112x2048_S26112x16x128 (ix3 R n d) : EReal) = x (ix2 R ⟨n * 128 + d, by omega⟩) := by
  pointwise

/-- Heads as one row. -/
theorem rowquery_at (x : FVec Ideal S26112x16x128 .f32) (R : Fin 26112) (C : Fin 2048) :
    (shapeCast S26112x2048 x shapeCasts_S26112x16x128_S26112x2048 (ix2 R C) : EReal) = x (ix3 R ⟨C / 128, by omega⟩ ⟨C % 128, by omega⟩) := by
  pointwise

/-- An element of the queries, rotated. -/
theorem queryV_at (x : FVec Ideal S26112x2048 .f32) (cs sn : FVec Ideal S26112x128 .f32) (R : Fin 26112) (C : Fin 2048) :
    (queryV x cs sn (ix2 R C) : EReal) = x (ix2 R C) * cs (ix2 R ⟨C % 128, by omega⟩) +
      (if h : (C : ℕ) % 128 < 64 then -(x (ix2 R ⟨C + 64, by omega⟩) : EReal) else x (ix2 R ⟨C - 64, by omega⟩)) * sn (ix2 R ⟨C % 128, by omega⟩) := by
  have hC := C.isLt
  have e0 : (⟨(C : ℕ) / 128 * 128 + (C : ℕ) % 128, by omega⟩ : Fin 2048) = C := Fin.ext (by show (C : ℕ) / 128 * 128 + (C : ℕ) % 128 = C; omega)
  refine (rowquery_at _ R C).trans ((turnquery_at _ cs sn R _ _).trans ?_)
  refine congrArg₂ (· + ·) (congrArg (fun y : EReal => y * _) ((headsquery_at x R _ _).trans (congrArg (fun n => x (ix2 R n)) e0))) (congrArg (fun y : EReal => y * _) ?_)
  split
  · rename_i h
    refine congrArg (fun y : EReal => -y) ((headsquery_at x R _ _).trans (congrArg (fun n => x (ix2 R n)) (Fin.ext ?_)))
    show (C : ℕ) / 128 * 128 + ((C : ℕ) % 128 + 64) = C + 64; omega
  · rename_i h0
    have h : ¬ (C : ℕ) % 128 < 64 := h0
    refine (headsquery_at x R _ _).trans (congrArg (fun n => x (ix2 R n)) (Fin.ext ?_))
    show (C : ℕ) / 128 * 128 + ((C : ℕ) % 128 - 64) = C - 64; omega

/-- An element of the keys' rotated heads. -/
theorem turnkey_at (x : FVec Ideal S26112x4x128 .f32) (cs sn : FVec Ideal S26112x128 .f32) (R : Fin 26112) (n : Fin 4) (d : Fin 128) :
    (turnkey x cs sn (ix3 R n d) : EReal) = x (ix3 R n d) * cs (ix2 R d) +
      (if h : (d : ℕ) < 64 then -(x (ix3 R n ⟨d + 64, by omega⟩) : EReal) else x (ix3 R n ⟨d - 64, by omega⟩)) * sn (ix2 R d) := by
  have hd := d.isLt
  pointwise [turnkey]
  split <;> simp only [Nat.add_comm, Nat.zero_add]

/-- The keys of a row as heads. -/
theorem headskey_at (x : FVec Ideal S26112x512 .f32) (R : Fin 26112) (n : Fin 4) (d : Fin 128) :
    (shapeCast S26112x4x128 x shapeCasts_S26112x512_S26112x4x128 (ix3 R n d) : EReal) = x (ix2 R ⟨n * 128 + d, by omega⟩) := by
  pointwise

/-- Heads as one row. -/
theorem rowkey_at (x : FVec Ideal S26112x4x128 .f32) (R : Fin 26112) (C : Fin 512) :
    (shapeCast S26112x512 x shapeCasts_S26112x4x128_S26112x512 (ix2 R C) : EReal) = x (ix3 R ⟨C / 128, by omega⟩ ⟨C % 128, by omega⟩) := by
  pointwise

/-- An element of the keys, rotated. -/
theorem keyV_at (x : FVec Ideal S26112x512 .f32) (cs sn : FVec Ideal S26112x128 .f32) (R : Fin 26112) (C : Fin 512) :
    (keyV x cs sn (ix2 R C) : EReal) = x (ix2 R C) * cs (ix2 R ⟨C % 128, by omega⟩) +
      (if h : (C : ℕ) % 128 < 64 then -(x (ix2 R ⟨C + 64, by omega⟩) : EReal) else x (ix2 R ⟨C - 64, by omega⟩)) * sn (ix2 R ⟨C % 128, by omega⟩) := by
  have hC := C.isLt
  have e0 : (⟨(C : ℕ) / 128 * 128 + (C : ℕ) % 128, by omega⟩ : Fin 512) = C := Fin.ext (by show (C : ℕ) / 128 * 128 + (C : ℕ) % 128 = C; omega)
  refine (rowkey_at _ R C).trans ((turnkey_at _ cs sn R _ _).trans ?_)
  refine congrArg₂ (· + ·) (congrArg (fun y : EReal => y * _) ((headskey_at x R _ _).trans (congrArg (fun n => x (ix2 R n)) e0))) (congrArg (fun y : EReal => y * _) ?_)
  split
  · rename_i h
    refine congrArg (fun y : EReal => -y) ((headskey_at x R _ _).trans (congrArg (fun n => x (ix2 R n)) (Fin.ext ?_)))
    show (C : ℕ) / 128 * 128 + ((C : ℕ) % 128 + 64) = C + 64; omega
  · rename_i h0
    have h : ¬ (C : ℕ) % 128 < 64 := h0
    refine (headskey_at x R _ _).trans (congrArg (fun n => x (ix2 R n)) (Fin.ext ?_))
    show (C : ℕ) / 128 * 128 + ((C : ℕ) % 128 - 64) = C - 64; omega

/-- An element of the gate. -/
theorem gateV_at (z : FVec Ideal S26112x2048 .f32) (i : S26112x2048.Idx) :
    (gateV z i : EReal) = z i * Ideal.div 1 (1 + Ideal.exp (-(z i : EReal))) := by
  pointwise [gateV]

/-- An element of the scaled queries. -/
theorem scaleV_at (q : FVec Ideal S26112x2048 .f32) (i : S26112x2048.Idx) :
    (scaleV q i : EReal) = q i * Ideal.ofBits .f32 0x3E0293EE#32 := by
  pointwise [scaleV]

/-- An element of the four pieces side by side. -/
theorem joinV_at (q z : FVec Ideal S26112x2048 .f32) (k v : FVec Ideal S26112x512 .f32) (R : Fin 26112) (C : Fin 5120) :
    (joinV q z k v (ix2 R C) : EReal) = if h : (C : ℕ) < 2048 then q (ix2 R ⟨C, h⟩) else if h' : (C : ℕ) - 2048 < 2048 then z (ix2 R ⟨C - 2048, by omega⟩)
      else if h'' : (C : ℕ) - 2048 - 2048 < 512 then k (ix2 R ⟨C - 2048 - 2048, by omega⟩) else v (ix2 R ⟨C - 2048 - 2048 - 512, by omega⟩) := by
  have hC := C.isLt
  pointwise [joinV]

/-- A run of columns of the projections. -/
theorem cut_at (w o : ℕ) (p : FVec Ideal S26112x5120 .f32) (h : (⟨2, ![26112, 5120]⟩ : Shape).Slices ![0, o] ⟨2, ![26112, w]⟩) (R : Fin 26112) (C : Fin w) (h2 : o + C < 5120) :
    (extractStridedSlice ⟨2, ![26112, w]⟩ ![0, o] p h (ix2 R C) : EReal) = p (ix2 R ⟨o + C, h2⟩) := by
  pointwise

end Cert.Reference4Ideal.In

end

end
-- ==== Proof.In.Equal.lean ====
module

public import proofs.«01_k».proof.Proof.In.Value
public import proofs.«01_k».proof.Proof.Ref4.At

@[expose] public section

set_option maxRecDepth 16384

noncomputable section

/-!
# The input projection's result is the reference's
-/

namespace Cert.In

open Idealize.ShloMosaic Idealize.ShloMosaic.TcCoe
open Cert.Reference4Ideal.In (partV normV layerV resultV twiceV angleV posV)

variable (h : FVec Ideal Cert.Reference4Ideal.S26112x2048 .f32) (g : FVec Ideal Cert.Reference4Ideal.S2048 .f32)
  (w : FVec Ideal Cert.Reference4Ideal.S2x2048x5120 .f32)

/-- The reference's projections of a row. -/
theorem part_eq (R : Fin 26112) (C : Fin 5120) :
    (partV (normV h g) (layerV w) (ix2 R C) : EReal) = part (fun k => h (ix2 R k)) (fun k => g (ix1 k)) (fun k C => w (ix3 0 k C)) C := by
  rw [Cert.Reference4Ideal.In.partV_at]
  exact Finset.sum_congr rfl fun k _ => by
    rw [Cert.Reference4Ideal.In.normV_at, Cert.Reference4Ideal.In.layerV_at]

/-- An index of two axes. -/
theorem ix2_eta (i : Cert.Reference4Ideal.S26112x5120.Idx) : i = (ix2 (i 0 : Fin 26112) (i 1 : Fin 5120) : Cert.Reference4Ideal.S26112x5120.Idx) :=
  funext fun a => by match a with | 0 => rfl | 1 => rfl

/-- A rotated element out of what the reference's stages leave of it. -/
theorem rotated_of (p : Fin 5120 → EReal) (P : ℤ) (C : Fin 5120) (j : ℕ) (hj : j = (C : ℕ) % 128) (x y cs sn : EReal) (hx : x = p C) (hy : y = partner p C)
    (hc : cs = Ideal.cos (angle P j)) (hs : sn = Ideal.sin (angle P j)) : x * cs + y * sn = rotated p P C := by
  rw [hx, hy, hc, hs, hj]; rfl

/-- An element of the reference's queries, not yet scaled. -/
theorem query_eq (p : FVec Ideal Cert.Reference4Ideal.S26112x5120 .f32) (R : Fin 26112) (C : Fin 2048) :
    (Cert.Reference4Ideal.In.queryV (extractStridedSlice Cert.Reference4Ideal.S26112x2048 ![0, 0] p Cert.Reference4Ideal.Gen.slices_S26112x5120_S26112x2048_0_0)
      (twiceV (Host.cos (angleV posV))) (twiceV (Host.sin (angleV posV))) (ix2 R C) : EReal) =
      rotated (fun C => p (ix2 R C)) (pos R) ⟨C, by omega⟩ := by
  have hC := C.isLt
  refine (Cert.Reference4Ideal.In.queryV_at _ _ _ R C).trans ?_
  refine rotated_of _ _ _ _ rfl _ _ _ _ ?_ ?_ (Cert.Reference4Ideal.In.cosV_at R _) (Cert.Reference4Ideal.In.sinV_at R _)
  · refine (Cert.Reference4Ideal.In.cut_at 2048 0 p _ R C (by omega)).trans (congrArg (fun n => p (ix2 R n)) (Fin.ext ?_))
    show 0 + (C : ℕ) = C; omega
  · unfold partner
    split
    · rename_i h0
      refine congrArg (fun y : EReal => -y) ((Cert.Reference4Ideal.In.cut_at 2048 0 p _ R _ (by show 0 + ((C : ℕ) + 64) < 5120; omega)).trans
        (congrArg (fun n => p (ix2 R n)) (Fin.ext ?_)))
      show 0 + ((C : ℕ) + 64) = C + 64; omega
    · rename_i h0
      have h1 : ¬ (C : ℕ) % 128 < 64 := h0
      refine (Cert.Reference4Ideal.In.cut_at 2048 0 p _ R _ (by show 0 + ((C : ℕ) - 64) < 5120; omega)).trans
        (congrArg (fun n => p (ix2 R n)) (Fin.ext ?_))
      show 0 + ((C : ℕ) - 64) = C - 64; omega

/-- An element of the reference's keys. -/
theorem key_eq (p : FVec Ideal Cert.Reference4Ideal.S26112x5120 .f32) (R : Fin 26112) (C : Fin 512) :
    (Cert.Reference4Ideal.In.keyV (extractStridedSlice Cert.Reference4Ideal.S26112x512 ![0, 2048] p Cert.Reference4Ideal.Gen.slices_S26112x5120_S26112x512_0_2048)
      (twiceV (Host.cos (angleV posV))) (twiceV (Host.sin (angleV posV))) (ix2 R C) : EReal) =
      rotated (fun C => p (ix2 R C)) (pos R) ⟨2048 + C, by omega⟩ := by
  have hC := C.isLt
  refine (Cert.Reference4Ideal.In.keyV_at _ _ _ R C).trans ?_
  refine rotated_of _ _ _ _ (by show (C : ℕ) % 128 = (2048 + (C : ℕ)) % 128; omega) _ _ _ _ ?_ ?_
    (Cert.Reference4Ideal.In.cosV_at R _) (Cert.Reference4Ideal.In.sinV_at R _)
  · exact Cert.Reference4Ideal.In.cut_at 512 2048 p _ R C (by omega)
  · unfold partner
    by_cases h0 : (C : ℕ) % 128 < 64
    · rw [dif_pos h0, dif_pos (show (2048 + (C : ℕ)) % 128 < 64 by omega)]
      exact congrArg (fun y : EReal => -y) (Cert.Reference4Ideal.In.cut_at 512 2048 p _ R _ (by show 2048 + ((C : ℕ) + 64) < 5120; omega))
    · rw [dif_neg h0, dif_neg (show ¬ (2048 + (C : ℕ)) % 128 < 64 by omega)]
      refine (Cert.Reference4Ideal.In.cut_at 512 2048 p _ R _ (by show 2048 + ((C : ℕ) - 64) < 5120; omega)).trans
        (congrArg (fun n => p (ix2 R n)) (Fin.ext ?_))
      show 2048 + ((C : ℕ) - 64) = 2048 + C - 64; omega

/-- An element of the reference's result, of its projections. -/
theorem result_at (p : FVec Ideal Cert.Reference4Ideal.S26112x5120 .f32) (H : Fin 26112 → Fin 2048 → EReal) (G : Fin 2048 → EReal)
    (W : Fin 2048 → Fin 5120 → EReal) (R : Fin 26112) (hp : (fun C : Fin 5120 => (p (ix2 R C) : EReal)) = part (H R) G W) (C : Fin 5120) :
    (resultV p (twiceV (Host.cos (angleV posV))) (twiceV (Host.sin (angleV posV))) (ix2 R C) : EReal) = projected H G W R C := by
  have hC := C.isLt
  refine (Cert.Reference4Ideal.In.joinV_at _ _ _ _ R C).trans ?_
  unfold projected
  rw [← hp]
  by_cases h0 : (C : ℕ) < 2048
  · rw [dif_pos h0, dif_pos h0]
    exact (Cert.Reference4Ideal.In.scaleV_at _ _).trans (congrArg (fun y : EReal => y * _) (query_eq p R ⟨C, h0⟩))
  · rw [dif_neg h0, dif_neg h0]
    by_cases h1 : (C : ℕ) < 4096
    · rw [dif_pos h1, dif_pos (show (C : ℕ) - 2048 < 2048 by omega)]
      refine (Cert.Reference4Ideal.In.gateV_at _ _).trans (congrArg (fun y : EReal => y * Ideal.div 1 (1 + Ideal.exp (-y))) ?_)
      refine (Cert.Reference4Ideal.In.cut_at 2048 3072 p _ R _ (by show 3072 + ((C : ℕ) - 2048) < 5120; omega)).trans
        (congrArg (fun n => p (ix2 R n)) (Fin.ext ?_))
      show 3072 + ((C : ℕ) - 2048) = C + 1024; omega
    · rw [dif_neg h1, dif_neg (show ¬ (C : ℕ) - 2048 < 2048 by omega)]
      by_cases h2 : (C : ℕ) < 4608
      · rw [if_pos h2, dif_pos (show (C : ℕ) - 2048 - 2048 < 512 by omega)]
        refine (key_eq p R _).trans (congrArg (rotated _ _) (Fin.ext ?_))
        show 2048 + ((C : ℕ) - 2048 - 2048) = C - 2048; omega
      · rw [if_neg h2, dif_neg (show ¬ (C : ℕ) - 2048 - 2048 < 512 by omega)]
        refine (Cert.Reference4Ideal.In.cut_at 512 2560 p _ R _ (by show 2560 + ((C : ℕ) - 2048 - 2048 - 512) < 5120; omega)).trans
          (congrArg (fun n => p (ix2 R n)) (Fin.ext ?_))
        show 2560 + ((C : ℕ) - 2048 - 2048 - 512) = C - 2048; omega

/-- The results are equal. -/
theorem result_eq (i : Cert.Reference4Ideal.S26112x5120.Idx) :
    (resultV (partV (normV h g) (layerV w)) (twiceV (Host.cos (angleV posV))) (twiceV (Host.sin (angleV posV))) i : EReal) =
      projected (fun R k => h (ix2 R k)) (fun k => g (ix1 k)) (fun k C => w (ix3 0 k C)) (i 0 : Fin 26112) (i 1 : Fin 5120) :=
  (congrArg _ (ix2_eta i)).trans (result_at _ (fun R k => h (ix2 R k)) _ _ _ (funext fun C => part_eq h g w _ C) _)

end Cert.In

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Attn.Frame
public import proofs.«01_k».proof.Proof.Attn.Tables
public import proofs.«01_k».proof.Proof.AttnIdeal.Frame
public import proofs.«01_k».proof.Proof.AttnIdeal.Tables
public import proofs.«01_k».proof.Proof.AttnIdeal.Host
public import proofs.«01_k».proof.Proof.AttnIdeal.Value
public import proofs.«01_k».proof.Proof.Ref.Stages
public import proofs.«01_k».proof.Proof.Equal
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Conv.Equal
public import proofs.«01_k».proof.Proof.Out.Value
public import proofs.«01_k».proof.Proof.In.FrameBits
public import proofs.«01_k».proof.Proof.In.FrameIdeal
public import proofs.«01_k».proof.Proof.In.Tables
public import proofs.«01_k».proof.Proof.In.TablesBits
public import proofs.«01_k».proof.Proof.In.Equal
public import Idealize.ShloMosaic.Adequacy
public import Idealize.ShloMosaic.Init

@[expose] public section

noncomputable section

namespace Cert.Proof

open Idealize.ShloMosaic Idealize.SL.Sem

/-- The kernel as lowered leaves its arguments and every counter as it found them. -/
theorem frame_kernel : Cert.quiescent_Kernel := fun m ρ _ => Cert.Kernel.Attn.frame m ρ (Cert.Kernel.Attn.ok m)

/-- So does the idealized kernel. -/
theorem frame_ideal : Cert.quiescent_KernelIdeal := fun m ρ _ =>
  Cert.KernelIdeal.Attn.frame m ρ (Cert.KernelIdeal.Attn.ok m)

/-- So does the reference, a line of host operations with no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The f32 nearest `1 / log 2` is named by that real. -/
theorem named : Cert.preserves_Kernel_KernelIdeal := IdealRules.named_const.statement _ _ _ _ _ rfl

/-- The frames under the precondition. -/
theorem frame_ideal_finite [Cert.Pre_finite.Facts] : Cert.quiescent_KernelIdeal_pre_finite := fun m ρ _ =>
  Cert.KernelIdeal.Attn.frame m ρ (Cert.KernelIdeal.Attn.ok m)

/-- The reference's. -/
theorem frame_reference_finite [Cert.Pre_finite.Facts] : Cert.quiescent_ReferenceIdeal_pre_finite := fun m ρ _ =>
  (θ_run Cert.ReferenceIdeal.defs _ _).mono
    (fun r h => ⟨fun c => (h c).2, sem_eq_zero_of_no_sems (by decide) r.2⟩)
    (Cert.ReferenceIdeal.Value.run m ρ)

/-- For finite queries, keys and sinks the idealized kernel's result is the reference's. -/
theorem value : Cert.algebraic_KernelIdeal_ReferenceIdeal_pre_finite := by
  intro m ρ m' ρ' hp hargs
  refine ⟨fun c => Cert.KernelIdeal.Attn.outM m c, ?_, ?_⟩
  · exact (θ_run Cert.KernelIdeal.defs _ _).mono (fun r h c => ⟨h.1 c, h.2 c⟩)
      (θ_run_and (Cert.KernelIdeal.Attn.run_value m (Cert.KernelIdeal.Attn.ok m) ρ)
        (Cert.KernelIdeal.Attn.unchanged m ρ (Cert.KernelIdeal.Attn.ok m)))
  · refine (θ_run Cert.ReferenceIdeal.defs _ _).mono (fun r h c => ⟨(h c).1.trans ?_, (h c).2⟩)
      (Cert.ReferenceIdeal.Value.run m' ρ')
    obtain ⟨e0, e1, e2, e3, e4⟩ := hargs c
    obtain ⟨p0, p1, p2⟩ := hp c
    refine (Cert.ReferenceIdeal.Attn.res_eq m' c).trans ?_
    rw [e0, e1, e2, e3, e4]
    exact (Cert.Equal.outM_eq m c _ _ _ _ _ (Cert.KernelIdeal.Attn.V_proj m c) (Cert.KernelIdeal.Attn.V_main_arg4 m c)
      (Cert.Finite.queries_real _ _ _ _ _ p0) (Cert.Finite.keys_real _ _ _ _ _ p1)
      (Cert.Finite.sinks_real _ _ _ _ _ p2)).symm

/-- The projection kernel as lowered leaves its arguments and every counter as it found them. -/
theorem frame_kernel2 : Cert.quiescent_Kernel2 := fun m ρ _ => Cert.Kernel2.Gen.frame m ρ

/-- So does the idealized one. -/
theorem frame_ideal2 : Cert.quiescent_Kernel2Ideal := fun m ρ _ => Cert.Kernel2Ideal.Gen.frame m ρ

/-- So does its reference. -/
theorem frame_reference2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run m ρ)

/-- The idealized projection kernel's results are the reference's, whatever the arguments. -/
theorem value2 : Cert.algebraic_Kernel2Ideal_Reference2Ideal := by
  intro m ρ m' ρ' _ hargs
  refine ⟨fun c => Cert.Kernel2Ideal.Conv.inM m c, fun c => Cert.Kernel2Ideal.Conv.gateM m c, ?_, ?_⟩
  · exact (θ_run Cert.Kernel2Ideal.defs _ _).mono (fun r h c => ⟨(h.1 c).1, (h.1 c).2, (h.2 c).2.2⟩)
      (θ_run_and (Cert.Kernel2Ideal.Conv.run_value m ρ) (Cert.Kernel2Ideal.Value.run_blocks m ρ))
  · refine (θ_run Cert.Reference2Ideal.defs _ _).mono (fun r h c => ⟨(h c).1.trans ?_, (h c).2.1.trans ?_, (h c).2.2⟩)
      (Cert.Reference2Ideal.Conv.run_stages m' ρ')
    · obtain ⟨e0, e1, e2⟩ := hargs c
      rw [e0, e1, e2]
      exact funext fun i => Cert.Conv.in_eq _ _ _ i
    · obtain ⟨e0, e1, e2⟩ := hargs c
      rw [e0, e1, e2]
      exact funext fun i => Cert.Conv.gate_eq _ _ _ i

/-- The kernel after the attention returns with all counters at zero and its arguments unchanged. -/
theorem frame_kernel3 : Cert.quiescent_Kernel3 := fun m ρ _ => Cert.Kernel3.Gen.frame m ρ

/-- So does the idealized one. -/
theorem frame_ideal3 : Cert.quiescent_Kernel3Ideal := fun m ρ _ => Cert.Kernel3Ideal.Gen.frame m ρ

/-- So does its reference. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- The result of the idealized kernel after the attention is the reference's, whatever the arguments. -/
theorem value3 : Cert.algebraic_Kernel3Ideal_Reference3Ideal := by
  intro m ρ m' ρ' _ hargs
  refine ⟨fun c => Cert.Kernel3Ideal.Out.outM m c, ?_, ?_⟩
  · exact (θ_run Cert.Kernel3Ideal.defs _ _).mono (fun r h c => ⟨(h c).1.trans (Cert.Kernel3Ideal.Out.out_final m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run m' ρ')
    obtain ⟨e0, e1, e2⟩ := hargs c
    rw [e0, e1, e2]
    exact funext fun i => Cert.Reference3Ideal.Out.refV_eq _ _ _ i

/-- The attention's input projection as lowered leaves its arguments and every counter as it found them. -/
theorem frame_kernel4 : Cert.quiescent_Kernel4 := fun m ρ _ => Cert.Kernel4.Gen.frame m ρ (Cert.Kernel4.In.ok m)

/-- So does the idealized one. -/
theorem frame_ideal4 : Cert.quiescent_Kernel4Ideal := fun m ρ _ => Cert.Kernel4Ideal.Gen.frame m ρ (Cert.Kernel4Ideal.In.ok m)

/-- So does its reference. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- The idealized input projection's result is the reference's, whatever the arguments. -/
theorem value4 : Cert.algebraic_Kernel4Ideal_Reference4Ideal := by
  intro m ρ m' ρ' _ hargs
  refine ⟨fun c => Cert.Kernel4Ideal.In.outM m c, ?_, ?_⟩
  · exact (θ_run Cert.Kernel4Ideal.defs _ _).mono (fun r h c => ⟨h.1 c, h.2 c⟩)
      (θ_run_and (Cert.Kernel4Ideal.In.run_value m (Cert.Kernel4Ideal.In.ok m) ρ)
        (Cert.Kernel4Ideal.Gen.unchanged m ρ (Cert.Kernel4Ideal.In.ok m)))
  · refine (θ_run Cert.Reference4Ideal.defs _ _).mono (fun r h c => ⟨(h c).1.trans ?_, (h c).2⟩)
      (Cert.Reference4Ideal.In.run_stages m' ρ')
    obtain ⟨e0, e1, e2⟩ := hargs c
    rw [e0, e1, e2]
    exact funext fun i => Cert.In.result_eq _ _ _ i

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  frame_kernel, frame_ideal, frame_ideal_finite, frame_reference, frame_reference_finite, frame_kernel2, frame_ideal2,
  frame_reference2, frame_kernel3, frame_ideal3, frame_reference3, frame_kernel4, frame_ideal4, frame_reference4,
  named, value, trivial, value2, trivial, value3, trivial, value4⟩

end Cert.Proof

end
